-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S1 : Shape := ⟨1, ![1]⟩
abbrev S32 : Shape := ⟨1, ![32]⟩
abbrev S4096x4096 : Shape := ⟨2, ![4096, 4096]⟩
abbrev S16x2 : Shape := ⟨2, ![16, 2]⟩
abbrev S_ : Shape := ⟨0, ![]⟩
abbrev S1x1 : Shape := ⟨2, ![1, 1]⟩
abbrev S64x4096 : Shape := ⟨2, ![64, 4096]⟩
abbrev S128x64 : Shape := ⟨2, ![128, 64]⟩

abbrev nBuf : Space → Nat
  | .hbm => 7
  | .vmem => 5
  | .smem => 4
  | _ => 0

abbrev bufTy : (tb : Table) → Fin (tcTables nBuf tb) → BufTy
  | .hbm, ⟨0, _⟩ => ⟨S128x4096, .fp8e4m3⟩
  | .hbm, ⟨1, _⟩ => ⟨S4096x64, .fp8e4m3⟩
  | .hbm, ⟨2, _⟩ => ⟨S1, .f32⟩
  | .hbm, ⟨3, _⟩ => ⟨S1, .f32⟩
  | .hbm, ⟨4, _⟩ => ⟨S32, .i32⟩
  | .hbm, ⟨5, _⟩ => ⟨S32, .i32⟩
  | .hbm, ⟨6, _⟩ => ⟨S4096x64, .f32⟩
  | .local _ .vmem, ⟨0, _⟩ => ⟨S128x4096, .fp8e4m3⟩
  | .local _ .vmem, ⟨1, _⟩ => ⟨S4096x64, .fp8e4m3⟩
  | .local _ .vmem, ⟨2, _⟩ => ⟨S4096x64, .f32⟩
  | .local _ .vmem, ⟨3, _⟩ => ⟨S4096x4096, .fp8e4m3⟩
  | .local _ .vmem, ⟨4, _⟩ => ⟨S4096x64, .fp8e4m3⟩
  | .local _ .smem, ⟨0, _⟩ => ⟨S1, .f32⟩
  | .local _ .smem, ⟨1, _⟩ => ⟨S1, .f32⟩
  | .local _ .smem, ⟨2, _⟩ => ⟨S32, .i32⟩
  | .local _ .smem, ⟨3, _⟩ => ⟨S32, .i32⟩
  | _, _ => ⟨S128x4096, .fp8e4m3⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg6_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c32_i32_1 : BitVec 32 := 32#32
  let v6 : BitVec 32 := Scalar.remsi v5 c32_i32_1
  let v7 : Index := Scalar.indexCast v6
  ![v7.toNat]

def k0_off3 (v4 : BitVec 32) : Fin 1 → Nat :=
  let c1_i32_2 : BitVec 32 := 1#32
  let v9 : BitVec 32 := Scalar.subi v4 c1_i32_2
  let c32_i32_3 : BitVec 32 := 32#32
  let v10 : BitVec 32 := Scalar.addi v9 c32_i32_3
  let c32_i32_4 : BitVec 32 := 32#32
  let v11 : BitVec 32 := Scalar.remsi v10 c32_i32_4
  let v12 : Index := Scalar.indexCast v11
  ![v12.toNat]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v16 : BitVec 32 := Scalar.muli v2 c128_i32
  let v17 : Index := Scalar.indexCast v16
  let c0_6 : Index := 0#32
  ![v17.toNat, 0]
def k0_dev1 (v13 : BitVec 32) : Nat :=
  let c0_i32 : BitVec 32 := 0#32
  let c1_i32_12 : BitVec 32 := 1#32
  let v27 : BitVec 32 := Scalar.muli v13 c1_i32_12
  let v28 : BitVec 32 := Scalar.addi c0_i32 v27
  v28.toNat

def k0_dev2 (v8 : BitVec 32) : Nat :=
  let c0_i32_15 : BitVec 32 := 0#32
  let c1_i32_14 : BitVec 32 := 1#32
  let v29 : BitVec 32 := Scalar.muli v8 c1_i32_14
  let v30 : BitVec 32 := Scalar.addi c0_i32_15 v29
  v30.toNat

def k0_off5 (d0 : Dev nD) (c0_i32_19 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_18 : BitVec 32 := 128#32
  let v34 : BitVec 32 := Scalar.muli v2 c128_i32_18
  let v35 : BitVec 32 := Scalar.addi v34 c0_i32_19
  let c0_i32_26 : BitVec 32 := 0#32
  ![v35.toNat, 0]
def k0_dev3 (v8 : BitVec 32) : Nat :=
  let c0_i32_25 : BitVec 32 := 0#32
  let c1_i32_24 : BitVec 32 := 1#32
  let v36 : BitVec 32 := Scalar.muli v8 c1_i32_24
  let v37 : BitVec 32 := Scalar.addi c0_i32_25 v36
  v37.toNat
def k0_dev4 (v13 : BitVec 32) : Nat :=
  let c0_i32_35 : BitVec 32 := 0#32
  let c1_i32_34 : BitVec 32 := 1#32
  let v46 : BitVec 32 := Scalar.muli v13 c1_i32_34
  let v47 : BitVec 32 := Scalar.addi c0_i32_35 v46
  v47.toNat
def k0_dev5 (v8 : BitVec 32) : Nat :=
  let c0_i32_44 : BitVec 32 := 0#32
  let c1_i32_43 : BitVec 32 := 1#32
  let v56 : BitVec 32 := Scalar.muli v8 c1_i32_43
  let v57 : BitVec 32 := Scalar.addi c0_i32_44 v56
  v57.toNat
def k0_dev6 (v13 : BitVec 32) : Nat :=
  let c0_i32_54 : BitVec 32 := 0#32
  let c1_i32_53 : BitVec 32 := 1#32
  let v66 : BitVec 32 := Scalar.muli v13 c1_i32_53
  let v67 : BitVec 32 := Scalar.addi c0_i32_54 v66
  v67.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_57 : BitVec 32 := 128#32
  let v74 : BitVec 32 := Scalar.muli v2 c128_i32_57
  let v75 : Index := Scalar.indexCast v74
  let c0_58 : Index := 0#32
  ![v75.toNat, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_64 : BitVec 32 := 128#32
  let v89 : BitVec 32 := Scalar.muli v2 c128_i32_64
  let v90 : Index := Scalar.indexCast v89
  let c0_65 : Index := 0#32
  ![v90.toNat, 0]
def k0_off8 (v4 : BitVec 32) : Fin 1 → Nat :=
  let c1_i32_66 : BitVec 32 := 1#32
  let v92 : BitVec 32 := Scalar.subi v4 c1_i32_66
  let c0_i32_67 : BitVec 32 := 0#32
  let v93 : BitVec 32 := Scalar.subi v92 c0_i32_67
  let c64_i32_68 : BitVec 32 := 64#32
  let v94 : BitVec 32 := Scalar.addi v93 c64_i32_68
  let c32_i32_69 : BitVec 32 := 32#32
  let v95 : BitVec 32 := Scalar.remsi v94 c32_i32_69
  let v96 : Index := Scalar.indexCast v95
  ![v96.toNat]
def k0_off9 (v97 : BitVec 32) (c0_i32_71 : BitVec 32) : Fin 2 → Nat :=
  let c128_i32_70 : BitVec 32 := 128#32
  let v98 : BitVec 32 := Scalar.muli v97 c128_i32_70
  let v99 : BitVec 32 := Scalar.addi v98 c0_i32_71
  let c0_i32_77 : BitVec 32 := 0#32
  ![v99.toNat, 0]

def k0_dev7 (v8 : BitVec 32) : Nat :=
  let c0_i32_86 : BitVec 32 := 0#32
  let c1_i32_85 : BitVec 32 := 1#32
  let v108 : BitVec 32 := Scalar.muli v8 c1_i32_85
  let v109 : BitVec 32 := Scalar.addi c0_i32_86 v108
  v109.toNat
def k0_off10 (d0 : Dev nD) (c0_i32_19 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_18 : BitVec 32 := 128#32
  let v34 : BitVec 32 := Scalar.muli v2 c128_i32_18
  let v35 : BitVec 32 := Scalar.addi v34 c0_i32_19
  let c0_i32_94 : BitVec 32 := 0#32
  ![v35.toNat, 0]
def k0_dev8 (v8 : BitVec 32) : Nat :=
  let c0_i32_112 : BitVec 32 := 0#32
  let c1_i32_111 : BitVec 32 := 1#32
  let v130 : BitVec 32 := Scalar.muli v8 c1_i32_111
  let v131 : BitVec 32 := Scalar.addi c0_i32_112 v130
  v131.toNat
def k0_off11 (v4 : BitVec 32) : Fin 1 → Nat :=
  let c1_i32_122 : BitVec 32 := 1#32
  let v142 : BitVec 32 := Scalar.addi v4 c1_i32_122
  let c0_i32_123 : BitVec 32 := 0#32
  let v143 : BitVec 32 := Scalar.addi v142 c0_i32_123
  let c32_i32_124 : BitVec 32 := 32#32
  let v144 : BitVec 32 := Scalar.remsi v143 c32_i32_124
  let v145 : Index := Scalar.indexCast v144
  ![v145.toNat]
def k0_off12 (v146 : BitVec 32) (c0_i32_126 : BitVec 32) : Fin 2 → Nat :=
  let c128_i32_125 : BitVec 32 := 128#32
  let v147 : BitVec 32 := Scalar.muli v146 c128_i32_125
  let v148 : BitVec 32 := Scalar.addi v147 c0_i32_126
  let c0_i32_132 : BitVec 32 := 0#32
  ![v148.toNat, 0]

def k0_dev9 (v13 : BitVec 32) : Nat :=
  let c0_i32_141 : BitVec 32 := 0#32
  let c1_i32_140 : BitVec 32 := 1#32
  let v157 : BitVec 32 := Scalar.muli v13 c1_i32_140
  let v158 : BitVec 32 := Scalar.addi c0_i32_141 v157
  v158.toNat
def k0_off13 (d0 : Dev nD) (c0_i32_29 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_28 : BitVec 32 := 128#32
  let v44 : BitVec 32 := Scalar.muli v2 c128_i32_28
  let v45 : BitVec 32 := Scalar.addi v44 c0_i32_29
  let c0_i32_149 : BitVec 32 := 0#32
  ![v45.toNat, 0]
def k0_dev10 (v13 : BitVec 32) : Nat :=
  let c0_i32_167 : BitVec 32 := 0#32
  let c1_i32_166 : BitVec 32 := 1#32
  let v179 : BitVec 32 := Scalar.muli v13 c1_i32_166
  let v180 : BitVec 32 := Scalar.addi c0_i32_167 v179
  v180.toNat
def k0_off14 (v97 : BitVec 32) : Fin 2 → Nat :=
  let c128_i32_177 : BitVec 32 := 128#32
  let v191 : BitVec 32 := Scalar.muli v97 c128_i32_177
  let v192 : Index := Scalar.indexCast v191
  let c0_178 : Index := 0#32
  ![v192.toNat, 0]
def k0_off15 (v97 : BitVec 32) : Fin 2 → Nat :=
  let c128_i32_185 : BitVec 32 := 128#32
  let v206 : BitVec 32 := Scalar.muli v97 c128_i32_185
  let v207 : Index := Scalar.indexCast v206
  let c0_186 : Index := 0#32
  ![v207.toNat, 0]
def k0_off16 (v146 : BitVec 32) : Fin 2 → Nat :=
  let c128_i32_187 : BitVec 32 := 128#32
  let v209 : BitVec 32 := Scalar.muli v146 c128_i32_187
  let v210 : Index := Scalar.indexCast v209
  let c0_188 : Index := 0#32
  ![v210.toNat, 0]
def k0_off17 (v146 : BitVec 32) : Fin 2 → Nat :=
  let c128_i32_195 : BitVec 32 := 128#32
  let v224 : BitVec 32 := Scalar.muli v146 c128_i32_195
  let v225 : Index := Scalar.indexCast v224
  let c0_196 : Index := 0#32
  ![v225.toNat, 0]
def k0_off18 (v4 : BitVec 32) : Fin 1 → Nat :=
  let c1_i32_197 : BitVec 32 := 1#32
  let v227 : BitVec 32 := Scalar.subi v4 c1_i32_197
  let c1_i32_198 : BitVec 32 := 1#32
  let v228 : BitVec 32 := Scalar.subi v227 c1_i32_198
  let c64_i32_199 : BitVec 32 := 64#32
  let v229 : BitVec 32 := Scalar.addi v228 c64_i32_199
  let c32_i32_200 : BitVec 32 := 32#32
  let v230 : BitVec 32 := Scalar.remsi v229 c32_i32_200
  let v231 : Index := Scalar.indexCast v230
  ![v231.toNat]
def k0_off19 (v232 : BitVec 32) (c0_i32_202 : BitVec 32) : Fin 2 → Nat :=
  let c128_i32_201 : BitVec 32 := 128#32
  let v233 : BitVec 32 := Scalar.muli v232 c128_i32_201
  let v234 : BitVec 32 := Scalar.addi v233 c0_i32_202
  let c0_i32_208 : BitVec 32 := 0#32
  ![v234.toNat, 0]

def k0_dev11 (v8 : BitVec 32) : Nat :=
  let c0_i32_217 : BitVec 32 := 0#32
  let c1_i32_216 : BitVec 32 := 1#32
  let v243 : BitVec 32 := Scalar.muli v8 c1_i32_216
  let v244 : BitVec 32 := Scalar.addi c0_i32_217 v243
  v244.toNat
def k0_off20 (v97 : BitVec 32) (c0_i32_80 : BitVec 32) : Fin 2 → Nat :=
  let c128_i32_79 : BitVec 32 := 128#32
  let v106 : BitVec 32 := Scalar.muli v97 c128_i32_79
  let v107 : BitVec 32 := Scalar.addi v106 c0_i32_80
  let c0_i32_225 : BitVec 32 := 0#32
  ![v107.toNat, 0]

def k0_chk4 (v97 : BitVec 32) : Prop :=
  (∀ (r : Fin 2), ∀ a, (k0_off9 v97 (BitVec.ofNat 32 (64 * r.val))) a + S64x4096.size a ≤ S4096x4096.size a) ∧
  (∀ (r : Fin 2), ∀ (hinb : ∀ a, (k0_off9 v97 (BitVec.ofNat 32 (64 * r.val))) a + S64x4096.size a ≤ S4096x4096.size a), (Rect.unit (s := S4096x4096) (k0_off9 v97 (BitVec.ofNat 32 (64 * r.val))) S64x4096.size hinb).WholeWords (EltTy.packing .fp8e4m3)) ∧
  (∀ a, (k0_off14 v97) a + S128x4096.size a ≤ S4096x4096.size a) ∧
  (∀ a, (k0_off15 v97) a + S128x64.size a ≤ S4096x64.size a) ∧
  (∀ (r : Fin 2), ∀ a, (k0_off20 v97 (BitVec.ofNat 32 (64 * r.val))) a + S64x4096.size a ≤ S4096x4096.size a) ∧
  (∀ (r : Fin 2), ∀ (hinb : ∀ a, (k0_off20 v97 (BitVec.ofNat 32 (64 * r.val))) a + S64x4096.size a ≤ S4096x4096.size a), (Rect.unit (s := S4096x4096) (k0_off20 v97 (BitVec.ofNat 32 (64 * r.val))) S64x4096.size hinb).WholeWords (EltTy.packing .fp8e4m3))
theorem k0_off9_inb : ∀ (v97 : BitVec 32) (k0_hw4 : k0_chk4 v97), ∀ (r : Fin 2), ∀ a, (k0_off9 v97 (BitVec.ofNat 32 (64 * r.val))) a + S64x4096.size a ≤ S4096x4096.size a := fun v97 k0_hw4 r => k0_hw4.1 r
theorem k0_off9_wordsfp8e4m3 : ∀ (v97 : BitVec 32) (k0_hw4 : k0_chk4 v97), ∀ (r : Fin 2), (Rect.unit (s := S4096x4096) (k0_off9 v97 (BitVec.ofNat 32 (64 * r.val))) S64x4096.size (k0_off9_inb v97 k0_hw4 r)).WholeWords (EltTy.packing .fp8e4m3) := fun v97 k0_hw4 r => k0_hw4.2.1 r (k0_off9_inb v97 k0_hw4 r)
theorem k0_off14_inb : ∀ (v97 : BitVec 32) (k0_hw4 : k0_chk4 v97), ∀ a, (k0_off14 v97) a + S128x4096.size a ≤ S4096x4096.size a := fun v97 k0_hw4 => k0_hw4.2.2.1
theorem k0_off15_inb : ∀ (v97 : BitVec 32) (k0_hw4 : k0_chk4 v97), ∀ a, (k0_off15 v97) a + S128x64.size a ≤ S4096x64.size a := fun v97 k0_hw4 => k0_hw4.2.2.2.1
theorem k0_off20_inb : ∀ (v97 : BitVec 32) (k0_hw4 : k0_chk4 v97), ∀ (r : Fin 2), ∀ a, (k0_off20 v97 (BitVec.ofNat 32 (64 * r.val))) a + S64x4096.size a ≤ S4096x4096.size a := fun v97 k0_hw4 r => k0_hw4.2.2.2.2.1 r
theorem k0_off20_wordsfp8e4m3 : ∀ (v97 : BitVec 32) (k0_hw4 : k0_chk4 v97), ∀ (r : Fin 2), (Rect.unit (s := S4096x4096) (k0_off20 v97 (BitVec.ofNat 32 (64 * r.val))) S64x4096.size (k0_off20_inb v97 k0_hw4 r)).WholeWords (EltTy.packing .fp8e4m3) := fun v97 k0_hw4 r => k0_hw4.2.2.2.2.2 r (k0_off20_inb v97 k0_hw4 r)

def k0_dev12 (v8 : BitVec 32) : Nat :=
  let c0_i32_243 : BitVec 32 := 0#32
  let c1_i32_242 : BitVec 32 := 1#32
  let v265 : BitVec 32 := Scalar.muli v8 c1_i32_242
  let v266 : BitVec 32 := Scalar.addi c0_i32_243 v265
  v266.toNat
def k0_off21 (v4 : BitVec 32) : Fin 1 → Nat :=
  let c1_i32_253 : BitVec 32 := 1#32
  let v277 : BitVec 32 := Scalar.addi v4 c1_i32_253
  let c1_i32_254 : BitVec 32 := 1#32
  let v278 : BitVec 32 := Scalar.addi v277 c1_i32_254
  let c32_i32_255 : BitVec 32 := 32#32
  let v279 : BitVec 32 := Scalar.remsi v278 c32_i32_255
  let v280 : Index := Scalar.indexCast v279
  ![v280.toNat]
def k0_off22 (v281 : BitVec 32) (c0_i32_257 : BitVec 32) : Fin 2 → Nat :=
  let c128_i32_256 : BitVec 32 := 128#32
  let v282 : BitVec 32 := Scalar.muli v281 c128_i32_256
  let v283 : BitVec 32 := Scalar.addi v282 c0_i32_257
  let c0_i32_263 : BitVec 32 := 0#32
  ![v283.toNat, 0]

def k0_dev13 (v13 : BitVec 32) : Nat :=
  let c0_i32_272 : BitVec 32 := 0#32
  let c1_i32_271 : BitVec 32 := 1#32
  let v292 : BitVec 32 := Scalar.muli v13 c1_i32_271
  let v293 : BitVec 32 := Scalar.addi c0_i32_272 v292
  v293.toNat
def k0_off23 (v146 : BitVec 32) (c0_i32_135 : BitVec 32) : Fin 2 → Nat :=
  let c128_i32_134 : BitVec 32 := 128#32
  let v155 : BitVec 32 := Scalar.muli v146 c128_i32_134
  let v156 : BitVec 32 := Scalar.addi v155 c0_i32_135
  let c0_i32_280 : BitVec 32 := 0#32
  ![v156.toNat, 0]

def k0_chk5 (v146 : BitVec 32) : Prop :=
  (∀ (r : Fin 2), ∀ a, (k0_off12 v146 (BitVec.ofNat 32 (64 * r.val))) a + S64x4096.size a ≤ S4096x4096.size a) ∧
  (∀ (r : Fin 2), ∀ (hinb : ∀ a, (k0_off12 v146 (BitVec.ofNat 32 (64 * r.val))) a + S64x4096.size a ≤ S4096x4096.size a), (Rect.unit (s := S4096x4096) (k0_off12 v146 (BitVec.ofNat 32 (64 * r.val))) S64x4096.size hinb).WholeWords (EltTy.packing .fp8e4m3)) ∧
  (∀ a, (k0_off16 v146) a + S128x4096.size a ≤ S4096x4096.size a) ∧
  (∀ a, (k0_off17 v146) a + S128x64.size a ≤ S4096x64.size a) ∧
  (∀ (r : Fin 2), ∀ a, (k0_off23 v146 (BitVec.ofNat 32 (64 * r.val))) a + S64x4096.size a ≤ S4096x4096.size a) ∧
  (∀ (r : Fin 2), ∀ (hinb : ∀ a, (k0_off23 v146 (BitVec.ofNat 32 (64 * r.val))) a + S64x4096.size a ≤ S4096x4096.size a), (Rect.unit (s := S4096x4096) (k0_off23 v146 (BitVec.ofNat 32 (64 * r.val))) S64x4096.size hinb).WholeWords (EltTy.packing .fp8e4m3))
theorem k0_off12_inb : ∀ (v146 : BitVec 32) (k0_hw5 : k0_chk5 v146), ∀ (r : Fin 2), ∀ a, (k0_off12 v146 (BitVec.ofNat 32 (64 * r.val))) a + S64x4096.size a ≤ S4096x4096.size a := fun v146 k0_hw5 r => k0_hw5.1 r
theorem k0_off12_wordsfp8e4m3 : ∀ (v146 : BitVec 32) (k0_hw5 : k0_chk5 v146), ∀ (r : Fin 2), (Rect.unit (s := S4096x4096) (k0_off12 v146 (BitVec.ofNat 32 (64 * r.val))) S64x4096.size (k0_off12_inb v146 k0_hw5 r)).WholeWords (EltTy.packing .fp8e4m3) := fun v146 k0_hw5 r => k0_hw5.2.1 r (k0_off12_inb v146 k0_hw5 r)
theorem k0_off16_inb : ∀ (v146 : BitVec 32) (k0_hw5 : k0_chk5 v146), ∀ a, (k0_off16 v146) a + S128x4096.size a ≤ S4096x4096.size a := fun v146 k0_hw5 => k0_hw5.2.2.1
theorem k0_off17_inb : ∀ (v146 : BitVec 32) (k0_hw5 : k0_chk5 v146), ∀ a, (k0_off17 v146) a + S128x64.size a ≤ S4096x64.size a := fun v146 k0_hw5 => k0_hw5.2.2.2.1
theorem k0_off23_inb : ∀ (v146 : BitVec 32) (k0_hw5 : k0_chk5 v146), ∀ (r : Fin 2), ∀ a, (k0_off23 v146 (BitVec.ofNat 32 (64 * r.val))) a + S64x4096.size a ≤ S4096x4096.size a := fun v146 k0_hw5 r => k0_hw5.2.2.2.2.1 r
theorem k0_off23_wordsfp8e4m3 : ∀ (v146 : BitVec 32) (k0_hw5 : k0_chk5 v146), ∀ (r : Fin 2), (Rect.unit (s := S4096x4096) (k0_off23 v146 (BitVec.ofNat 32 (64 * r.val))) S64x4096.size (k0_off23_inb v146 k0_hw5 r)).WholeWords (EltTy.packing .fp8e4m3) := fun v146 k0_hw5 r => k0_hw5.2.2.2.2.2 r (k0_off23_inb v146 k0_hw5 r)

def k0_dev14 (v13 : BitVec 32) : Nat :=
  let c0_i32_298 : BitVec 32 := 0#32
  let c1_i32_297 : BitVec 32 := 1#32
  let v314 : BitVec 32 := Scalar.muli v13 c1_i32_297
  let v315 : BitVec 32 := Scalar.addi c0_i32_298 v314
  v315.toNat
def k0_off24 (v232 : BitVec 32) : Fin 2 → Nat :=
  let c128_i32_308 : BitVec 32 := 128#32
  let v326 : BitVec 32 := Scalar.muli v232 c128_i32_308
  let v327 : Index := Scalar.indexCast v326
  let c0_309 : Index := 0#32
  ![v327.toNat, 0]
def k0_off25 (v232 : BitVec 32) : Fin 2 → Nat :=
  let c128_i32_316 : BitVec 32 := 128#32
  let v341 : BitVec 32 := Scalar.muli v232 c128_i32_316
  let v342 : Index := Scalar.indexCast v341
  let c0_317 : Index := 0#32
  ![v342.toNat, 0]
def k0_off26 (v281 : BitVec 32) : Fin 2 → Nat :=
  let c128_i32_318 : BitVec 32 := 128#32
  let v344 : BitVec 32 := Scalar.muli v281 c128_i32_318
  let v345 : Index := Scalar.indexCast v344
  let c0_319 : Index := 0#32
  ![v345.toNat, 0]
def k0_off27 (v281 : BitVec 32) : Fin 2 → Nat :=
  let c128_i32_326 : BitVec 32 := 128#32
  let v359 : BitVec 32 := Scalar.muli v281 c128_i32_326
  let v360 : Index := Scalar.indexCast v359
  let c0_327 : Index := 0#32
  ![v360.toNat, 0]
def k0_off28 (v4 : BitVec 32) : Fin 1 → Nat :=
  let c1_i32_328 : BitVec 32 := 1#32
  let v362 : BitVec 32 := Scalar.subi v4 c1_i32_328
  let c2_i32_329 : BitVec 32 := 2#32
  let v363 : BitVec 32 := Scalar.subi v362 c2_i32_329
  let c64_i32_330 : BitVec 32 := 64#32
  let v364 : BitVec 32 := Scalar.addi v363 c64_i32_330
  let c32_i32_331 : BitVec 32 := 32#32
  let v365 : BitVec 32 := Scalar.remsi v364 c32_i32_331
  let v366 : Index := Scalar.indexCast v365
  ![v366.toNat]
def k0_off29 (v367 : BitVec 32) (c0_i32_333 : BitVec 32) : Fin 2 → Nat :=
  let c128_i32_332 : BitVec 32 := 128#32
  let v368 : BitVec 32 := Scalar.muli v367 c128_i32_332
  let v369 : BitVec 32 := Scalar.addi v368 c0_i32_333
  let c0_i32_339 : BitVec 32 := 0#32
  ![v369.toNat, 0]

def k0_dev15 (v8 : BitVec 32) : Nat :=
  let c0_i32_347 : BitVec 32 := 0#32
  let c1_i32_346 : BitVec 32 := 1#32
  let v378 : BitVec 32 := Scalar.muli v8 c1_i32_346
  let v379 : BitVec 32 := Scalar.addi c0_i32_347 v378
  v379.toNat
def k0_off30 (v232 : BitVec 32) (c0_i32_211 : BitVec 32) : Fin 2 → Nat :=
  let c128_i32_210 : BitVec 32 := 128#32
  let v241 : BitVec 32 := Scalar.muli v232 c128_i32_210
  let v242 : BitVec 32 := Scalar.addi v241 c0_i32_211
  let c0_i32_355 : BitVec 32 := 0#32
  ![v242.toNat, 0]

def k0_chk6 (v232 : BitVec 32) : Prop :=
  (∀ (r : Fin 2), ∀ a, (k0_off19 v232 (BitVec.ofNat 32 (64 * r.val))) a + S64x4096.size a ≤ S4096x4096.size a) ∧
  (∀ (r : Fin 2), ∀ (hinb : ∀ a, (k0_off19 v232 (BitVec.ofNat 32 (64 * r.val))) a + S64x4096.size a ≤ S4096x4096.size a), (Rect.unit (s := S4096x4096) (k0_off19 v232 (BitVec.ofNat 32 (64 * r.val))) S64x4096.size hinb).WholeWords (EltTy.packing .fp8e4m3)) ∧
  (∀ a, (k0_off24 v232) a + S128x4096.size a ≤ S4096x4096.size a) ∧
  (∀ a, (k0_off25 v232) a + S128x64.size a ≤ S4096x64.size a) ∧
  (∀ (r : Fin 2), ∀ a, (k0_off30 v232 (BitVec.ofNat 32 (64 * r.val))) a + S64x4096.size a ≤ S4096x4096.size a) ∧
  (∀ (r : Fin 2), ∀ (hinb : ∀ a, (k0_off30 v232 (BitVec.ofNat 32 (64 * r.val))) a + S64x4096.size a ≤ S4096x4096.size a), (Rect.unit (s := S4096x4096) (k0_off30 v232 (BitVec.ofNat 32 (64 * r.val))) S64x4096.size hinb).WholeWords (EltTy.packing .fp8e4m3))
theorem k0_off19_inb : ∀ (v232 : BitVec 32) (k0_hw6 : k0_chk6 v232), ∀ (r : Fin 2), ∀ a, (k0_off19 v232 (BitVec.ofNat 32 (64 * r.val))) a + S64x4096.size a ≤ S4096x4096.size a := fun v232 k0_hw6 r => k0_hw6.1 r
theorem k0_off19_wordsfp8e4m3 : ∀ (v232 : BitVec 32) (k0_hw6 : k0_chk6 v232), ∀ (r : Fin 2), (Rect.unit (s := S4096x4096) (k0_off19 v232 (BitVec.ofNat 32 (64 * r.val))) S64x4096.size (k0_off19_inb v232 k0_hw6 r)).WholeWords (EltTy.packing .fp8e4m3) := fun v232 k0_hw6 r => k0_hw6.2.1 r (k0_off19_inb v232 k0_hw6 r)
theorem k0_off24_inb : ∀ (v232 : BitVec 32) (k0_hw6 : k0_chk6 v232), ∀ a, (k0_off24 v232) a + S128x4096.size a ≤ S4096x4096.size a := fun v232 k0_hw6 => k0_hw6.2.2.1
theorem k0_off25_inb : ∀ (v232 : BitVec 32) (k0_hw6 : k0_chk6 v232), ∀ a, (k0_off25 v232) a + S128x64.size a ≤ S4096x64.size a := fun v232 k0_hw6 => k0_hw6.2.2.2.1
theorem k0_off30_inb : ∀ (v232 : BitVec 32) (k0_hw6 : k0_chk6 v232), ∀ (r : Fin 2), ∀ a, (k0_off30 v232 (BitVec.ofNat 32 (64 * r.val))) a + S64x4096.size a ≤ S4096x4096.size a := fun v232 k0_hw6 r => k0_hw6.2.2.2.2.1 r
theorem k0_off30_wordsfp8e4m3 : ∀ (v232 : BitVec 32) (k0_hw6 : k0_chk6 v232), ∀ (r : Fin 2), (Rect.unit (s := S4096x4096) (k0_off30 v232 (BitVec.ofNat 32 (64 * r.val))) S64x4096.size (k0_off30_inb v232 k0_hw6 r)).WholeWords (EltTy.packing .fp8e4m3) := fun v232 k0_hw6 r => k0_hw6.2.2.2.2.2 r (k0_off30_inb v232 k0_hw6 r)

def k0_dev16 (v8 : BitVec 32) : Nat :=
  let c0_i32_373 : BitVec 32 := 0#32
  let c1_i32_372 : BitVec 32 := 1#32
  let v400 : BitVec 32 := Scalar.muli v8 c1_i32_372
  let v401 : BitVec 32 := Scalar.addi c0_i32_373 v400
  v401.toNat
def k0_off31 (v4 : BitVec 32) : Fin 1 → Nat :=
  let c1_i32_383 : BitVec 32 := 1#32
  let v412 : BitVec 32 := Scalar.addi v4 c1_i32_383
  let c2_i32_384 : BitVec 32 := 2#32
  let v413 : BitVec 32 := Scalar.addi v412 c2_i32_384
  let c32_i32_385 : BitVec 32 := 32#32
  let v414 : BitVec 32 := Scalar.remsi v413 c32_i32_385
  let v415 : Index := Scalar.indexCast v414
  ![v415.toNat]
def k0_off32 (v416 : BitVec 32) (c0_i32_387 : BitVec 32) : Fin 2 → Nat :=
  let c128_i32_386 : BitVec 32 := 128#32
  let v417 : BitVec 32 := Scalar.muli v416 c128_i32_386
  let v418 : BitVec 32 := Scalar.addi v417 c0_i32_387
  let c0_i32_393 : BitVec 32 := 0#32
  ![v418.toNat, 0]

def k0_dev17 (v13 : BitVec 32) : Nat :=
  let c0_i32_402 : BitVec 32 := 0#32
  let c1_i32_401 : BitVec 32 := 1#32
  let v427 : BitVec 32 := Scalar.muli v13 c1_i32_401
  let v428 : BitVec 32 := Scalar.addi c0_i32_402 v427
  v428.toNat
def k0_off33 (v281 : BitVec 32) (c0_i32_266 : BitVec 32) : Fin 2 → Nat :=
  let c128_i32_265 : BitVec 32 := 128#32
  let v290 : BitVec 32 := Scalar.muli v281 c128_i32_265
  let v291 : BitVec 32 := Scalar.addi v290 c0_i32_266
  let c0_i32_410 : BitVec 32 := 0#32
  ![v291.toNat, 0]

def k0_chk7 (v281 : BitVec 32) : Prop :=
  (∀ (r : Fin 2), ∀ a, (k0_off22 v281 (BitVec.ofNat 32 (64 * r.val))) a + S64x4096.size a ≤ S4096x4096.size a) ∧
  (∀ (r : Fin 2), ∀ (hinb : ∀ a, (k0_off22 v281 (BitVec.ofNat 32 (64 * r.val))) a + S64x4096.size a ≤ S4096x4096.size a), (Rect.unit (s := S4096x4096) (k0_off22 v281 (BitVec.ofNat 32 (64 * r.val))) S64x4096.size hinb).WholeWords (EltTy.packing .fp8e4m3)) ∧
  (∀ a, (k0_off26 v281) a + S128x4096.size a ≤ S4096x4096.size a) ∧
  (∀ a, (k0_off27 v281) a + S128x64.size a ≤ S4096x64.size a) ∧
  (∀ (r : Fin 2), ∀ a, (k0_off33 v281 (BitVec.ofNat 32 (64 * r.val))) a + S64x4096.size a ≤ S4096x4096.size a) ∧
  (∀ (r : Fin 2), ∀ (hinb : ∀ a, (k0_off33 v281 (BitVec.ofNat 32 (64 * r.val))) a + S64x4096.size a ≤ S4096x4096.size a), (Rect.unit (s := S4096x4096) (k0_off33 v281 (BitVec.ofNat 32 (64 * r.val))) S64x4096.size hinb).WholeWords (EltTy.packing .fp8e4m3))
theorem k0_off22_inb : ∀ (v281 : BitVec 32) (k0_hw7 : k0_chk7 v281), ∀ (r : Fin 2), ∀ a, (k0_off22 v281 (BitVec.ofNat 32 (64 * r.val))) a + S64x4096.size a ≤ S4096x4096.size a := fun v281 k0_hw7 r => k0_hw7.1 r
theorem k0_off22_wordsfp8e4m3 : ∀ (v281 : BitVec 32) (k0_hw7 : k0_chk7 v281), ∀ (r : Fin 2), (Rect.unit (s := S4096x4096) (k0_off22 v281 (BitVec.ofNat 32 (64 * r.val))) S64x4096.size (k0_off22_inb v281 k0_hw7 r)).WholeWords (EltTy.packing .fp8e4m3) := fun v281 k0_hw7 r => k0_hw7.2.1 r (k0_off22_inb v281 k0_hw7 r)
theorem k0_off26_inb : ∀ (v281 : BitVec 32) (k0_hw7 : k0_chk7 v281), ∀ a, (k0_off26 v281) a + S128x4096.size a ≤ S4096x4096.size a := fun v281 k0_hw7 => k0_hw7.2.2.1
theorem k0_off27_inb : ∀ (v281 : BitVec 32) (k0_hw7 : k0_chk7 v281), ∀ a, (k0_off27 v281) a + S128x64.size a ≤ S4096x64.size a := fun v281 k0_hw7 => k0_hw7.2.2.2.1
theorem k0_off33_inb : ∀ (v281 : BitVec 32) (k0_hw7 : k0_chk7 v281), ∀ (r : Fin 2), ∀ a, (k0_off33 v281 (BitVec.ofNat 32 (64 * r.val))) a + S64x4096.size a ≤ S4096x4096.size a := fun v281 k0_hw7 r => k0_hw7.2.2.2.2.1 r
theorem k0_off33_wordsfp8e4m3 : ∀ (v281 : BitVec 32) (k0_hw7 : k0_chk7 v281), ∀ (r : Fin 2), (Rect.unit (s := S4096x4096) (k0_off33 v281 (BitVec.ofNat 32 (64 * r.val))) S64x4096.size (k0_off33_inb v281 k0_hw7 r)).WholeWords (EltTy.packing .fp8e4m3) := fun v281 k0_hw7 r => k0_hw7.2.2.2.2.2 r (k0_off33_inb v281 k0_hw7 r)

def k0_dev18 (v13 : BitVec 32) : Nat :=
  let c0_i32_428 : BitVec 32 := 0#32
  let c1_i32_427 : BitVec 32 := 1#32
  let v449 : BitVec 32 := Scalar.muli v13 c1_i32_427
  let v450 : BitVec 32 := Scalar.addi c0_i32_428 v449
  v450.toNat
def k0_off34 (v367 : BitVec 32) : Fin 2 → Nat :=
  let c128_i32_438 : BitVec 32 := 128#32
  let v461 : BitVec 32 := Scalar.muli v367 c128_i32_438
  let v462 : Index := Scalar.indexCast v461
  let c0_439 : Index := 0#32
  ![v462.toNat, 0]
def k0_off35 (v367 : BitVec 32) : Fin 2 → Nat :=
  let c128_i32_446 : BitVec 32 := 128#32
  let v476 : BitVec 32 := Scalar.muli v367 c128_i32_446
  let v477 : Index := Scalar.indexCast v476
  let c0_447 : Index := 0#32
  ![v477.toNat, 0]
def k0_off36 (v416 : BitVec 32) : Fin 2 → Nat :=
  let c128_i32_448 : BitVec 32 := 128#32
  let v479 : BitVec 32 := Scalar.muli v416 c128_i32_448
  let v480 : Index := Scalar.indexCast v479
  let c0_449 : Index := 0#32
  ![v480.toNat, 0]
def k0_off37 (v416 : BitVec 32) : Fin 2 → Nat :=
  let c128_i32_456 : BitVec 32 := 128#32
  let v494 : BitVec 32 := Scalar.muli v416 c128_i32_456
  let v495 : Index := Scalar.indexCast v494
  let c0_457 : Index := 0#32
  ![v495.toNat, 0]
def k0_off38 (v4 : BitVec 32) : Fin 1 → Nat :=
  let c1_i32_458 : BitVec 32 := 1#32
  let v497 : BitVec 32 := Scalar.subi v4 c1_i32_458
  let c3_i32_459 : BitVec 32 := 3#32
  let v498 : BitVec 32 := Scalar.subi v497 c3_i32_459
  let c64_i32_460 : BitVec 32 := 64#32
  let v499 : BitVec 32 := Scalar.addi v498 c64_i32_460
  let c32_i32_461 : BitVec 32 := 32#32
  let v500 : BitVec 32 := Scalar.remsi v499 c32_i32_461
  let v501 : Index := Scalar.indexCast v500
  ![v501.toNat]
def k0_off39 (v502 : BitVec 32) (c0_i32_463 : BitVec 32) : Fin 2 → Nat :=
  let c128_i32_462 : BitVec 32 := 128#32
  let v503 : BitVec 32 := Scalar.muli v502 c128_i32_462
  let v504 : BitVec 32 := Scalar.addi v503 c0_i32_463
  let c0_i32_469 : BitVec 32 := 0#32
  ![v504.toNat, 0]

def k0_dev19 (v8 : BitVec 32) : Nat :=
  let c0_i32_477 : BitVec 32 := 0#32
  let c1_i32_476 : BitVec 32 := 1#32
  let v513 : BitVec 32 := Scalar.muli v8 c1_i32_476
  let v514 : BitVec 32 := Scalar.addi c0_i32_477 v513
  v514.toNat
def k0_off40 (v367 : BitVec 32) (c0_i32_342 : BitVec 32) : Fin 2 → Nat :=
  let c128_i32_341 : BitVec 32 := 128#32
  let v376 : BitVec 32 := Scalar.muli v367 c128_i32_341
  let v377 : BitVec 32 := Scalar.addi v376 c0_i32_342
  let c0_i32_485 : BitVec 32 := 0#32
  ![v377.toNat, 0]

def k0_chk8 (v367 : BitVec 32) : Prop :=
  (∀ (r : Fin 2), ∀ a, (k0_off29 v367 (BitVec.ofNat 32 (64 * r.val))) a + S64x4096.size a ≤ S4096x4096.size a) ∧
  (∀ (r : Fin 2), ∀ (hinb : ∀ a, (k0_off29 v367 (BitVec.ofNat 32 (64 * r.val))) a + S64x4096.size a ≤ S4096x4096.size a), (Rect.unit (s := S4096x4096) (k0_off29 v367 (BitVec.ofNat 32 (64 * r.val))) S64x4096.size hinb).WholeWords (EltTy.packing .fp8e4m3)) ∧
  (∀ a, (k0_off34 v367) a + S128x4096.size a ≤ S4096x4096.size a) ∧
  (∀ a, (k0_off35 v367) a + S128x64.size a ≤ S4096x64.size a) ∧
  (∀ (r : Fin 2), ∀ a, (k0_off40 v367 (BitVec.ofNat 32 (64 * r.val))) a + S64x4096.size a ≤ S4096x4096.size a) ∧
  (∀ (r : Fin 2), ∀ (hinb : ∀ a, (k0_off40 v367 (BitVec.ofNat 32 (64 * r.val))) a + S64x4096.size a ≤ S4096x4096.size a), (Rect.unit (s := S4096x4096) (k0_off40 v367 (BitVec.ofNat 32 (64 * r.val))) S64x4096.size hinb).WholeWords (EltTy.packing .fp8e4m3))
theorem k0_off29_inb : ∀ (v367 : BitVec 32) (k0_hw8 : k0_chk8 v367), ∀ (r : Fin 2), ∀ a, (k0_off29 v367 (BitVec.ofNat 32 (64 * r.val))) a + S64x4096.size a ≤ S4096x4096.size a := fun v367 k0_hw8 r => k0_hw8.1 r
theorem k0_off29_wordsfp8e4m3 : ∀ (v367 : BitVec 32) (k0_hw8 : k0_chk8 v367), ∀ (r : Fin 2), (Rect.unit (s := S4096x4096) (k0_off29 v367 (BitVec.ofNat 32 (64 * r.val))) S64x4096.size (k0_off29_inb v367 k0_hw8 r)).WholeWords (EltTy.packing .fp8e4m3) := fun v367 k0_hw8 r => k0_hw8.2.1 r (k0_off29_inb v367 k0_hw8 r)
theorem k0_off34_inb : ∀ (v367 : BitVec 32) (k0_hw8 : k0_chk8 v367), ∀ a, (k0_off34 v367) a + S128x4096.size a ≤ S4096x4096.size a := fun v367 k0_hw8 => k0_hw8.2.2.1
theorem k0_off35_inb : ∀ (v367 : BitVec 32) (k0_hw8 : k0_chk8 v367), ∀ a, (k0_off35 v367) a + S128x64.size a ≤ S4096x64.size a := fun v367 k0_hw8 => k0_hw8.2.2.2.1
theorem k0_off40_inb : ∀ (v367 : BitVec 32) (k0_hw8 : k0_chk8 v367), ∀ (r : Fin 2), ∀ a, (k0_off40 v367 (BitVec.ofNat 32 (64 * r.val))) a + S64x4096.size a ≤ S4096x4096.size a := fun v367 k0_hw8 r => k0_hw8.2.2.2.2.1 r
theorem k0_off40_wordsfp8e4m3 : ∀ (v367 : BitVec 32) (k0_hw8 : k0_chk8 v367), ∀ (r : Fin 2), (Rect.unit (s := S4096x4096) (k0_off40 v367 (BitVec.ofNat 32 (64 * r.val))) S64x4096.size (k0_off40_inb v367 k0_hw8 r)).WholeWords (EltTy.packing .fp8e4m3) := fun v367 k0_hw8 r => k0_hw8.2.2.2.2.2 r (k0_off40_inb v367 k0_hw8 r)

def k0_dev20 (v8 : BitVec 32) : Nat :=
  let c0_i32_503 : BitVec 32 := 0#32
  let c1_i32_502 : BitVec 32 := 1#32
  let v535 : BitVec 32 := Scalar.muli v8 c1_i32_502
  let v536 : BitVec 32 := Scalar.addi c0_i32_503 v535
  v536.toNat
def k0_off41 (v4 : BitVec 32) : Fin 1 → Nat :=
  let c1_i32_513 : BitVec 32 := 1#32
  let v547 : BitVec 32 := Scalar.addi v4 c1_i32_513
  let c3_i32_514 : BitVec 32 := 3#32
  let v548 : BitVec 32 := Scalar.addi v547 c3_i32_514
  let c32_i32_515 : BitVec 32 := 32#32
  let v549 : BitVec 32 := Scalar.remsi v548 c32_i32_515
  let v550 : Index := Scalar.indexCast v549
  ![v550.toNat]
def k0_off42 (v551 : BitVec 32) (c0_i32_517 : BitVec 32) : Fin 2 → Nat :=
  let c128_i32_516 : BitVec 32 := 128#32
  let v552 : BitVec 32 := Scalar.muli v551 c128_i32_516
  let v553 : BitVec 32 := Scalar.addi v552 c0_i32_517
  let c0_i32_523 : BitVec 32 := 0#32
  ![v553.toNat, 0]

def k0_dev21 (v13 : BitVec 32) : Nat :=
  let c0_i32_532 : BitVec 32 := 0#32
  let c1_i32_531 : BitVec 32 := 1#32
  let v562 : BitVec 32 := Scalar.muli v13 c1_i32_531
  let v563 : BitVec 32 := Scalar.addi c0_i32_532 v562
  v563.toNat
def k0_off43 (v416 : BitVec 32) (c0_i32_396 : BitVec 32) : Fin 2 → Nat :=
  let c128_i32_395 : BitVec 32 := 128#32
  let v425 : BitVec 32 := Scalar.muli v416 c128_i32_395
  let v426 : BitVec 32 := Scalar.addi v425 c0_i32_396
  let c0_i32_540 : BitVec 32 := 0#32
  ![v426.toNat, 0]

def k0_chk9 (v416 : BitVec 32) : Prop :=
  (∀ (r : Fin 2), ∀ a, (k0_off32 v416 (BitVec.ofNat 32 (64 * r.val))) a + S64x4096.size a ≤ S4096x4096.size a) ∧
  (∀ (r : Fin 2), ∀ (hinb : ∀ a, (k0_off32 v416 (BitVec.ofNat 32 (64 * r.val))) a + S64x4096.size a ≤ S4096x4096.size a), (Rect.unit (s := S4096x4096) (k0_off32 v416 (BitVec.ofNat 32 (64 * r.val))) S64x4096.size hinb).WholeWords (EltTy.packing .fp8e4m3)) ∧
  (∀ a, (k0_off36 v416) a + S128x4096.size a ≤ S4096x4096.size a) ∧
  (∀ a, (k0_off37 v416) a + S128x64.size a ≤ S4096x64.size a) ∧
  (∀ (r : Fin 2), ∀ a, (k0_off43 v416 (BitVec.ofNat 32 (64 * r.val))) a + S64x4096.size a ≤ S4096x4096.size a) ∧
  (∀ (r : Fin 2), ∀ (hinb : ∀ a, (k0_off43 v416 (BitVec.ofNat 32 (64 * r.val))) a + S64x4096.size a ≤ S4096x4096.size a), (Rect.unit (s := S4096x4096) (k0_off43 v416 (BitVec.ofNat 32 (64 * r.val))) S64x4096.size hinb).WholeWords (EltTy.packing .fp8e4m3))
theorem k0_off32_inb : ∀ (v416 : BitVec 32) (k0_hw9 : k0_chk9 v416), ∀ (r : Fin 2), ∀ a, (k0_off32 v416 (BitVec.ofNat 32 (64 * r.val))) a + S64x4096.size a ≤ S4096x4096.size a := fun v416 k0_hw9 r => k0_hw9.1 r
theorem k0_off32_wordsfp8e4m3 : ∀ (v416 : BitVec 32) (k0_hw9 : k0_chk9 v416), ∀ (r : Fin 2), (Rect.unit (s := S4096x4096) (k0_off32 v416 (BitVec.ofNat 32 (64 * r.val))) S64x4096.size (k0_off32_inb v416 k0_hw9 r)).WholeWords (EltTy.packing .fp8e4m3) := fun v416 k0_hw9 r => k0_hw9.2.1 r (k0_off32_inb v416 k0_hw9 r)
theorem k0_off36_inb : ∀ (v416 : BitVec 32) (k0_hw9 : k0_chk9 v416), ∀ a, (k0_off36 v416) a + S128x4096.size a ≤ S4096x4096.size a := fun v416 k0_hw9 => k0_hw9.2.2.1
theorem k0_off37_inb : ∀ (v416 : BitVec 32) (k0_hw9 : k0_chk9 v416), ∀ a, (k0_off37 v416) a + S128x64.size a ≤ S4096x64.size a := fun v416 k0_hw9 => k0_hw9.2.2.2.1
theorem k0_off43_inb : ∀ (v416 : BitVec 32) (k0_hw9 : k0_chk9 v416), ∀ (r : Fin 2), ∀ a, (k0_off43 v416 (BitVec.ofNat 32 (64 * r.val))) a + S64x4096.size a ≤ S4096x4096.size a := fun v416 k0_hw9 r => k0_hw9.2.2.2.2.1 r
theorem k0_off43_wordsfp8e4m3 : ∀ (v416 : BitVec 32) (k0_hw9 : k0_chk9 v416), ∀ (r : Fin 2), (Rect.unit (s := S4096x4096) (k0_off43 v416 (BitVec.ofNat 32 (64 * r.val))) S64x4096.size (k0_off43_inb v416 k0_hw9 r)).WholeWords (EltTy.packing .fp8e4m3) := fun v416 k0_hw9 r => k0_hw9.2.2.2.2.2 r (k0_off43_inb v416 k0_hw9 r)

def k0_dev22 (v13 : BitVec 32) : Nat :=
  let c0_i32_558 : BitVec 32 := 0#32
  let c1_i32_557 : BitVec 32 := 1#32
  let v584 : BitVec 32 := Scalar.muli v13 c1_i32_557
  let v585 : BitVec 32 := Scalar.addi c0_i32_558 v584
  v585.toNat
def k0_off44 (v502 : BitVec 32) : Fin 2 → Nat :=
  let c128_i32_568 : BitVec 32 := 128#32
  let v596 : BitVec 32 := Scalar.muli v502 c128_i32_568
  let v597 : Index := Scalar.indexCast v596
  let c0_569 : Index := 0#32
  ![v597.toNat, 0]
def k0_off45 (v502 : BitVec 32) : Fin 2 → Nat :=
  let c128_i32_576 : BitVec 32 := 128#32
  let v611 : BitVec 32 := Scalar.muli v502 c128_i32_576
  let v612 : Index := Scalar.indexCast v611
  let c0_577 : Index := 0#32
  ![v612.toNat, 0]
def k0_off46 (v551 : BitVec 32) : Fin 2 → Nat :=
  let c128_i32_578 : BitVec 32 := 128#32
  let v614 : BitVec 32 := Scalar.muli v551 c128_i32_578
  let v615 : Index := Scalar.indexCast v614
  let c0_579 : Index := 0#32
  ![v615.toNat, 0]
def k0_off47 (v551 : BitVec 32) : Fin 2 → Nat :=
  let c128_i32_586 : BitVec 32 := 128#32
  let v629 : BitVec 32 := Scalar.muli v551 c128_i32_586
  let v630 : Index := Scalar.indexCast v629
  let c0_587 : Index := 0#32
  ![v630.toNat, 0]
def k0_off48 (v4 : BitVec 32) : Fin 1 → Nat :=
  let c1_i32_588 : BitVec 32 := 1#32
  let v632 : BitVec 32 := Scalar.subi v4 c1_i32_588
  let c4_i32_589 : BitVec 32 := 4#32
  let v633 : BitVec 32 := Scalar.subi v632 c4_i32_589
  let c64_i32_590 : BitVec 32 := 64#32
  let v634 : BitVec 32 := Scalar.addi v633 c64_i32_590
  let c32_i32_591 : BitVec 32 := 32#32
  let v635 : BitVec 32 := Scalar.remsi v634 c32_i32_591
  let v636 : Index := Scalar.indexCast v635
  ![v636.toNat]
def k0_off49 (v637 : BitVec 32) (c0_i32_593 : BitVec 32) : Fin 2 → Nat :=
  let c128_i32_592 : BitVec 32 := 128#32
  let v638 : BitVec 32 := Scalar.muli v637 c128_i32_592
  let v639 : BitVec 32 := Scalar.addi v638 c0_i32_593
  let c0_i32_599 : BitVec 32 := 0#32
  ![v639.toNat, 0]

def k0_dev23 (v8 : BitVec 32) : Nat :=
  let c0_i32_607 : BitVec 32 := 0#32
  let c1_i32_606 : BitVec 32 := 1#32
  let v648 : BitVec 32 := Scalar.muli v8 c1_i32_606
  let v649 : BitVec 32 := Scalar.addi c0_i32_607 v648
  v649.toNat
def k0_off50 (v502 : BitVec 32) (c0_i32_472 : BitVec 32) : Fin 2 → Nat :=
  let c128_i32_471 : BitVec 32 := 128#32
  let v511 : BitVec 32 := Scalar.muli v502 c128_i32_471
  let v512 : BitVec 32 := Scalar.addi v511 c0_i32_472
  let c0_i32_615 : BitVec 32 := 0#32
  ![v512.toNat, 0]

def k0_chk10 (v502 : BitVec 32) : Prop :=
  (∀ (r : Fin 2), ∀ a, (k0_off39 v502 (BitVec.ofNat 32 (64 * r.val))) a + S64x4096.size a ≤ S4096x4096.size a) ∧
  (∀ (r : Fin 2), ∀ (hinb : ∀ a, (k0_off39 v502 (BitVec.ofNat 32 (64 * r.val))) a + S64x4096.size a ≤ S4096x4096.size a), (Rect.unit (s := S4096x4096) (k0_off39 v502 (BitVec.ofNat 32 (64 * r.val))) S64x4096.size hinb).WholeWords (EltTy.packing .fp8e4m3)) ∧
  (∀ a, (k0_off44 v502) a + S128x4096.size a ≤ S4096x4096.size a) ∧
  (∀ a, (k0_off45 v502) a + S128x64.size a ≤ S4096x64.size a) ∧
  (∀ (r : Fin 2), ∀ a, (k0_off50 v502 (BitVec.ofNat 32 (64 * r.val))) a + S64x4096.size a ≤ S4096x4096.size a) ∧
  (∀ (r : Fin 2), ∀ (hinb : ∀ a, (k0_off50 v502 (BitVec.ofNat 32 (64 * r.val))) a + S64x4096.size a ≤ S4096x4096.size a), (Rect.unit (s := S4096x4096) (k0_off50 v502 (BitVec.ofNat 32 (64 * r.val))) S64x4096.size hinb).WholeWords (EltTy.packing .fp8e4m3))
theorem k0_off39_inb : ∀ (v502 : BitVec 32) (k0_hw10 : k0_chk10 v502), ∀ (r : Fin 2), ∀ a, (k0_off39 v502 (BitVec.ofNat 32 (64 * r.val))) a + S64x4096.size a ≤ S4096x4096.size a := fun v502 k0_hw10 r => k0_hw10.1 r
theorem k0_off39_wordsfp8e4m3 : ∀ (v502 : BitVec 32) (k0_hw10 : k0_chk10 v502), ∀ (r : Fin 2), (Rect.unit (s := S4096x4096) (k0_off39 v502 (BitVec.ofNat 32 (64 * r.val))) S64x4096.size (k0_off39_inb v502 k0_hw10 r)).WholeWords (EltTy.packing .fp8e4m3) := fun v502 k0_hw10 r => k0_hw10.2.1 r (k0_off39_inb v502 k0_hw10 r)
theorem k0_off44_inb : ∀ (v502 : BitVec 32) (k0_hw10 : k0_chk10 v502), ∀ a, (k0_off44 v502) a + S128x4096.size a ≤ S4096x4096.size a := fun v502 k0_hw10 => k0_hw10.2.2.1
theorem k0_off45_inb : ∀ (v502 : BitVec 32) (k0_hw10 : k0_chk10 v502), ∀ a, (k0_off45 v502) a + S128x64.size a ≤ S4096x64.size a := fun v502 k0_hw10 => k0_hw10.2.2.2.1
theorem k0_off50_inb : ∀ (v502 : BitVec 32) (k0_hw10 : k0_chk10 v502), ∀ (r : Fin 2), ∀ a, (k0_off50 v502 (BitVec.ofNat 32 (64 * r.val))) a + S64x4096.size a ≤ S4096x4096.size a := fun v502 k0_hw10 r => k0_hw10.2.2.2.2.1 r
theorem k0_off50_wordsfp8e4m3 : ∀ (v502 : BitVec 32) (k0_hw10 : k0_chk10 v502), ∀ (r : Fin 2), (Rect.unit (s := S4096x4096) (k0_off50 v502 (BitVec.ofNat 32 (64 * r.val))) S64x4096.size (k0_off50_inb v502 k0_hw10 r)).WholeWords (EltTy.packing .fp8e4m3) := fun v502 k0_hw10 r => k0_hw10.2.2.2.2.2 r (k0_off50_inb v502 k0_hw10 r)

def k0_dev24 (v8 : BitVec 32) : Nat :=
  let c0_i32_633 : BitVec 32 := 0#32
  let c1_i32_632 : BitVec 32 := 1#32
  let v670 : BitVec 32 := Scalar.muli v8 c1_i32_632
  let v671 : BitVec 32 := Scalar.addi c0_i32_633 v670
  v671.toNat
def k0_off51 (v4 : BitVec 32) : Fin 1 → Nat :=
  let c1_i32_643 : BitVec 32 := 1#32
  let v682 : BitVec 32 := Scalar.addi v4 c1_i32_643
  let c4_i32_644 : BitVec 32 := 4#32
  let v683 : BitVec 32 := Scalar.addi v682 c4_i32_644
  let c32_i32_645 : BitVec 32 := 32#32
  let v684 : BitVec 32 := Scalar.remsi v683 c32_i32_645
  let v685 : Index := Scalar.indexCast v684
  ![v685.toNat]
def k0_off52 (v686 : BitVec 32) (c0_i32_647 : BitVec 32) : Fin 2 → Nat :=
  let c128_i32_646 : BitVec 32 := 128#32
  let v687 : BitVec 32 := Scalar.muli v686 c128_i32_646
  let v688 : BitVec 32 := Scalar.addi v687 c0_i32_647
  let c0_i32_653 : BitVec 32 := 0#32
  ![v688.toNat, 0]

def k0_dev25 (v13 : BitVec 32) : Nat :=
  let c0_i32_662 : BitVec 32 := 0#32
  let c1_i32_661 : BitVec 32 := 1#32
  let v697 : BitVec 32 := Scalar.muli v13 c1_i32_661
  let v698 : BitVec 32 := Scalar.addi c0_i32_662 v697
  v698.toNat
def k0_off53 (v551 : BitVec 32) (c0_i32_526 : BitVec 32) : Fin 2 → Nat :=
  let c128_i32_525 : BitVec 32 := 128#32
  let v560 : BitVec 32 := Scalar.muli v551 c128_i32_525
  let v561 : BitVec 32 := Scalar.addi v560 c0_i32_526
  let c0_i32_670 : BitVec 32 := 0#32
  ![v561.toNat, 0]

def k0_chk11 (v551 : BitVec 32) : Prop :=
  (∀ (r : Fin 2), ∀ a, (k0_off42 v551 (BitVec.ofNat 32 (64 * r.val))) a + S64x4096.size a ≤ S4096x4096.size a) ∧
  (∀ (r : Fin 2), ∀ (hinb : ∀ a, (k0_off42 v551 (BitVec.ofNat 32 (64 * r.val))) a + S64x4096.size a ≤ S4096x4096.size a), (Rect.unit (s := S4096x4096) (k0_off42 v551 (BitVec.ofNat 32 (64 * r.val))) S64x4096.size hinb).WholeWords (EltTy.packing .fp8e4m3)) ∧
  (∀ a, (k0_off46 v551) a + S128x4096.size a ≤ S4096x4096.size a) ∧
  (∀ a, (k0_off47 v551) a + S128x64.size a ≤ S4096x64.size a) ∧
  (∀ (r : Fin 2), ∀ a, (k0_off53 v551 (BitVec.ofNat 32 (64 * r.val))) a + S64x4096.size a ≤ S4096x4096.size a) ∧
  (∀ (r : Fin 2), ∀ (hinb : ∀ a, (k0_off53 v551 (BitVec.ofNat 32 (64 * r.val))) a + S64x4096.size a ≤ S4096x4096.size a), (Rect.unit (s := S4096x4096) (k0_off53 v551 (BitVec.ofNat 32 (64 * r.val))) S64x4096.size hinb).WholeWords (EltTy.packing .fp8e4m3))
theorem k0_off42_inb : ∀ (v551 : BitVec 32) (k0_hw11 : k0_chk11 v551), ∀ (r : Fin 2), ∀ a, (k0_off42 v551 (BitVec.ofNat 32 (64 * r.val))) a + S64x4096.size a ≤ S4096x4096.size a := fun v551 k0_hw11 r => k0_hw11.1 r
theorem k0_off42_wordsfp8e4m3 : ∀ (v551 : BitVec 32) (k0_hw11 : k0_chk11 v551), ∀ (r : Fin 2), (Rect.unit (s := S4096x4096) (k0_off42 v551 (BitVec.ofNat 32 (64 * r.val))) S64x4096.size (k0_off42_inb v551 k0_hw11 r)).WholeWords (EltTy.packing .fp8e4m3) := fun v551 k0_hw11 r => k0_hw11.2.1 r (k0_off42_inb v551 k0_hw11 r)
theorem k0_off46_inb : ∀ (v551 : BitVec 32) (k0_hw11 : k0_chk11 v551), ∀ a, (k0_off46 v551) a + S128x4096.size a ≤ S4096x4096.size a := fun v551 k0_hw11 => k0_hw11.2.2.1
theorem k0_off47_inb : ∀ (v551 : BitVec 32) (k0_hw11 : k0_chk11 v551), ∀ a, (k0_off47 v551) a + S128x64.size a ≤ S4096x64.size a := fun v551 k0_hw11 => k0_hw11.2.2.2.1
theorem k0_off53_inb : ∀ (v551 : BitVec 32) (k0_hw11 : k0_chk11 v551), ∀ (r : Fin 2), ∀ a, (k0_off53 v551 (BitVec.ofNat 32 (64 * r.val))) a + S64x4096.size a ≤ S4096x4096.size a := fun v551 k0_hw11 r => k0_hw11.2.2.2.2.1 r
theorem k0_off53_wordsfp8e4m3 : ∀ (v551 : BitVec 32) (k0_hw11 : k0_chk11 v551), ∀ (r : Fin 2), (Rect.unit (s := S4096x4096) (k0_off53 v551 (BitVec.ofNat 32 (64 * r.val))) S64x4096.size (k0_off53_inb v551 k0_hw11 r)).WholeWords (EltTy.packing .fp8e4m3) := fun v551 k0_hw11 r => k0_hw11.2.2.2.2.2 r (k0_off53_inb v551 k0_hw11 r)

def k0_dev26 (v13 : BitVec 32) : Nat :=
  let c0_i32_688 : BitVec 32 := 0#32
  let c1_i32_687 : BitVec 32 := 1#32
  let v719 : BitVec 32 := Scalar.muli v13 c1_i32_687
  let v720 : BitVec 32 := Scalar.addi c0_i32_688 v719
  v720.toNat
def k0_off54 (v637 : BitVec 32) : Fin 2 → Nat :=
  let c128_i32_698 : BitVec 32 := 128#32
  let v731 : BitVec 32 := Scalar.muli v637 c128_i32_698
  let v732 : Index := Scalar.indexCast v731
  let c0_699 : Index := 0#32
  ![v732.toNat, 0]
def k0_off55 (v637 : BitVec 32) : Fin 2 → Nat :=
  let c128_i32_706 : BitVec 32 := 128#32
  let v746 : BitVec 32 := Scalar.muli v637 c128_i32_706
  let v747 : Index := Scalar.indexCast v746
  let c0_707 : Index := 0#32
  ![v747.toNat, 0]
def k0_off56 (v686 : BitVec 32) : Fin 2 → Nat :=
  let c128_i32_708 : BitVec 32 := 128#32
  let v749 : BitVec 32 := Scalar.muli v686 c128_i32_708
  let v750 : Index := Scalar.indexCast v749
  let c0_709 : Index := 0#32
  ![v750.toNat, 0]
def k0_off57 (v686 : BitVec 32) : Fin 2 → Nat :=
  let c128_i32_716 : BitVec 32 := 128#32
  let v764 : BitVec 32 := Scalar.muli v686 c128_i32_716
  let v765 : Index := Scalar.indexCast v764
  let c0_717 : Index := 0#32
  ![v765.toNat, 0]
def k0_off58 (v4 : BitVec 32) : Fin 1 → Nat :=
  let c1_i32_718 : BitVec 32 := 1#32
  let v767 : BitVec 32 := Scalar.subi v4 c1_i32_718
  let c5_i32_719 : BitVec 32 := 5#32
  let v768 : BitVec 32 := Scalar.subi v767 c5_i32_719
  let c64_i32_720 : BitVec 32 := 64#32
  let v769 : BitVec 32 := Scalar.addi v768 c64_i32_720
  let c32_i32_721 : BitVec 32 := 32#32
  let v770 : BitVec 32 := Scalar.remsi v769 c32_i32_721
  let v771 : Index := Scalar.indexCast v770
  ![v771.toNat]
def k0_off59 (v772 : BitVec 32) (c0_i32_723 : BitVec 32) : Fin 2 → Nat :=
  let c128_i32_722 : BitVec 32 := 128#32
  let v773 : BitVec 32 := Scalar.muli v772 c128_i32_722
  let v774 : BitVec 32 := Scalar.addi v773 c0_i32_723
  let c0_i32_729 : BitVec 32 := 0#32
  ![v774.toNat, 0]

def k0_dev27 (v8 : BitVec 32) : Nat :=
  let c0_i32_737 : BitVec 32 := 0#32
  let c1_i32_736 : BitVec 32 := 1#32
  let v783 : BitVec 32 := Scalar.muli v8 c1_i32_736
  let v784 : BitVec 32 := Scalar.addi c0_i32_737 v783
  v784.toNat
def k0_off60 (v637 : BitVec 32) (c0_i32_602 : BitVec 32) : Fin 2 → Nat :=
  let c128_i32_601 : BitVec 32 := 128#32
  let v646 : BitVec 32 := Scalar.muli v637 c128_i32_601
  let v647 : BitVec 32 := Scalar.addi v646 c0_i32_602
  let c0_i32_745 : BitVec 32 := 0#32
  ![v647.toNat, 0]

def k0_chk12 (v637 : BitVec 32) : Prop :=
  (∀ (r : Fin 2), ∀ a, (k0_off49 v637 (BitVec.ofNat 32 (64 * r.val))) a + S64x4096.size a ≤ S4096x4096.size a) ∧
  (∀ (r : Fin 2), ∀ (hinb : ∀ a, (k0_off49 v637 (BitVec.ofNat 32 (64 * r.val))) a + S64x4096.size a ≤ S4096x4096.size a), (Rect.unit (s := S4096x4096) (k0_off49 v637 (BitVec.ofNat 32 (64 * r.val))) S64x4096.size hinb).WholeWords (EltTy.packing .fp8e4m3)) ∧
  (∀ a, (k0_off54 v637) a + S128x4096.size a ≤ S4096x4096.size a) ∧
  (∀ a, (k0_off55 v637) a + S128x64.size a ≤ S4096x64.size a) ∧
  (∀ (r : Fin 2), ∀ a, (k0_off60 v637 (BitVec.ofNat 32 (64 * r.val))) a + S64x4096.size a ≤ S4096x4096.size a) ∧
  (∀ (r : Fin 2), ∀ (hinb : ∀ a, (k0_off60 v637 (BitVec.ofNat 32 (64 * r.val))) a + S64x4096.size a ≤ S4096x4096.size a), (Rect.unit (s := S4096x4096) (k0_off60 v637 (BitVec.ofNat 32 (64 * r.val))) S64x4096.size hinb).WholeWords (EltTy.packing .fp8e4m3))
theorem k0_off49_inb : ∀ (v637 : BitVec 32) (k0_hw12 : k0_chk12 v637), ∀ (r : Fin 2), ∀ a, (k0_off49 v637 (BitVec.ofNat 32 (64 * r.val))) a + S64x4096.size a ≤ S4096x4096.size a := fun v637 k0_hw12 r => k0_hw12.1 r
theorem k0_off49_wordsfp8e4m3 : ∀ (v637 : BitVec 32) (k0_hw12 : k0_chk12 v637), ∀ (r : Fin 2), (Rect.unit (s := S4096x4096) (k0_off49 v637 (BitVec.ofNat 32 (64 * r.val))) S64x4096.size (k0_off49_inb v637 k0_hw12 r)).WholeWords (EltTy.packing .fp8e4m3) := fun v637 k0_hw12 r => k0_hw12.2.1 r (k0_off49_inb v637 k0_hw12 r)
theorem k0_off54_inb : ∀ (v637 : BitVec 32) (k0_hw12 : k0_chk12 v637), ∀ a, (k0_off54 v637) a + S128x4096.size a ≤ S4096x4096.size a := fun v637 k0_hw12 => k0_hw12.2.2.1
theorem k0_off55_inb : ∀ (v637 : BitVec 32) (k0_hw12 : k0_chk12 v637), ∀ a, (k0_off55 v637) a + S128x64.size a ≤ S4096x64.size a := fun v637 k0_hw12 => k0_hw12.2.2.2.1
theorem k0_off60_inb : ∀ (v637 : BitVec 32) (k0_hw12 : k0_chk12 v637), ∀ (r : Fin 2), ∀ a, (k0_off60 v637 (BitVec.ofNat 32 (64 * r.val))) a + S64x4096.size a ≤ S4096x4096.size a := fun v637 k0_hw12 r => k0_hw12.2.2.2.2.1 r
theorem k0_off60_wordsfp8e4m3 : ∀ (v637 : BitVec 32) (k0_hw12 : k0_chk12 v637), ∀ (r : Fin 2), (Rect.unit (s := S4096x4096) (k0_off60 v637 (BitVec.ofNat 32 (64 * r.val))) S64x4096.size (k0_off60_inb v637 k0_hw12 r)).WholeWords (EltTy.packing .fp8e4m3) := fun v637 k0_hw12 r => k0_hw12.2.2.2.2.2 r (k0_off60_inb v637 k0_hw12 r)

def k0_dev28 (v8 : BitVec 32) : Nat :=
  let c0_i32_763 : BitVec 32 := 0#32
  let c1_i32_762 : BitVec 32 := 1#32
  let v805 : BitVec 32 := Scalar.muli v8 c1_i32_762
  let v806 : BitVec 32 := Scalar.addi c0_i32_763 v805
  v806.toNat
def k0_off61 (v4 : BitVec 32) : Fin 1 → Nat :=
  let c1_i32_773 : BitVec 32 := 1#32
  let v817 : BitVec 32 := Scalar.addi v4 c1_i32_773
  let c5_i32_774 : BitVec 32 := 5#32
  let v818 : BitVec 32 := Scalar.addi v817 c5_i32_774
  let c32_i32_775 : BitVec 32 := 32#32
  let v819 : BitVec 32 := Scalar.remsi v818 c32_i32_775
  let v820 : Index := Scalar.indexCast v819
  ![v820.toNat]
def k0_off62 (v821 : BitVec 32) (c0_i32_777 : BitVec 32) : Fin 2 → Nat :=
  let c128_i32_776 : BitVec 32 := 128#32
  let v822 : BitVec 32 := Scalar.muli v821 c128_i32_776
  let v823 : BitVec 32 := Scalar.addi v822 c0_i32_777
  let c0_i32_783 : BitVec 32 := 0#32
  ![v823.toNat, 0]

def k0_dev29 (v13 : BitVec 32) : Nat :=
  let c0_i32_792 : BitVec 32 := 0#32
  let c1_i32_791 : BitVec 32 := 1#32
  let v832 : BitVec 32 := Scalar.muli v13 c1_i32_791
  let v833 : BitVec 32 := Scalar.addi c0_i32_792 v832
  v833.toNat
def k0_off63 (v686 : BitVec 32) (c0_i32_656 : BitVec 32) : Fin 2 → Nat :=
  let c128_i32_655 : BitVec 32 := 128#32
  let v695 : BitVec 32 := Scalar.muli v686 c128_i32_655
  let v696 : BitVec 32 := Scalar.addi v695 c0_i32_656
  let c0_i32_800 : BitVec 32 := 0#32
  ![v696.toNat, 0]

def k0_chk13 (v686 : BitVec 32) : Prop :=
  (∀ (r : Fin 2), ∀ a, (k0_off52 v686 (BitVec.ofNat 32 (64 * r.val))) a + S64x4096.size a ≤ S4096x4096.size a) ∧
  (∀ (r : Fin 2), ∀ (hinb : ∀ a, (k0_off52 v686 (BitVec.ofNat 32 (64 * r.val))) a + S64x4096.size a ≤ S4096x4096.size a), (Rect.unit (s := S4096x4096) (k0_off52 v686 (BitVec.ofNat 32 (64 * r.val))) S64x4096.size hinb).WholeWords (EltTy.packing .fp8e4m3)) ∧
  (∀ a, (k0_off56 v686) a + S128x4096.size a ≤ S4096x4096.size a) ∧
  (∀ a, (k0_off57 v686) a + S128x64.size a ≤ S4096x64.size a) ∧
  (∀ (r : Fin 2), ∀ a, (k0_off63 v686 (BitVec.ofNat 32 (64 * r.val))) a + S64x4096.size a ≤ S4096x4096.size a) ∧
  (∀ (r : Fin 2), ∀ (hinb : ∀ a, (k0_off63 v686 (BitVec.ofNat 32 (64 * r.val))) a + S64x4096.size a ≤ S4096x4096.size a), (Rect.unit (s := S4096x4096) (k0_off63 v686 (BitVec.ofNat 32 (64 * r.val))) S64x4096.size hinb).WholeWords (EltTy.packing .fp8e4m3))
theorem k0_off52_inb : ∀ (v686 : BitVec 32) (k0_hw13 : k0_chk13 v686), ∀ (r : Fin 2), ∀ a, (k0_off52 v686 (BitVec.ofNat 32 (64 * r.val))) a + S64x4096.size a ≤ S4096x4096.size a := fun v686 k0_hw13 r => k0_hw13.1 r
theorem k0_off52_wordsfp8e4m3 : ∀ (v686 : BitVec 32) (k0_hw13 : k0_chk13 v686), ∀ (r : Fin 2), (Rect.unit (s := S4096x4096) (k0_off52 v686 (BitVec.ofNat 32 (64 * r.val))) S64x4096.size (k0_off52_inb v686 k0_hw13 r)).WholeWords (EltTy.packing .fp8e4m3) := fun v686 k0_hw13 r => k0_hw13.2.1 r (k0_off52_inb v686 k0_hw13 r)
theorem k0_off56_inb : ∀ (v686 : BitVec 32) (k0_hw13 : k0_chk13 v686), ∀ a, (k0_off56 v686) a + S128x4096.size a ≤ S4096x4096.size a := fun v686 k0_hw13 => k0_hw13.2.2.1
theorem k0_off57_inb : ∀ (v686 : BitVec 32) (k0_hw13 : k0_chk13 v686), ∀ a, (k0_off57 v686) a + S128x64.size a ≤ S4096x64.size a := fun v686 k0_hw13 => k0_hw13.2.2.2.1
theorem k0_off63_inb : ∀ (v686 : BitVec 32) (k0_hw13 : k0_chk13 v686), ∀ (r : Fin 2), ∀ a, (k0_off63 v686 (BitVec.ofNat 32 (64 * r.val))) a + S64x4096.size a ≤ S4096x4096.size a := fun v686 k0_hw13 r => k0_hw13.2.2.2.2.1 r
theorem k0_off63_wordsfp8e4m3 : ∀ (v686 : BitVec 32) (k0_hw13 : k0_chk13 v686), ∀ (r : Fin 2), (Rect.unit (s := S4096x4096) (k0_off63 v686 (BitVec.ofNat 32 (64 * r.val))) S64x4096.size (k0_off63_inb v686 k0_hw13 r)).WholeWords (EltTy.packing .fp8e4m3) := fun v686 k0_hw13 r => k0_hw13.2.2.2.2.2 r (k0_off63_inb v686 k0_hw13 r)

def k0_dev30 (v13 : BitVec 32) : Nat :=
  let c0_i32_818 : BitVec 32 := 0#32
  let c1_i32_817 : BitVec 32 := 1#32
  let v854 : BitVec 32 := Scalar.muli v13 c1_i32_817
  let v855 : BitVec 32 := Scalar.addi c0_i32_818 v854
  v855.toNat
def k0_off64 (v772 : BitVec 32) : Fin 2 → Nat :=
  let c128_i32_828 : BitVec 32 := 128#32
  let v866 : BitVec 32 := Scalar.muli v772 c128_i32_828
  let v867 : Index := Scalar.indexCast v866
  let c0_829 : Index := 0#32
  ![v867.toNat, 0]
def k0_off65 (v772 : BitVec 32) : Fin 2 → Nat :=
  let c128_i32_836 : BitVec 32 := 128#32
  let v881 : BitVec 32 := Scalar.muli v772 c128_i32_836
  let v882 : Index := Scalar.indexCast v881
  let c0_837 : Index := 0#32
  ![v882.toNat, 0]
def k0_off66 (v821 : BitVec 32) : Fin 2 → Nat :=
  let c128_i32_838 : BitVec 32 := 128#32
  let v884 : BitVec 32 := Scalar.muli v821 c128_i32_838
  let v885 : Index := Scalar.indexCast v884
  let c0_839 : Index := 0#32
  ![v885.toNat, 0]
def k0_off67 (v821 : BitVec 32) : Fin 2 → Nat :=
  let c128_i32_846 : BitVec 32 := 128#32
  let v899 : BitVec 32 := Scalar.muli v821 c128_i32_846
  let v900 : Index := Scalar.indexCast v899
  let c0_847 : Index := 0#32
  ![v900.toNat, 0]
def k0_off68 (v4 : BitVec 32) : Fin 1 → Nat :=
  let c1_i32_848 : BitVec 32 := 1#32
  let v902 : BitVec 32 := Scalar.subi v4 c1_i32_848
  let c6_i32_849 : BitVec 32 := 6#32
  let v903 : BitVec 32 := Scalar.subi v902 c6_i32_849
  let c64_i32_850 : BitVec 32 := 64#32
  let v904 : BitVec 32 := Scalar.addi v903 c64_i32_850
  let c32_i32_851 : BitVec 32 := 32#32
  let v905 : BitVec 32 := Scalar.remsi v904 c32_i32_851
  let v906 : Index := Scalar.indexCast v905
  ![v906.toNat]
def k0_off69 (v907 : BitVec 32) (c0_i32_853 : BitVec 32) : Fin 2 → Nat :=
  let c128_i32_852 : BitVec 32 := 128#32
  let v908 : BitVec 32 := Scalar.muli v907 c128_i32_852
  let v909 : BitVec 32 := Scalar.addi v908 c0_i32_853
  let c0_i32_859 : BitVec 32 := 0#32
  ![v909.toNat, 0]

def k0_dev31 (v8 : BitVec 32) : Nat :=
  let c0_i32_867 : BitVec 32 := 0#32
  let c1_i32_866 : BitVec 32 := 1#32
  let v918 : BitVec 32 := Scalar.muli v8 c1_i32_866
  let v919 : BitVec 32 := Scalar.addi c0_i32_867 v918
  v919.toNat
def k0_off70 (v772 : BitVec 32) (c0_i32_732 : BitVec 32) : Fin 2 → Nat :=
  let c128_i32_731 : BitVec 32 := 128#32
  let v781 : BitVec 32 := Scalar.muli v772 c128_i32_731
  let v782 : BitVec 32 := Scalar.addi v781 c0_i32_732
  let c0_i32_875 : BitVec 32 := 0#32
  ![v782.toNat, 0]

def k0_chk14 (v772 : BitVec 32) : Prop :=
  (∀ (r : Fin 2), ∀ a, (k0_off59 v772 (BitVec.ofNat 32 (64 * r.val))) a + S64x4096.size a ≤ S4096x4096.size a) ∧
  (∀ (r : Fin 2), ∀ (hinb : ∀ a, (k0_off59 v772 (BitVec.ofNat 32 (64 * r.val))) a + S64x4096.size a ≤ S4096x4096.size a), (Rect.unit (s := S4096x4096) (k0_off59 v772 (BitVec.ofNat 32 (64 * r.val))) S64x4096.size hinb).WholeWords (EltTy.packing .fp8e4m3)) ∧
  (∀ a, (k0_off64 v772) a + S128x4096.size a ≤ S4096x4096.size a) ∧
  (∀ a, (k0_off65 v772) a + S128x64.size a ≤ S4096x64.size a) ∧
  (∀ (r : Fin 2), ∀ a, (k0_off70 v772 (BitVec.ofNat 32 (64 * r.val))) a + S64x4096.size a ≤ S4096x4096.size a) ∧
  (∀ (r : Fin 2), ∀ (hinb : ∀ a, (k0_off70 v772 (BitVec.ofNat 32 (64 * r.val))) a + S64x4096.size a ≤ S4096x4096.size a), (Rect.unit (s := S4096x4096) (k0_off70 v772 (BitVec.ofNat 32 (64 * r.val))) S64x4096.size hinb).WholeWords (EltTy.packing .fp8e4m3))
theorem k0_off59_inb : ∀ (v772 : BitVec 32) (k0_hw14 : k0_chk14 v772), ∀ (r : Fin 2), ∀ a, (k0_off59 v772 (BitVec.ofNat 32 (64 * r.val))) a + S64x4096.size a ≤ S4096x4096.size a := fun v772 k0_hw14 r => k0_hw14.1 r
theorem k0_off59_wordsfp8e4m3 : ∀ (v772 : BitVec 32) (k0_hw14 : k0_chk14 v772), ∀ (r : Fin 2), (Rect.unit (s := S4096x4096) (k0_off59 v772 (BitVec.ofNat 32 (64 * r.val))) S64x4096.size (k0_off59_inb v772 k0_hw14 r)).WholeWords (EltTy.packing .fp8e4m3) := fun v772 k0_hw14 r => k0_hw14.2.1 r (k0_off59_inb v772 k0_hw14 r)
theorem k0_off64_inb : ∀ (v772 : BitVec 32) (k0_hw14 : k0_chk14 v772), ∀ a, (k0_off64 v772) a + S128x4096.size a ≤ S4096x4096.size a := fun v772 k0_hw14 => k0_hw14.2.2.1
theorem k0_off65_inb : ∀ (v772 : BitVec 32) (k0_hw14 : k0_chk14 v772), ∀ a, (k0_off65 v772) a + S128x64.size a ≤ S4096x64.size a := fun v772 k0_hw14 => k0_hw14.2.2.2.1
theorem k0_off70_inb : ∀ (v772 : BitVec 32) (k0_hw14 : k0_chk14 v772), ∀ (r : Fin 2), ∀ a, (k0_off70 v772 (BitVec.ofNat 32 (64 * r.val))) a + S64x4096.size a ≤ S4096x4096.size a := fun v772 k0_hw14 r => k0_hw14.2.2.2.2.1 r
theorem k0_off70_wordsfp8e4m3 : ∀ (v772 : BitVec 32) (k0_hw14 : k0_chk14 v772), ∀ (r : Fin 2), (Rect.unit (s := S4096x4096) (k0_off70 v772 (BitVec.ofNat 32 (64 * r.val))) S64x4096.size (k0_off70_inb v772 k0_hw14 r)).WholeWords (EltTy.packing .fp8e4m3) := fun v772 k0_hw14 r => k0_hw14.2.2.2.2.2 r (k0_off70_inb v772 k0_hw14 r)

def k0_dev32 (v8 : BitVec 32) : Nat :=
  let c0_i32_893 : BitVec 32 := 0#32
  let c1_i32_892 : BitVec 32 := 1#32
  let v940 : BitVec 32 := Scalar.muli v8 c1_i32_892
  let v941 : BitVec 32 := Scalar.addi c0_i32_893 v940
  v941.toNat
def k0_off71 (v4 : BitVec 32) : Fin 1 → Nat :=
  let c1_i32_903 : BitVec 32 := 1#32
  let v952 : BitVec 32 := Scalar.addi v4 c1_i32_903
  let c6_i32_904 : BitVec 32 := 6#32
  let v953 : BitVec 32 := Scalar.addi v952 c6_i32_904
  let c32_i32_905 : BitVec 32 := 32#32
  let v954 : BitVec 32 := Scalar.remsi v953 c32_i32_905
  let v955 : Index := Scalar.indexCast v954
  ![v955.toNat]
def k0_off72 (v956 : BitVec 32) (c0_i32_907 : BitVec 32) : Fin 2 → Nat :=
  let c128_i32_906 : BitVec 32 := 128#32
  let v957 : BitVec 32 := Scalar.muli v956 c128_i32_906
  let v958 : BitVec 32 := Scalar.addi v957 c0_i32_907
  let c0_i32_913 : BitVec 32 := 0#32
  ![v958.toNat, 0]

def k0_dev33 (v13 : BitVec 32) : Nat :=
  let c0_i32_922 : BitVec 32 := 0#32
  let c1_i32_921 : BitVec 32 := 1#32
  let v967 : BitVec 32 := Scalar.muli v13 c1_i32_921
  let v968 : BitVec 32 := Scalar.addi c0_i32_922 v967
  v968.toNat
def k0_off73 (v821 : BitVec 32) (c0_i32_786 : BitVec 32) : Fin 2 → Nat :=
  let c128_i32_785 : BitVec 32 := 128#32
  let v830 : BitVec 32 := Scalar.muli v821 c128_i32_785
  let v831 : BitVec 32 := Scalar.addi v830 c0_i32_786
  let c0_i32_930 : BitVec 32 := 0#32
  ![v831.toNat, 0]

def k0_chk15 (v821 : BitVec 32) : Prop :=
  (∀ (r : Fin 2), ∀ a, (k0_off62 v821 (BitVec.ofNat 32 (64 * r.val))) a + S64x4096.size a ≤ S4096x4096.size a) ∧
  (∀ (r : Fin 2), ∀ (hinb : ∀ a, (k0_off62 v821 (BitVec.ofNat 32 (64 * r.val))) a + S64x4096.size a ≤ S4096x4096.size a), (Rect.unit (s := S4096x4096) (k0_off62 v821 (BitVec.ofNat 32 (64 * r.val))) S64x4096.size hinb).WholeWords (EltTy.packing .fp8e4m3)) ∧
  (∀ a, (k0_off66 v821) a + S128x4096.size a ≤ S4096x4096.size a) ∧
  (∀ a, (k0_off67 v821) a + S128x64.size a ≤ S4096x64.size a) ∧
  (∀ (r : Fin 2), ∀ a, (k0_off73 v821 (BitVec.ofNat 32 (64 * r.val))) a + S64x4096.size a ≤ S4096x4096.size a) ∧
  (∀ (r : Fin 2), ∀ (hinb : ∀ a, (k0_off73 v821 (BitVec.ofNat 32 (64 * r.val))) a + S64x4096.size a ≤ S4096x4096.size a), (Rect.unit (s := S4096x4096) (k0_off73 v821 (BitVec.ofNat 32 (64 * r.val))) S64x4096.size hinb).WholeWords (EltTy.packing .fp8e4m3))
theorem k0_off62_inb : ∀ (v821 : BitVec 32) (k0_hw15 : k0_chk15 v821), ∀ (r : Fin 2), ∀ a, (k0_off62 v821 (BitVec.ofNat 32 (64 * r.val))) a + S64x4096.size a ≤ S4096x4096.size a := fun v821 k0_hw15 r => k0_hw15.1 r
theorem k0_off62_wordsfp8e4m3 : ∀ (v821 : BitVec 32) (k0_hw15 : k0_chk15 v821), ∀ (r : Fin 2), (Rect.unit (s := S4096x4096) (k0_off62 v821 (BitVec.ofNat 32 (64 * r.val))) S64x4096.size (k0_off62_inb v821 k0_hw15 r)).WholeWords (EltTy.packing .fp8e4m3) := fun v821 k0_hw15 r => k0_hw15.2.1 r (k0_off62_inb v821 k0_hw15 r)
theorem k0_off66_inb : ∀ (v821 : BitVec 32) (k0_hw15 : k0_chk15 v821), ∀ a, (k0_off66 v821) a + S128x4096.size a ≤ S4096x4096.size a := fun v821 k0_hw15 => k0_hw15.2.2.1
theorem k0_off67_inb : ∀ (v821 : BitVec 32) (k0_hw15 : k0_chk15 v821), ∀ a, (k0_off67 v821) a + S128x64.size a ≤ S4096x64.size a := fun v821 k0_hw15 => k0_hw15.2.2.2.1
theorem k0_off73_inb : ∀ (v821 : BitVec 32) (k0_hw15 : k0_chk15 v821), ∀ (r : Fin 2), ∀ a, (k0_off73 v821 (BitVec.ofNat 32 (64 * r.val))) a + S64x4096.size a ≤ S4096x4096.size a := fun v821 k0_hw15 r => k0_hw15.2.2.2.2.1 r
theorem k0_off73_wordsfp8e4m3 : ∀ (v821 : BitVec 32) (k0_hw15 : k0_chk15 v821), ∀ (r : Fin 2), (Rect.unit (s := S4096x4096) (k0_off73 v821 (BitVec.ofNat 32 (64 * r.val))) S64x4096.size (k0_off73_inb v821 k0_hw15 r)).WholeWords (EltTy.packing .fp8e4m3) := fun v821 k0_hw15 r => k0_hw15.2.2.2.2.2 r (k0_off73_inb v821 k0_hw15 r)

def k0_dev34 (v13 : BitVec 32) : Nat :=
  let c0_i32_948 : BitVec 32 := 0#32
  let c1_i32_947 : BitVec 32 := 1#32
  let v989 : BitVec 32 := Scalar.muli v13 c1_i32_947
  let v990 : BitVec 32 := Scalar.addi c0_i32_948 v989
  v990.toNat
def k0_off74 (v907 : BitVec 32) : Fin 2 → Nat :=
  let c128_i32_958 : BitVec 32 := 128#32
  let v1001 : BitVec 32 := Scalar.muli v907 c128_i32_958
  let v1002 : Index := Scalar.indexCast v1001
  let c0_959 : Index := 0#32
  ![v1002.toNat, 0]
def k0_off75 (v907 : BitVec 32) : Fin 2 → Nat :=
  let c128_i32_966 : BitVec 32 := 128#32
  let v1016 : BitVec 32 := Scalar.muli v907 c128_i32_966
  let v1017 : Index := Scalar.indexCast v1016
  let c0_967 : Index := 0#32
  ![v1017.toNat, 0]
def k0_off76 (v956 : BitVec 32) : Fin 2 → Nat :=
  let c128_i32_968 : BitVec 32 := 128#32
  let v1019 : BitVec 32 := Scalar.muli v956 c128_i32_968
  let v1020 : Index := Scalar.indexCast v1019
  let c0_969 : Index := 0#32
  ![v1020.toNat, 0]
def k0_off77 (v956 : BitVec 32) : Fin 2 → Nat :=
  let c128_i32_976 : BitVec 32 := 128#32
  let v1034 : BitVec 32 := Scalar.muli v956 c128_i32_976
  let v1035 : Index := Scalar.indexCast v1034
  let c0_977 : Index := 0#32
  ![v1035.toNat, 0]
def k0_off78 (v4 : BitVec 32) : Fin 1 → Nat :=
  let c1_i32_978 : BitVec 32 := 1#32
  let v1037 : BitVec 32 := Scalar.subi v4 c1_i32_978
  let c7_i32_979 : BitVec 32 := 7#32
  let v1038 : BitVec 32 := Scalar.subi v1037 c7_i32_979
  let c64_i32_980 : BitVec 32 := 64#32
  let v1039 : BitVec 32 := Scalar.addi v1038 c64_i32_980
  let c32_i32_981 : BitVec 32 := 32#32
  let v1040 : BitVec 32 := Scalar.remsi v1039 c32_i32_981
  let v1041 : Index := Scalar.indexCast v1040
  ![v1041.toNat]
def k0_off79 (v1042 : BitVec 32) (c0_i32_983 : BitVec 32) : Fin 2 → Nat :=
  let c128_i32_982 : BitVec 32 := 128#32
  let v1043 : BitVec 32 := Scalar.muli v1042 c128_i32_982
  let v1044 : BitVec 32 := Scalar.addi v1043 c0_i32_983
  let c0_i32_989 : BitVec 32 := 0#32
  ![v1044.toNat, 0]

def k0_dev35 (v8 : BitVec 32) : Nat :=
  let c0_i32_997 : BitVec 32 := 0#32
  let c1_i32_996 : BitVec 32 := 1#32
  let v1053 : BitVec 32 := Scalar.muli v8 c1_i32_996
  let v1054 : BitVec 32 := Scalar.addi c0_i32_997 v1053
  v1054.toNat
def k0_off80 (v907 : BitVec 32) (c0_i32_862 : BitVec 32) : Fin 2 → Nat :=
  let c128_i32_861 : BitVec 32 := 128#32
  let v916 : BitVec 32 := Scalar.muli v907 c128_i32_861
  let v917 : BitVec 32 := Scalar.addi v916 c0_i32_862
  let c0_i32_1005 : BitVec 32 := 0#32
  ![v917.toNat, 0]

def k0_chk16 (v907 : BitVec 32) : Prop :=
  (∀ (r : Fin 2), ∀ a, (k0_off69 v907 (BitVec.ofNat 32 (64 * r.val))) a + S64x4096.size a ≤ S4096x4096.size a) ∧
  (∀ (r : Fin 2), ∀ (hinb : ∀ a, (k0_off69 v907 (BitVec.ofNat 32 (64 * r.val))) a + S64x4096.size a ≤ S4096x4096.size a), (Rect.unit (s := S4096x4096) (k0_off69 v907 (BitVec.ofNat 32 (64 * r.val))) S64x4096.size hinb).WholeWords (EltTy.packing .fp8e4m3)) ∧
  (∀ a, (k0_off74 v907) a + S128x4096.size a ≤ S4096x4096.size a) ∧
  (∀ a, (k0_off75 v907) a + S128x64.size a ≤ S4096x64.size a) ∧
  (∀ (r : Fin 2), ∀ a, (k0_off80 v907 (BitVec.ofNat 32 (64 * r.val))) a + S64x4096.size a ≤ S4096x4096.size a) ∧
  (∀ (r : Fin 2), ∀ (hinb : ∀ a, (k0_off80 v907 (BitVec.ofNat 32 (64 * r.val))) a + S64x4096.size a ≤ S4096x4096.size a), (Rect.unit (s := S4096x4096) (k0_off80 v907 (BitVec.ofNat 32 (64 * r.val))) S64x4096.size hinb).WholeWords (EltTy.packing .fp8e4m3))
theorem k0_off69_inb : ∀ (v907 : BitVec 32) (k0_hw16 : k0_chk16 v907), ∀ (r : Fin 2), ∀ a, (k0_off69 v907 (BitVec.ofNat 32 (64 * r.val))) a + S64x4096.size a ≤ S4096x4096.size a := fun v907 k0_hw16 r => k0_hw16.1 r
theorem k0_off69_wordsfp8e4m3 : ∀ (v907 : BitVec 32) (k0_hw16 : k0_chk16 v907), ∀ (r : Fin 2), (Rect.unit (s := S4096x4096) (k0_off69 v907 (BitVec.ofNat 32 (64 * r.val))) S64x4096.size (k0_off69_inb v907 k0_hw16 r)).WholeWords (EltTy.packing .fp8e4m3) := fun v907 k0_hw16 r => k0_hw16.2.1 r (k0_off69_inb v907 k0_hw16 r)
theorem k0_off74_inb : ∀ (v907 : BitVec 32) (k0_hw16 : k0_chk16 v907), ∀ a, (k0_off74 v907) a + S128x4096.size a ≤ S4096x4096.size a := fun v907 k0_hw16 => k0_hw16.2.2.1
theorem k0_off75_inb : ∀ (v907 : BitVec 32) (k0_hw16 : k0_chk16 v907), ∀ a, (k0_off75 v907) a + S128x64.size a ≤ S4096x64.size a := fun v907 k0_hw16 => k0_hw16.2.2.2.1
theorem k0_off80_inb : ∀ (v907 : BitVec 32) (k0_hw16 : k0_chk16 v907), ∀ (r : Fin 2), ∀ a, (k0_off80 v907 (BitVec.ofNat 32 (64 * r.val))) a + S64x4096.size a ≤ S4096x4096.size a := fun v907 k0_hw16 r => k0_hw16.2.2.2.2.1 r
theorem k0_off80_wordsfp8e4m3 : ∀ (v907 : BitVec 32) (k0_hw16 : k0_chk16 v907), ∀ (r : Fin 2), (Rect.unit (s := S4096x4096) (k0_off80 v907 (BitVec.ofNat 32 (64 * r.val))) S64x4096.size (k0_off80_inb v907 k0_hw16 r)).WholeWords (EltTy.packing .fp8e4m3) := fun v907 k0_hw16 r => k0_hw16.2.2.2.2.2 r (k0_off80_inb v907 k0_hw16 r)

def k0_dev36 (v8 : BitVec 32) : Nat :=
  let c0_i32_1023 : BitVec 32 := 0#32
  let c1_i32_1022 : BitVec 32 := 1#32
  let v1075 : BitVec 32 := Scalar.muli v8 c1_i32_1022
  let v1076 : BitVec 32 := Scalar.addi c0_i32_1023 v1075
  v1076.toNat
def k0_off81 (v4 : BitVec 32) : Fin 1 → Nat :=
  let c1_i32_1033 : BitVec 32 := 1#32
  let v1087 : BitVec 32 := Scalar.addi v4 c1_i32_1033
  let c7_i32_1034 : BitVec 32 := 7#32
  let v1088 : BitVec 32 := Scalar.addi v1087 c7_i32_1034
  let c32_i32_1035 : BitVec 32 := 32#32
  let v1089 : BitVec 32 := Scalar.remsi v1088 c32_i32_1035
  let v1090 : Index := Scalar.indexCast v1089
  ![v1090.toNat]
def k0_off82 (v1091 : BitVec 32) (c0_i32_1037 : BitVec 32) : Fin 2 → Nat :=
  let c128_i32_1036 : BitVec 32 := 128#32
  let v1092 : BitVec 32 := Scalar.muli v1091 c128_i32_1036
  let v1093 : BitVec 32 := Scalar.addi v1092 c0_i32_1037
  let c0_i32_1043 : BitVec 32 := 0#32
  ![v1093.toNat, 0]

def k0_dev37 (v13 : BitVec 32) : Nat :=
  let c0_i32_1052 : BitVec 32 := 0#32
  let c1_i32_1051 : BitVec 32 := 1#32
  let v1102 : BitVec 32 := Scalar.muli v13 c1_i32_1051
  let v1103 : BitVec 32 := Scalar.addi c0_i32_1052 v1102
  v1103.toNat
def k0_off83 (v956 : BitVec 32) (c0_i32_916 : BitVec 32) : Fin 2 → Nat :=
  let c128_i32_915 : BitVec 32 := 128#32
  let v965 : BitVec 32 := Scalar.muli v956 c128_i32_915
  let v966 : BitVec 32 := Scalar.addi v965 c0_i32_916
  let c0_i32_1060 : BitVec 32 := 0#32
  ![v966.toNat, 0]

def k0_chk17 (v956 : BitVec 32) : Prop :=
  (∀ (r : Fin 2), ∀ a, (k0_off72 v956 (BitVec.ofNat 32 (64 * r.val))) a + S64x4096.size a ≤ S4096x4096.size a) ∧
  (∀ (r : Fin 2), ∀ (hinb : ∀ a, (k0_off72 v956 (BitVec.ofNat 32 (64 * r.val))) a + S64x4096.size a ≤ S4096x4096.size a), (Rect.unit (s := S4096x4096) (k0_off72 v956 (BitVec.ofNat 32 (64 * r.val))) S64x4096.size hinb).WholeWords (EltTy.packing .fp8e4m3)) ∧
  (∀ a, (k0_off76 v956) a + S128x4096.size a ≤ S4096x4096.size a) ∧
  (∀ a, (k0_off77 v956) a + S128x64.size a ≤ S4096x64.size a) ∧
  (∀ (r : Fin 2), ∀ a, (k0_off83 v956 (BitVec.ofNat 32 (64 * r.val))) a + S64x4096.size a ≤ S4096x4096.size a) ∧
  (∀ (r : Fin 2), ∀ (hinb : ∀ a, (k0_off83 v956 (BitVec.ofNat 32 (64 * r.val))) a + S64x4096.size a ≤ S4096x4096.size a), (Rect.unit (s := S4096x4096) (k0_off83 v956 (BitVec.ofNat 32 (64 * r.val))) S64x4096.size hinb).WholeWords (EltTy.packing .fp8e4m3))
theorem k0_off72_inb : ∀ (v956 : BitVec 32) (k0_hw17 : k0_chk17 v956), ∀ (r : Fin 2), ∀ a, (k0_off72 v956 (BitVec.ofNat 32 (64 * r.val))) a + S64x4096.size a ≤ S4096x4096.size a := fun v956 k0_hw17 r => k0_hw17.1 r
theorem k0_off72_wordsfp8e4m3 : ∀ (v956 : BitVec 32) (k0_hw17 : k0_chk17 v956), ∀ (r : Fin 2), (Rect.unit (s := S4096x4096) (k0_off72 v956 (BitVec.ofNat 32 (64 * r.val))) S64x4096.size (k0_off72_inb v956 k0_hw17 r)).WholeWords (EltTy.packing .fp8e4m3) := fun v956 k0_hw17 r => k0_hw17.2.1 r (k0_off72_inb v956 k0_hw17 r)
theorem k0_off76_inb : ∀ (v956 : BitVec 32) (k0_hw17 : k0_chk17 v956), ∀ a, (k0_off76 v956) a + S128x4096.size a ≤ S4096x4096.size a := fun v956 k0_hw17 => k0_hw17.2.2.1
theorem k0_off77_inb : ∀ (v956 : BitVec 32) (k0_hw17 : k0_chk17 v956), ∀ a, (k0_off77 v956) a + S128x64.size a ≤ S4096x64.size a := fun v956 k0_hw17 => k0_hw17.2.2.2.1
theorem k0_off83_inb : ∀ (v956 : BitVec 32) (k0_hw17 : k0_chk17 v956), ∀ (r : Fin 2), ∀ a, (k0_off83 v956 (BitVec.ofNat 32 (64 * r.val))) a + S64x4096.size a ≤ S4096x4096.size a := fun v956 k0_hw17 r => k0_hw17.2.2.2.2.1 r
theorem k0_off83_wordsfp8e4m3 : ∀ (v956 : BitVec 32) (k0_hw17 : k0_chk17 v956), ∀ (r : Fin 2), (Rect.unit (s := S4096x4096) (k0_off83 v956 (BitVec.ofNat 32 (64 * r.val))) S64x4096.size (k0_off83_inb v956 k0_hw17 r)).WholeWords (EltTy.packing .fp8e4m3) := fun v956 k0_hw17 r => k0_hw17.2.2.2.2.2 r (k0_off83_inb v956 k0_hw17 r)

def k0_dev38 (v13 : BitVec 32) : Nat :=
  let c0_i32_1078 : BitVec 32 := 0#32
  let c1_i32_1077 : BitVec 32 := 1#32
  let v1124 : BitVec 32 := Scalar.muli v13 c1_i32_1077
  let v1125 : BitVec 32 := Scalar.addi c0_i32_1078 v1124
  v1125.toNat
def k0_off84 (v1042 : BitVec 32) : Fin 2 → Nat :=
  let c128_i32_1088 : BitVec 32 := 128#32
  let v1136 : BitVec 32 := Scalar.muli v1042 c128_i32_1088
  let v1137 : Index := Scalar.indexCast v1136
  let c0_1089 : Index := 0#32
  ![v1137.toNat, 0]
def k0_off85 (v1042 : BitVec 32) : Fin 2 → Nat :=
  let c128_i32_1096 : BitVec 32 := 128#32
  let v1151 : BitVec 32 := Scalar.muli v1042 c128_i32_1096
  let v1152 : Index := Scalar.indexCast v1151
  let c0_1097 : Index := 0#32
  ![v1152.toNat, 0]
def k0_off86 (v1091 : BitVec 32) : Fin 2 → Nat :=
  let c128_i32_1098 : BitVec 32 := 128#32
  let v1154 : BitVec 32 := Scalar.muli v1091 c128_i32_1098
  let v1155 : Index := Scalar.indexCast v1154
  let c0_1099 : Index := 0#32
  ![v1155.toNat, 0]
def k0_off87 (v1091 : BitVec 32) : Fin 2 → Nat :=
  let c128_i32_1106 : BitVec 32 := 128#32
  let v1169 : BitVec 32 := Scalar.muli v1091 c128_i32_1106
  let v1170 : Index := Scalar.indexCast v1169
  let c0_1107 : Index := 0#32
  ![v1170.toNat, 0]
def k0_off88 (v4 : BitVec 32) : Fin 1 → Nat :=
  let c1_i32_1108 : BitVec 32 := 1#32
  let v1172 : BitVec 32 := Scalar.subi v4 c1_i32_1108
  let c8_i32_1109 : BitVec 32 := 8#32
  let v1173 : BitVec 32 := Scalar.subi v1172 c8_i32_1109
  let c64_i32_1110 : BitVec 32 := 64#32
  let v1174 : BitVec 32 := Scalar.addi v1173 c64_i32_1110
  let c32_i32_1111 : BitVec 32 := 32#32
  let v1175 : BitVec 32 := Scalar.remsi v1174 c32_i32_1111
  let v1176 : Index := Scalar.indexCast v1175
  ![v1176.toNat]
def k0_off89 (v1177 : BitVec 32) (c0_i32_1113 : BitVec 32) : Fin 2 → Nat :=
  let c128_i32_1112 : BitVec 32 := 128#32
  let v1178 : BitVec 32 := Scalar.muli v1177 c128_i32_1112
  let v1179 : BitVec 32 := Scalar.addi v1178 c0_i32_1113
  let c0_i32_1119 : BitVec 32 := 0#32
  ![v1179.toNat, 0]

def k0_dev39 (v8 : BitVec 32) : Nat :=
  let c0_i32_1127 : BitVec 32 := 0#32
  let c1_i32_1126 : BitVec 32 := 1#32
  let v1188 : BitVec 32 := Scalar.muli v8 c1_i32_1126
  let v1189 : BitVec 32 := Scalar.addi c0_i32_1127 v1188
  v1189.toNat
def k0_off90 (v1042 : BitVec 32) (c0_i32_992 : BitVec 32) : Fin 2 → Nat :=
  let c128_i32_991 : BitVec 32 := 128#32
  let v1051 : BitVec 32 := Scalar.muli v1042 c128_i32_991
  let v1052 : BitVec 32 := Scalar.addi v1051 c0_i32_992
  let c0_i32_1135 : BitVec 32 := 0#32
  ![v1052.toNat, 0]

def k0_chk18 (v1042 : BitVec 32) : Prop :=
  (∀ (r : Fin 2), ∀ a, (k0_off79 v1042 (BitVec.ofNat 32 (64 * r.val))) a + S64x4096.size a ≤ S4096x4096.size a) ∧
  (∀ (r : Fin 2), ∀ (hinb : ∀ a, (k0_off79 v1042 (BitVec.ofNat 32 (64 * r.val))) a + S64x4096.size a ≤ S4096x4096.size a), (Rect.unit (s := S4096x4096) (k0_off79 v1042 (BitVec.ofNat 32 (64 * r.val))) S64x4096.size hinb).WholeWords (EltTy.packing .fp8e4m3)) ∧
  (∀ a, (k0_off84 v1042) a + S128x4096.size a ≤ S4096x4096.size a) ∧
  (∀ a, (k0_off85 v1042) a + S128x64.size a ≤ S4096x64.size a) ∧
  (∀ (r : Fin 2), ∀ a, (k0_off90 v1042 (BitVec.ofNat 32 (64 * r.val))) a + S64x4096.size a ≤ S4096x4096.size a) ∧
  (∀ (r : Fin 2), ∀ (hinb : ∀ a, (k0_off90 v1042 (BitVec.ofNat 32 (64 * r.val))) a + S64x4096.size a ≤ S4096x4096.size a), (Rect.unit (s := S4096x4096) (k0_off90 v1042 (BitVec.ofNat 32 (64 * r.val))) S64x4096.size hinb).WholeWords (EltTy.packing .fp8e4m3))
theorem k0_off79_inb : ∀ (v1042 : BitVec 32) (k0_hw18 : k0_chk18 v1042), ∀ (r : Fin 2), ∀ a, (k0_off79 v1042 (BitVec.ofNat 32 (64 * r.val))) a + S64x4096.size a ≤ S4096x4096.size a := fun v1042 k0_hw18 r => k0_hw18.1 r
theorem k0_off79_wordsfp8e4m3 : ∀ (v1042 : BitVec 32) (k0_hw18 : k0_chk18 v1042), ∀ (r : Fin 2), (Rect.unit (s := S4096x4096) (k0_off79 v1042 (BitVec.ofNat 32 (64 * r.val))) S64x4096.size (k0_off79_inb v1042 k0_hw18 r)).WholeWords (EltTy.packing .fp8e4m3) := fun v1042 k0_hw18 r => k0_hw18.2.1 r (k0_off79_inb v1042 k0_hw18 r)
theorem k0_off84_inb : ∀ (v1042 : BitVec 32) (k0_hw18 : k0_chk18 v1042), ∀ a, (k0_off84 v1042) a + S128x4096.size a ≤ S4096x4096.size a := fun v1042 k0_hw18 => k0_hw18.2.2.1
theorem k0_off85_inb : ∀ (v1042 : BitVec 32) (k0_hw18 : k0_chk18 v1042), ∀ a, (k0_off85 v1042) a + S128x64.size a ≤ S4096x64.size a := fun v1042 k0_hw18 => k0_hw18.2.2.2.1
theorem k0_off90_inb : ∀ (v1042 : BitVec 32) (k0_hw18 : k0_chk18 v1042), ∀ (r : Fin 2), ∀ a, (k0_off90 v1042 (BitVec.ofNat 32 (64 * r.val))) a + S64x4096.size a ≤ S4096x4096.size a := fun v1042 k0_hw18 r => k0_hw18.2.2.2.2.1 r
theorem k0_off90_wordsfp8e4m3 : ∀ (v1042 : BitVec 32) (k0_hw18 : k0_chk18 v1042), ∀ (r : Fin 2), (Rect.unit (s := S4096x4096) (k0_off90 v1042 (BitVec.ofNat 32 (64 * r.val))) S64x4096.size (k0_off90_inb v1042 k0_hw18 r)).WholeWords (EltTy.packing .fp8e4m3) := fun v1042 k0_hw18 r => k0_hw18.2.2.2.2.2 r (k0_off90_inb v1042 k0_hw18 r)

def k0_dev40 (v8 : BitVec 32) : Nat :=
  let c0_i32_1153 : BitVec 32 := 0#32
  let c1_i32_1152 : BitVec 32 := 1#32
  let v1210 : BitVec 32 := Scalar.muli v8 c1_i32_1152
  let v1211 : BitVec 32 := Scalar.addi c0_i32_1153 v1210
  v1211.toNat
def k0_off91 (v4 : BitVec 32) : Fin 1 → Nat :=
  let c1_i32_1163 : BitVec 32 := 1#32
  let v1222 : BitVec 32 := Scalar.addi v4 c1_i32_1163
  let c8_i32_1164 : BitVec 32 := 8#32
  let v1223 : BitVec 32 := Scalar.addi v1222 c8_i32_1164
  let c32_i32_1165 : BitVec 32 := 32#32
  let v1224 : BitVec 32 := Scalar.remsi v1223 c32_i32_1165
  let v1225 : Index := Scalar.indexCast v1224
  ![v1225.toNat]
def k0_off92 (v1226 : BitVec 32) (c0_i32_1167 : BitVec 32) : Fin 2 → Nat :=
  let c128_i32_1166 : BitVec 32 := 128#32
  let v1227 : BitVec 32 := Scalar.muli v1226 c128_i32_1166
  let v1228 : BitVec 32 := Scalar.addi v1227 c0_i32_1167
  let c0_i32_1173 : BitVec 32 := 0#32
  ![v1228.toNat, 0]

def k0_dev41 (v13 : BitVec 32) : Nat :=
  let c0_i32_1182 : BitVec 32 := 0#32
  let c1_i32_1181 : BitVec 32 := 1#32
  let v1237 : BitVec 32 := Scalar.muli v13 c1_i32_1181
  let v1238 : BitVec 32 := Scalar.addi c0_i32_1182 v1237
  v1238.toNat
def k0_off93 (v1091 : BitVec 32) (c0_i32_1046 : BitVec 32) : Fin 2 → Nat :=
  let c128_i32_1045 : BitVec 32 := 128#32
  let v1100 : BitVec 32 := Scalar.muli v1091 c128_i32_1045
  let v1101 : BitVec 32 := Scalar.addi v1100 c0_i32_1046
  let c0_i32_1190 : BitVec 32 := 0#32
  ![v1101.toNat, 0]

def k0_chk19 (v1091 : BitVec 32) : Prop :=
  (∀ (r : Fin 2), ∀ a, (k0_off82 v1091 (BitVec.ofNat 32 (64 * r.val))) a + S64x4096.size a ≤ S4096x4096.size a) ∧
  (∀ (r : Fin 2), ∀ (hinb : ∀ a, (k0_off82 v1091 (BitVec.ofNat 32 (64 * r.val))) a + S64x4096.size a ≤ S4096x4096.size a), (Rect.unit (s := S4096x4096) (k0_off82 v1091 (BitVec.ofNat 32 (64 * r.val))) S64x4096.size hinb).WholeWords (EltTy.packing .fp8e4m3)) ∧
  (∀ a, (k0_off86 v1091) a + S128x4096.size a ≤ S4096x4096.size a) ∧
  (∀ a, (k0_off87 v1091) a + S128x64.size a ≤ S4096x64.size a) ∧
  (∀ (r : Fin 2), ∀ a, (k0_off93 v1091 (BitVec.ofNat 32 (64 * r.val))) a + S64x4096.size a ≤ S4096x4096.size a) ∧
  (∀ (r : Fin 2), ∀ (hinb : ∀ a, (k0_off93 v1091 (BitVec.ofNat 32 (64 * r.val))) a + S64x4096.size a ≤ S4096x4096.size a), (Rect.unit (s := S4096x4096) (k0_off93 v1091 (BitVec.ofNat 32 (64 * r.val))) S64x4096.size hinb).WholeWords (EltTy.packing .fp8e4m3))
theorem k0_off82_inb : ∀ (v1091 : BitVec 32) (k0_hw19 : k0_chk19 v1091), ∀ (r : Fin 2), ∀ a, (k0_off82 v1091 (BitVec.ofNat 32 (64 * r.val))) a + S64x4096.size a ≤ S4096x4096.size a := fun v1091 k0_hw19 r => k0_hw19.1 r
theorem k0_off82_wordsfp8e4m3 : ∀ (v1091 : BitVec 32) (k0_hw19 : k0_chk19 v1091), ∀ (r : Fin 2), (Rect.unit (s := S4096x4096) (k0_off82 v1091 (BitVec.ofNat 32 (64 * r.val))) S64x4096.size (k0_off82_inb v1091 k0_hw19 r)).WholeWords (EltTy.packing .fp8e4m3) := fun v1091 k0_hw19 r => k0_hw19.2.1 r (k0_off82_inb v1091 k0_hw19 r)
theorem k0_off86_inb : ∀ (v1091 : BitVec 32) (k0_hw19 : k0_chk19 v1091), ∀ a, (k0_off86 v1091) a + S128x4096.size a ≤ S4096x4096.size a := fun v1091 k0_hw19 => k0_hw19.2.2.1
theorem k0_off87_inb : ∀ (v1091 : BitVec 32) (k0_hw19 : k0_chk19 v1091), ∀ a, (k0_off87 v1091) a + S128x64.size a ≤ S4096x64.size a := fun v1091 k0_hw19 => k0_hw19.2.2.2.1
theorem k0_off93_inb : ∀ (v1091 : BitVec 32) (k0_hw19 : k0_chk19 v1091), ∀ (r : Fin 2), ∀ a, (k0_off93 v1091 (BitVec.ofNat 32 (64 * r.val))) a + S64x4096.size a ≤ S4096x4096.size a := fun v1091 k0_hw19 r => k0_hw19.2.2.2.2.1 r
theorem k0_off93_wordsfp8e4m3 : ∀ (v1091 : BitVec 32) (k0_hw19 : k0_chk19 v1091), ∀ (r : Fin 2), (Rect.unit (s := S4096x4096) (k0_off93 v1091 (BitVec.ofNat 32 (64 * r.val))) S64x4096.size (k0_off93_inb v1091 k0_hw19 r)).WholeWords (EltTy.packing .fp8e4m3) := fun v1091 k0_hw19 r => k0_hw19.2.2.2.2.2 r (k0_off93_inb v1091 k0_hw19 r)

def k0_dev42 (v13 : BitVec 32) : Nat :=
  let c0_i32_1208 : BitVec 32 := 0#32
  let c1_i32_1207 : BitVec 32 := 1#32
  let v1259 : BitVec 32 := Scalar.muli v13 c1_i32_1207
  let v1260 : BitVec 32 := Scalar.addi c0_i32_1208 v1259
  v1260.toNat
def k0_off94 (v1177 : BitVec 32) : Fin 2 → Nat :=
  let c128_i32_1218 : BitVec 32 := 128#32
  let v1271 : BitVec 32 := Scalar.muli v1177 c128_i32_1218
  let v1272 : Index := Scalar.indexCast v1271
  let c0_1219 : Index := 0#32
  ![v1272.toNat, 0]
def k0_off95 (v1177 : BitVec 32) : Fin 2 → Nat :=
  let c128_i32_1226 : BitVec 32 := 128#32
  let v1286 : BitVec 32 := Scalar.muli v1177 c128_i32_1226
  let v1287 : Index := Scalar.indexCast v1286
  let c0_1227 : Index := 0#32
  ![v1287.toNat, 0]
def k0_off96 (v1226 : BitVec 32) : Fin 2 → Nat :=
  let c128_i32_1228 : BitVec 32 := 128#32
  let v1289 : BitVec 32 := Scalar.muli v1226 c128_i32_1228
  let v1290 : Index := Scalar.indexCast v1289
  let c0_1229 : Index := 0#32
  ![v1290.toNat, 0]
def k0_off97 (v1226 : BitVec 32) : Fin 2 → Nat :=
  let c128_i32_1236 : BitVec 32 := 128#32
  let v1304 : BitVec 32 := Scalar.muli v1226 c128_i32_1236
  let v1305 : Index := Scalar.indexCast v1304
  let c0_1237 : Index := 0#32
  ![v1305.toNat, 0]
def k0_off98 (v4 : BitVec 32) : Fin 1 → Nat :=
  let c1_i32_1238 : BitVec 32 := 1#32
  let v1307 : BitVec 32 := Scalar.subi v4 c1_i32_1238
  let c9_i32_1239 : BitVec 32 := 9#32
  let v1308 : BitVec 32 := Scalar.subi v1307 c9_i32_1239
  let c64_i32_1240 : BitVec 32 := 64#32
  let v1309 : BitVec 32 := Scalar.addi v1308 c64_i32_1240
  let c32_i32_1241 : BitVec 32 := 32#32
  let v1310 : BitVec 32 := Scalar.remsi v1309 c32_i32_1241
  let v1311 : Index := Scalar.indexCast v1310
  ![v1311.toNat]
def k0_off99 (v1312 : BitVec 32) (c0_i32_1243 : BitVec 32) : Fin 2 → Nat :=
  let c128_i32_1242 : BitVec 32 := 128#32
  let v1313 : BitVec 32 := Scalar.muli v1312 c128_i32_1242
  let v1314 : BitVec 32 := Scalar.addi v1313 c0_i32_1243
  let c0_i32_1249 : BitVec 32 := 0#32
  ![v1314.toNat, 0]

def k0_dev43 (v8 : BitVec 32) : Nat :=
  let c0_i32_1257 : BitVec 32 := 0#32
  let c1_i32_1256 : BitVec 32 := 1#32
  let v1323 : BitVec 32 := Scalar.muli v8 c1_i32_1256
  let v1324 : BitVec 32 := Scalar.addi c0_i32_1257 v1323
  v1324.toNat
def k0_off100 (v1177 : BitVec 32) (c0_i32_1122 : BitVec 32) : Fin 2 → Nat :=
  let c128_i32_1121 : BitVec 32 := 128#32
  let v1186 : BitVec 32 := Scalar.muli v1177 c128_i32_1121
  let v1187 : BitVec 32 := Scalar.addi v1186 c0_i32_1122
  let c0_i32_1265 : BitVec 32 := 0#32
  ![v1187.toNat, 0]

def k0_chk20 (v1177 : BitVec 32) : Prop :=
  (∀ (r : Fin 2), ∀ a, (k0_off89 v1177 (BitVec.ofNat 32 (64 * r.val))) a + S64x4096.size a ≤ S4096x4096.size a) ∧
  (∀ (r : Fin 2), ∀ (hinb : ∀ a, (k0_off89 v1177 (BitVec.ofNat 32 (64 * r.val))) a + S64x4096.size a ≤ S4096x4096.size a), (Rect.unit (s := S4096x4096) (k0_off89 v1177 (BitVec.ofNat 32 (64 * r.val))) S64x4096.size hinb).WholeWords (EltTy.packing .fp8e4m3)) ∧
  (∀ a, (k0_off94 v1177) a + S128x4096.size a ≤ S4096x4096.size a) ∧
  (∀ a, (k0_off95 v1177) a + S128x64.size a ≤ S4096x64.size a) ∧
  (∀ (r : Fin 2), ∀ a, (k0_off100 v1177 (BitVec.ofNat 32 (64 * r.val))) a + S64x4096.size a ≤ S4096x4096.size a) ∧
  (∀ (r : Fin 2), ∀ (hinb : ∀ a, (k0_off100 v1177 (BitVec.ofNat 32 (64 * r.val))) a + S64x4096.size a ≤ S4096x4096.size a), (Rect.unit (s := S4096x4096) (k0_off100 v1177 (BitVec.ofNat 32 (64 * r.val))) S64x4096.size hinb).WholeWords (EltTy.packing .fp8e4m3))
theorem k0_off89_inb : ∀ (v1177 : BitVec 32) (k0_hw20 : k0_chk20 v1177), ∀ (r : Fin 2), ∀ a, (k0_off89 v1177 (BitVec.ofNat 32 (64 * r.val))) a + S64x4096.size a ≤ S4096x4096.size a := fun v1177 k0_hw20 r => k0_hw20.1 r
theorem k0_off89_wordsfp8e4m3 : ∀ (v1177 : BitVec 32) (k0_hw20 : k0_chk20 v1177), ∀ (r : Fin 2), (Rect.unit (s := S4096x4096) (k0_off89 v1177 (BitVec.ofNat 32 (64 * r.val))) S64x4096.size (k0_off89_inb v1177 k0_hw20 r)).WholeWords (EltTy.packing .fp8e4m3) := fun v1177 k0_hw20 r => k0_hw20.2.1 r (k0_off89_inb v1177 k0_hw20 r)
theorem k0_off94_inb : ∀ (v1177 : BitVec 32) (k0_hw20 : k0_chk20 v1177), ∀ a, (k0_off94 v1177) a + S128x4096.size a ≤ S4096x4096.size a := fun v1177 k0_hw20 => k0_hw20.2.2.1
theorem k0_off95_inb : ∀ (v1177 : BitVec 32) (k0_hw20 : k0_chk20 v1177), ∀ a, (k0_off95 v1177) a + S128x64.size a ≤ S4096x64.size a := fun v1177 k0_hw20 => k0_hw20.2.2.2.1
theorem k0_off100_inb : ∀ (v1177 : BitVec 32) (k0_hw20 : k0_chk20 v1177), ∀ (r : Fin 2), ∀ a, (k0_off100 v1177 (BitVec.ofNat 32 (64 * r.val))) a + S64x4096.size a ≤ S4096x4096.size a := fun v1177 k0_hw20 r => k0_hw20.2.2.2.2.1 r
theorem k0_off100_wordsfp8e4m3 : ∀ (v1177 : BitVec 32) (k0_hw20 : k0_chk20 v1177), ∀ (r : Fin 2), (Rect.unit (s := S4096x4096) (k0_off100 v1177 (BitVec.ofNat 32 (64 * r.val))) S64x4096.size (k0_off100_inb v1177 k0_hw20 r)).WholeWords (EltTy.packing .fp8e4m3) := fun v1177 k0_hw20 r => k0_hw20.2.2.2.2.2 r (k0_off100_inb v1177 k0_hw20 r)

def k0_dev44 (v8 : BitVec 32) : Nat :=
  let c0_i32_1283 : BitVec 32 := 0#32
  let c1_i32_1282 : BitVec 32 := 1#32
  let v1345 : BitVec 32 := Scalar.muli v8 c1_i32_1282
  let v1346 : BitVec 32 := Scalar.addi c0_i32_1283 v1345
  v1346.toNat
def k0_off101 (v4 : BitVec 32) : Fin 1 → Nat :=
  let c1_i32_1293 : BitVec 32 := 1#32
  let v1357 : BitVec 32 := Scalar.addi v4 c1_i32_1293
  let c9_i32_1294 : BitVec 32 := 9#32
  let v1358 : BitVec 32 := Scalar.addi v1357 c9_i32_1294
  let c32_i32_1295 : BitVec 32 := 32#32
  let v1359 : BitVec 32 := Scalar.remsi v1358 c32_i32_1295
  let v1360 : Index := Scalar.indexCast v1359
  ![v1360.toNat]
def k0_off102 (v1361 : BitVec 32) (c0_i32_1297 : BitVec 32) : Fin 2 → Nat :=
  let c128_i32_1296 : BitVec 32 := 128#32
  let v1362 : BitVec 32 := Scalar.muli v1361 c128_i32_1296
  let v1363 : BitVec 32 := Scalar.addi v1362 c0_i32_1297
  let c0_i32_1303 : BitVec 32 := 0#32
  ![v1363.toNat, 0]

def k0_dev45 (v13 : BitVec 32) : Nat :=
  let c0_i32_1312 : BitVec 32 := 0#32
  let c1_i32_1311 : BitVec 32 := 1#32
  let v1372 : BitVec 32 := Scalar.muli v13 c1_i32_1311
  let v1373 : BitVec 32 := Scalar.addi c0_i32_1312 v1372
  v1373.toNat
def k0_off103 (v1226 : BitVec 32) (c0_i32_1176 : BitVec 32) : Fin 2 → Nat :=
  let c128_i32_1175 : BitVec 32 := 128#32
  let v1235 : BitVec 32 := Scalar.muli v1226 c128_i32_1175
  let v1236 : BitVec 32 := Scalar.addi v1235 c0_i32_1176
  let c0_i32_1320 : BitVec 32 := 0#32
  ![v1236.toNat, 0]

def k0_chk21 (v1226 : BitVec 32) : Prop :=
  (∀ (r : Fin 2), ∀ a, (k0_off92 v1226 (BitVec.ofNat 32 (64 * r.val))) a + S64x4096.size a ≤ S4096x4096.size a) ∧
  (∀ (r : Fin 2), ∀ (hinb : ∀ a, (k0_off92 v1226 (BitVec.ofNat 32 (64 * r.val))) a + S64x4096.size a ≤ S4096x4096.size a), (Rect.unit (s := S4096x4096) (k0_off92 v1226 (BitVec.ofNat 32 (64 * r.val))) S64x4096.size hinb).WholeWords (EltTy.packing .fp8e4m3)) ∧
  (∀ a, (k0_off96 v1226) a + S128x4096.size a ≤ S4096x4096.size a) ∧
  (∀ a, (k0_off97 v1226) a + S128x64.size a ≤ S4096x64.size a) ∧
  (∀ (r : Fin 2), ∀ a, (k0_off103 v1226 (BitVec.ofNat 32 (64 * r.val))) a + S64x4096.size a ≤ S4096x4096.size a) ∧
  (∀ (r : Fin 2), ∀ (hinb : ∀ a, (k0_off103 v1226 (BitVec.ofNat 32 (64 * r.val))) a + S64x4096.size a ≤ S4096x4096.size a), (Rect.unit (s := S4096x4096) (k0_off103 v1226 (BitVec.ofNat 32 (64 * r.val))) S64x4096.size hinb).WholeWords (EltTy.packing .fp8e4m3))
theorem k0_off92_inb : ∀ (v1226 : BitVec 32) (k0_hw21 : k0_chk21 v1226), ∀ (r : Fin 2), ∀ a, (k0_off92 v1226 (BitVec.ofNat 32 (64 * r.val))) a + S64x4096.size a ≤ S4096x4096.size a := fun v1226 k0_hw21 r => k0_hw21.1 r
theorem k0_off92_wordsfp8e4m3 : ∀ (v1226 : BitVec 32) (k0_hw21 : k0_chk21 v1226), ∀ (r : Fin 2), (Rect.unit (s := S4096x4096) (k0_off92 v1226 (BitVec.ofNat 32 (64 * r.val))) S64x4096.size (k0_off92_inb v1226 k0_hw21 r)).WholeWords (EltTy.packing .fp8e4m3) := fun v1226 k0_hw21 r => k0_hw21.2.1 r (k0_off92_inb v1226 k0_hw21 r)
theorem k0_off96_inb : ∀ (v1226 : BitVec 32) (k0_hw21 : k0_chk21 v1226), ∀ a, (k0_off96 v1226) a + S128x4096.size a ≤ S4096x4096.size a := fun v1226 k0_hw21 => k0_hw21.2.2.1
theorem k0_off97_inb : ∀ (v1226 : BitVec 32) (k0_hw21 : k0_chk21 v1226), ∀ a, (k0_off97 v1226) a + S128x64.size a ≤ S4096x64.size a := fun v1226 k0_hw21 => k0_hw21.2.2.2.1
theorem k0_off103_inb : ∀ (v1226 : BitVec 32) (k0_hw21 : k0_chk21 v1226), ∀ (r : Fin 2), ∀ a, (k0_off103 v1226 (BitVec.ofNat 32 (64 * r.val))) a + S64x4096.size a ≤ S4096x4096.size a := fun v1226 k0_hw21 r => k0_hw21.2.2.2.2.1 r
theorem k0_off103_wordsfp8e4m3 : ∀ (v1226 : BitVec 32) (k0_hw21 : k0_chk21 v1226), ∀ (r : Fin 2), (Rect.unit (s := S4096x4096) (k0_off103 v1226 (BitVec.ofNat 32 (64 * r.val))) S64x4096.size (k0_off103_inb v1226 k0_hw21 r)).WholeWords (EltTy.packing .fp8e4m3) := fun v1226 k0_hw21 r => k0_hw21.2.2.2.2.2 r (k0_off103_inb v1226 k0_hw21 r)

def k0_dev46 (v13 : BitVec 32) : Nat :=
  let c0_i32_1338 : BitVec 32 := 0#32
  let c1_i32_1337 : BitVec 32 := 1#32
  let v1394 : BitVec 32 := Scalar.muli v13 c1_i32_1337
  let v1395 : BitVec 32 := Scalar.addi c0_i32_1338 v1394
  v1395.toNat
def k0_off104 (v1312 : BitVec 32) : Fin 2 → Nat :=
  let c128_i32_1348 : BitVec 32 := 128#32
  let v1406 : BitVec 32 := Scalar.muli v1312 c128_i32_1348
  let v1407 : Index := Scalar.indexCast v1406
  let c0_1349 : Index := 0#32
  ![v1407.toNat, 0]
def k0_off105 (v1312 : BitVec 32) : Fin 2 → Nat :=
  let c128_i32_1356 : BitVec 32 := 128#32
  let v1421 : BitVec 32 := Scalar.muli v1312 c128_i32_1356
  let v1422 : Index := Scalar.indexCast v1421
  let c0_1357 : Index := 0#32
  ![v1422.toNat, 0]
def k0_off106 (v1361 : BitVec 32) : Fin 2 → Nat :=
  let c128_i32_1358 : BitVec 32 := 128#32
  let v1424 : BitVec 32 := Scalar.muli v1361 c128_i32_1358
  let v1425 : Index := Scalar.indexCast v1424
  let c0_1359 : Index := 0#32
  ![v1425.toNat, 0]
def k0_off107 (v1361 : BitVec 32) : Fin 2 → Nat :=
  let c128_i32_1366 : BitVec 32 := 128#32
  let v1439 : BitVec 32 := Scalar.muli v1361 c128_i32_1366
  let v1440 : Index := Scalar.indexCast v1439
  let c0_1367 : Index := 0#32
  ![v1440.toNat, 0]
def k0_off108 (v4 : BitVec 32) : Fin 1 → Nat :=
  let c1_i32_1368 : BitVec 32 := 1#32
  let v1442 : BitVec 32 := Scalar.subi v4 c1_i32_1368
  let c10_i32_1369 : BitVec 32 := 10#32
  let v1443 : BitVec 32 := Scalar.subi v1442 c10_i32_1369
  let c64_i32_1370 : BitVec 32 := 64#32
  let v1444 : BitVec 32 := Scalar.addi v1443 c64_i32_1370
  let c32_i32_1371 : BitVec 32 := 32#32
  let v1445 : BitVec 32 := Scalar.remsi v1444 c32_i32_1371
  let v1446 : Index := Scalar.indexCast v1445
  ![v1446.toNat]
def k0_off109 (v1447 : BitVec 32) (c0_i32_1373 : BitVec 32) : Fin 2 → Nat :=
  let c128_i32_1372 : BitVec 32 := 128#32
  let v1448 : BitVec 32 := Scalar.muli v1447 c128_i32_1372
  let v1449 : BitVec 32 := Scalar.addi v1448 c0_i32_1373
  let c0_i32_1379 : BitVec 32 := 0#32
  ![v1449.toNat, 0]

def k0_dev47 (v8 : BitVec 32) : Nat :=
  let c0_i32_1387 : BitVec 32 := 0#32
  let c1_i32_1386 : BitVec 32 := 1#32
  let v1458 : BitVec 32 := Scalar.muli v8 c1_i32_1386
  let v1459 : BitVec 32 := Scalar.addi c0_i32_1387 v1458
  v1459.toNat
def k0_off110 (v1312 : BitVec 32) (c0_i32_1252 : BitVec 32) : Fin 2 → Nat :=
  let c128_i32_1251 : BitVec 32 := 128#32
  let v1321 : BitVec 32 := Scalar.muli v1312 c128_i32_1251
  let v1322 : BitVec 32 := Scalar.addi v1321 c0_i32_1252
  let c0_i32_1395 : BitVec 32 := 0#32
  ![v1322.toNat, 0]

def k0_chk22 (v1312 : BitVec 32) : Prop :=
  (∀ (r : Fin 2), ∀ a, (k0_off99 v1312 (BitVec.ofNat 32 (64 * r.val))) a + S64x4096.size a ≤ S4096x4096.size a) ∧
  (∀ (r : Fin 2), ∀ (hinb : ∀ a, (k0_off99 v1312 (BitVec.ofNat 32 (64 * r.val))) a + S64x4096.size a ≤ S4096x4096.size a), (Rect.unit (s := S4096x4096) (k0_off99 v1312 (BitVec.ofNat 32 (64 * r.val))) S64x4096.size hinb).WholeWords (EltTy.packing .fp8e4m3)) ∧
  (∀ a, (k0_off104 v1312) a + S128x4096.size a ≤ S4096x4096.size a) ∧
  (∀ a, (k0_off105 v1312) a + S128x64.size a ≤ S4096x64.size a) ∧
  (∀ (r : Fin 2), ∀ a, (k0_off110 v1312 (BitVec.ofNat 32 (64 * r.val))) a + S64x4096.size a ≤ S4096x4096.size a) ∧
  (∀ (r : Fin 2), ∀ (hinb : ∀ a, (k0_off110 v1312 (BitVec.ofNat 32 (64 * r.val))) a + S64x4096.size a ≤ S4096x4096.size a), (Rect.unit (s := S4096x4096) (k0_off110 v1312 (BitVec.ofNat 32 (64 * r.val))) S64x4096.size hinb).WholeWords (EltTy.packing .fp8e4m3))
theorem k0_off99_inb : ∀ (v1312 : BitVec 32) (k0_hw22 : k0_chk22 v1312), ∀ (r : Fin 2), ∀ a, (k0_off99 v1312 (BitVec.ofNat 32 (64 * r.val))) a + S64x4096.size a ≤ S4096x4096.size a := fun v1312 k0_hw22 r => k0_hw22.1 r
theorem k0_off99_wordsfp8e4m3 : ∀ (v1312 : BitVec 32) (k0_hw22 : k0_chk22 v1312), ∀ (r : Fin 2), (Rect.unit (s := S4096x4096) (k0_off99 v1312 (BitVec.ofNat 32 (64 * r.val))) S64x4096.size (k0_off99_inb v1312 k0_hw22 r)).WholeWords (EltTy.packing .fp8e4m3) := fun v1312 k0_hw22 r => k0_hw22.2.1 r (k0_off99_inb v1312 k0_hw22 r)
theorem k0_off104_inb : ∀ (v1312 : BitVec 32) (k0_hw22 : k0_chk22 v1312), ∀ a, (k0_off104 v1312) a + S128x4096.size a ≤ S4096x4096.size a := fun v1312 k0_hw22 => k0_hw22.2.2.1
theorem k0_off105_inb : ∀ (v1312 : BitVec 32) (k0_hw22 : k0_chk22 v1312), ∀ a, (k0_off105 v1312) a + S128x64.size a ≤ S4096x64.size a := fun v1312 k0_hw22 => k0_hw22.2.2.2.1
theorem k0_off110_inb : ∀ (v1312 : BitVec 32) (k0_hw22 : k0_chk22 v1312), ∀ (r : Fin 2), ∀ a, (k0_off110 v1312 (BitVec.ofNat 32 (64 * r.val))) a + S64x4096.size a ≤ S4096x4096.size a := fun v1312 k0_hw22 r => k0_hw22.2.2.2.2.1 r
theorem k0_off110_wordsfp8e4m3 : ∀ (v1312 : BitVec 32) (k0_hw22 : k0_chk22 v1312), ∀ (r : Fin 2), (Rect.unit (s := S4096x4096) (k0_off110 v1312 (BitVec.ofNat 32 (64 * r.val))) S64x4096.size (k0_off110_inb v1312 k0_hw22 r)).WholeWords (EltTy.packing .fp8e4m3) := fun v1312 k0_hw22 r => k0_hw22.2.2.2.2.2 r (k0_off110_inb v1312 k0_hw22 r)

def k0_dev48 (v8 : BitVec 32) : Nat :=
  let c0_i32_1413 : BitVec 32 := 0#32
  let c1_i32_1412 : BitVec 32 := 1#32
  let v1480 : BitVec 32 := Scalar.muli v8 c1_i32_1412
  let v1481 : BitVec 32 := Scalar.addi c0_i32_1413 v1480
  v1481.toNat
def k0_off111 (v4 : BitVec 32) : Fin 1 → Nat :=
  let c1_i32_1423 : BitVec 32 := 1#32
  let v1492 : BitVec 32 := Scalar.addi v4 c1_i32_1423
  let c10_i32_1424 : BitVec 32 := 10#32
  let v1493 : BitVec 32 := Scalar.addi v1492 c10_i32_1424
  let c32_i32_1425 : BitVec 32 := 32#32
  let v1494 : BitVec 32 := Scalar.remsi v1493 c32_i32_1425
  let v1495 : Index := Scalar.indexCast v1494
  ![v1495.toNat]
def k0_off112 (v1496 : BitVec 32) (c0_i32_1427 : BitVec 32) : Fin 2 → Nat :=
  let c128_i32_1426 : BitVec 32 := 128#32
  let v1497 : BitVec 32 := Scalar.muli v1496 c128_i32_1426
  let v1498 : BitVec 32 := Scalar.addi v1497 c0_i32_1427
  let c0_i32_1433 : BitVec 32 := 0#32
  ![v1498.toNat, 0]

def k0_dev49 (v13 : BitVec 32) : Nat :=
  let c0_i32_1442 : BitVec 32 := 0#32
  let c1_i32_1441 : BitVec 32 := 1#32
  let v1507 : BitVec 32 := Scalar.muli v13 c1_i32_1441
  let v1508 : BitVec 32 := Scalar.addi c0_i32_1442 v1507
  v1508.toNat
def k0_off113 (v1361 : BitVec 32) (c0_i32_1306 : BitVec 32) : Fin 2 → Nat :=
  let c128_i32_1305 : BitVec 32 := 128#32
  let v1370 : BitVec 32 := Scalar.muli v1361 c128_i32_1305
  let v1371 : BitVec 32 := Scalar.addi v1370 c0_i32_1306
  let c0_i32_1450 : BitVec 32 := 0#32
  ![v1371.toNat, 0]

def k0_chk23 (v1361 : BitVec 32) : Prop :=
  (∀ (r : Fin 2), ∀ a, (k0_off102 v1361 (BitVec.ofNat 32 (64 * r.val))) a + S64x4096.size a ≤ S4096x4096.size a) ∧
  (∀ (r : Fin 2), ∀ (hinb : ∀ a, (k0_off102 v1361 (BitVec.ofNat 32 (64 * r.val))) a + S64x4096.size a ≤ S4096x4096.size a), (Rect.unit (s := S4096x4096) (k0_off102 v1361 (BitVec.ofNat 32 (64 * r.val))) S64x4096.size hinb).WholeWords (EltTy.packing .fp8e4m3)) ∧
  (∀ a, (k0_off106 v1361) a + S128x4096.size a ≤ S4096x4096.size a) ∧
  (∀ a, (k0_off107 v1361) a + S128x64.size a ≤ S4096x64.size a) ∧
  (∀ (r : Fin 2), ∀ a, (k0_off113 v1361 (BitVec.ofNat 32 (64 * r.val))) a + S64x4096.size a ≤ S4096x4096.size a) ∧
  (∀ (r : Fin 2), ∀ (hinb : ∀ a, (k0_off113 v1361 (BitVec.ofNat 32 (64 * r.val))) a + S64x4096.size a ≤ S4096x4096.size a), (Rect.unit (s := S4096x4096) (k0_off113 v1361 (BitVec.ofNat 32 (64 * r.val))) S64x4096.size hinb).WholeWords (EltTy.packing .fp8e4m3))
theorem k0_off102_inb : ∀ (v1361 : BitVec 32) (k0_hw23 : k0_chk23 v1361), ∀ (r : Fin 2), ∀ a, (k0_off102 v1361 (BitVec.ofNat 32 (64 * r.val))) a + S64x4096.size a ≤ S4096x4096.size a := fun v1361 k0_hw23 r => k0_hw23.1 r
theorem k0_off102_wordsfp8e4m3 : ∀ (v1361 : BitVec 32) (k0_hw23 : k0_chk23 v1361), ∀ (r : Fin 2), (Rect.unit (s := S4096x4096) (k0_off102 v1361 (BitVec.ofNat 32 (64 * r.val))) S64x4096.size (k0_off102_inb v1361 k0_hw23 r)).WholeWords (EltTy.packing .fp8e4m3) := fun v1361 k0_hw23 r => k0_hw23.2.1 r (k0_off102_inb v1361 k0_hw23 r)
theorem k0_off106_inb : ∀ (v1361 : BitVec 32) (k0_hw23 : k0_chk23 v1361), ∀ a, (k0_off106 v1361) a + S128x4096.size a ≤ S4096x4096.size a := fun v1361 k0_hw23 => k0_hw23.2.2.1
theorem k0_off107_inb : ∀ (v1361 : BitVec 32) (k0_hw23 : k0_chk23 v1361), ∀ a, (k0_off107 v1361) a + S128x64.size a ≤ S4096x64.size a := fun v1361 k0_hw23 => k0_hw23.2.2.2.1
theorem k0_off113_inb : ∀ (v1361 : BitVec 32) (k0_hw23 : k0_chk23 v1361), ∀ (r : Fin 2), ∀ a, (k0_off113 v1361 (BitVec.ofNat 32 (64 * r.val))) a + S64x4096.size a ≤ S4096x4096.size a := fun v1361 k0_hw23 r => k0_hw23.2.2.2.2.1 r
theorem k0_off113_wordsfp8e4m3 : ∀ (v1361 : BitVec 32) (k0_hw23 : k0_chk23 v1361), ∀ (r : Fin 2), (Rect.unit (s := S4096x4096) (k0_off113 v1361 (BitVec.ofNat 32 (64 * r.val))) S64x4096.size (k0_off113_inb v1361 k0_hw23 r)).WholeWords (EltTy.packing .fp8e4m3) := fun v1361 k0_hw23 r => k0_hw23.2.2.2.2.2 r (k0_off113_inb v1361 k0_hw23 r)

def k0_dev50 (v13 : BitVec 32) : Nat :=
  let c0_i32_1468 : BitVec 32 := 0#32
  let c1_i32_1467 : BitVec 32 := 1#32
  let v1529 : BitVec 32 := Scalar.muli v13 c1_i32_1467
  let v1530 : BitVec 32 := Scalar.addi c0_i32_1468 v1529
  v1530.toNat
def k0_off114 (v1447 : BitVec 32) : Fin 2 → Nat :=
  let c128_i32_1478 : BitVec 32 := 128#32
  let v1541 : BitVec 32 := Scalar.muli v1447 c128_i32_1478
  let v1542 : Index := Scalar.indexCast v1541
  let c0_1479 : Index := 0#32
  ![v1542.toNat, 0]
def k0_off115 (v1447 : BitVec 32) : Fin 2 → Nat :=
  let c128_i32_1486 : BitVec 32 := 128#32
  let v1556 : BitVec 32 := Scalar.muli v1447 c128_i32_1486
  let v1557 : Index := Scalar.indexCast v1556
  let c0_1487 : Index := 0#32
  ![v1557.toNat, 0]
def k0_off116 (v1496 : BitVec 32) : Fin 2 → Nat :=
  let c128_i32_1488 : BitVec 32 := 128#32
  let v1559 : BitVec 32 := Scalar.muli v1496 c128_i32_1488
  let v1560 : Index := Scalar.indexCast v1559
  let c0_1489 : Index := 0#32
  ![v1560.toNat, 0]
def k0_off117 (v1496 : BitVec 32) : Fin 2 → Nat :=
  let c128_i32_1496 : BitVec 32 := 128#32
  let v1574 : BitVec 32 := Scalar.muli v1496 c128_i32_1496
  let v1575 : Index := Scalar.indexCast v1574
  let c0_1497 : Index := 0#32
  ![v1575.toNat, 0]
def k0_off118 (v4 : BitVec 32) : Fin 1 → Nat :=
  let c1_i32_1498 : BitVec 32 := 1#32
  let v1577 : BitVec 32 := Scalar.subi v4 c1_i32_1498
  let c11_i32_1499 : BitVec 32 := 11#32
  let v1578 : BitVec 32 := Scalar.subi v1577 c11_i32_1499
  let c64_i32_1500 : BitVec 32 := 64#32
  let v1579 : BitVec 32 := Scalar.addi v1578 c64_i32_1500
  let c32_i32_1501 : BitVec 32 := 32#32
  let v1580 : BitVec 32 := Scalar.remsi v1579 c32_i32_1501
  let v1581 : Index := Scalar.indexCast v1580
  ![v1581.toNat]
def k0_off119 (v1582 : BitVec 32) (c0_i32_1503 : BitVec 32) : Fin 2 → Nat :=
  let c128_i32_1502 : BitVec 32 := 128#32
  let v1583 : BitVec 32 := Scalar.muli v1582 c128_i32_1502
  let v1584 : BitVec 32 := Scalar.addi v1583 c0_i32_1503
  let c0_i32_1509 : BitVec 32 := 0#32
  ![v1584.toNat, 0]

def k0_dev51 (v8 : BitVec 32) : Nat :=
  let c0_i32_1517 : BitVec 32 := 0#32
  let c1_i32_1516 : BitVec 32 := 1#32
  let v1593 : BitVec 32 := Scalar.muli v8 c1_i32_1516
  let v1594 : BitVec 32 := Scalar.addi c0_i32_1517 v1593
  v1594.toNat
def k0_off120 (v1447 : BitVec 32) (c0_i32_1382 : BitVec 32) : Fin 2 → Nat :=
  let c128_i32_1381 : BitVec 32 := 128#32
  let v1456 : BitVec 32 := Scalar.muli v1447 c128_i32_1381
  let v1457 : BitVec 32 := Scalar.addi v1456 c0_i32_1382
  let c0_i32_1525 : BitVec 32 := 0#32
  ![v1457.toNat, 0]

def k0_chk24 (v1447 : BitVec 32) : Prop :=
  (∀ (r : Fin 2), ∀ a, (k0_off109 v1447 (BitVec.ofNat 32 (64 * r.val))) a + S64x4096.size a ≤ S4096x4096.size a) ∧
  (∀ (r : Fin 2), ∀ (hinb : ∀ a, (k0_off109 v1447 (BitVec.ofNat 32 (64 * r.val))) a + S64x4096.size a ≤ S4096x4096.size a), (Rect.unit (s := S4096x4096) (k0_off109 v1447 (BitVec.ofNat 32 (64 * r.val))) S64x4096.size hinb).WholeWords (EltTy.packing .fp8e4m3)) ∧
  (∀ a, (k0_off114 v1447) a + S128x4096.size a ≤ S4096x4096.size a) ∧
  (∀ a, (k0_off115 v1447) a + S128x64.size a ≤ S4096x64.size a) ∧
  (∀ (r : Fin 2), ∀ a, (k0_off120 v1447 (BitVec.ofNat 32 (64 * r.val))) a + S64x4096.size a ≤ S4096x4096.size a) ∧
  (∀ (r : Fin 2), ∀ (hinb : ∀ a, (k0_off120 v1447 (BitVec.ofNat 32 (64 * r.val))) a + S64x4096.size a ≤ S4096x4096.size a), (Rect.unit (s := S4096x4096) (k0_off120 v1447 (BitVec.ofNat 32 (64 * r.val))) S64x4096.size hinb).WholeWords (EltTy.packing .fp8e4m3))
theorem k0_off109_inb : ∀ (v1447 : BitVec 32) (k0_hw24 : k0_chk24 v1447), ∀ (r : Fin 2), ∀ a, (k0_off109 v1447 (BitVec.ofNat 32 (64 * r.val))) a + S64x4096.size a ≤ S4096x4096.size a := fun v1447 k0_hw24 r => k0_hw24.1 r
theorem k0_off109_wordsfp8e4m3 : ∀ (v1447 : BitVec 32) (k0_hw24 : k0_chk24 v1447), ∀ (r : Fin 2), (Rect.unit (s := S4096x4096) (k0_off109 v1447 (BitVec.ofNat 32 (64 * r.val))) S64x4096.size (k0_off109_inb v1447 k0_hw24 r)).WholeWords (EltTy.packing .fp8e4m3) := fun v1447 k0_hw24 r => k0_hw24.2.1 r (k0_off109_inb v1447 k0_hw24 r)
theorem k0_off114_inb : ∀ (v1447 : BitVec 32) (k0_hw24 : k0_chk24 v1447), ∀ a, (k0_off114 v1447) a + S128x4096.size a ≤ S4096x4096.size a := fun v1447 k0_hw24 => k0_hw24.2.2.1
theorem k0_off115_inb : ∀ (v1447 : BitVec 32) (k0_hw24 : k0_chk24 v1447), ∀ a, (k0_off115 v1447) a + S128x64.size a ≤ S4096x64.size a := fun v1447 k0_hw24 => k0_hw24.2.2.2.1
theorem k0_off120_inb : ∀ (v1447 : BitVec 32) (k0_hw24 : k0_chk24 v1447), ∀ (r : Fin 2), ∀ a, (k0_off120 v1447 (BitVec.ofNat 32 (64 * r.val))) a + S64x4096.size a ≤ S4096x4096.size a := fun v1447 k0_hw24 r => k0_hw24.2.2.2.2.1 r
theorem k0_off120_wordsfp8e4m3 : ∀ (v1447 : BitVec 32) (k0_hw24 : k0_chk24 v1447), ∀ (r : Fin 2), (Rect.unit (s := S4096x4096) (k0_off120 v1447 (BitVec.ofNat 32 (64 * r.val))) S64x4096.size (k0_off120_inb v1447 k0_hw24 r)).WholeWords (EltTy.packing .fp8e4m3) := fun v1447 k0_hw24 r => k0_hw24.2.2.2.2.2 r (k0_off120_inb v1447 k0_hw24 r)

def k0_dev52 (v8 : BitVec 32) : Nat :=
  let c0_i32_1543 : BitVec 32 := 0#32
  let c1_i32_1542 : BitVec 32 := 1#32
  let v1615 : BitVec 32 := Scalar.muli v8 c1_i32_1542
  let v1616 : BitVec 32 := Scalar.addi c0_i32_1543 v1615
  v1616.toNat
def k0_off121 (v4 : BitVec 32) : Fin 1 → Nat :=
  let c1_i32_1553 : BitVec 32 := 1#32
  let v1627 : BitVec 32 := Scalar.addi v4 c1_i32_1553
  let c11_i32_1554 : BitVec 32 := 11#32
  let v1628 : BitVec 32 := Scalar.addi v1627 c11_i32_1554
  let c32_i32_1555 : BitVec 32 := 32#32
  let v1629 : BitVec 32 := Scalar.remsi v1628 c32_i32_1555
  let v1630 : Index := Scalar.indexCast v1629
  ![v1630.toNat]
def k0_off122 (v1631 : BitVec 32) (c0_i32_1557 : BitVec 32) : Fin 2 → Nat :=
  let c128_i32_1556 : BitVec 32 := 128#32
  let v1632 : BitVec 32 := Scalar.muli v1631 c128_i32_1556
  let v1633 : BitVec 32 := Scalar.addi v1632 c0_i32_1557
  let c0_i32_1563 : BitVec 32 := 0#32
  ![v1633.toNat, 0]

def k0_dev53 (v13 : BitVec 32) : Nat :=
  let c0_i32_1572 : BitVec 32 := 0#32
  let c1_i32_1571 : BitVec 32 := 1#32
  let v1642 : BitVec 32 := Scalar.muli v13 c1_i32_1571
  let v1643 : BitVec 32 := Scalar.addi c0_i32_1572 v1642
  v1643.toNat
def k0_off123 (v1496 : BitVec 32) (c0_i32_1436 : BitVec 32) : Fin 2 → Nat :=
  let c128_i32_1435 : BitVec 32 := 128#32
  let v1505 : BitVec 32 := Scalar.muli v1496 c128_i32_1435
  let v1506 : BitVec 32 := Scalar.addi v1505 c0_i32_1436
  let c0_i32_1580 : BitVec 32 := 0#32
  ![v1506.toNat, 0]

def k0_chk25 (v1496 : BitVec 32) : Prop :=
  (∀ (r : Fin 2), ∀ a, (k0_off112 v1496 (BitVec.ofNat 32 (64 * r.val))) a + S64x4096.size a ≤ S4096x4096.size a) ∧
  (∀ (r : Fin 2), ∀ (hinb : ∀ a, (k0_off112 v1496 (BitVec.ofNat 32 (64 * r.val))) a + S64x4096.size a ≤ S4096x4096.size a), (Rect.unit (s := S4096x4096) (k0_off112 v1496 (BitVec.ofNat 32 (64 * r.val))) S64x4096.size hinb).WholeWords (EltTy.packing .fp8e4m3)) ∧
  (∀ a, (k0_off116 v1496) a + S128x4096.size a ≤ S4096x4096.size a) ∧
  (∀ a, (k0_off117 v1496) a + S128x64.size a ≤ S4096x64.size a) ∧
  (∀ (r : Fin 2), ∀ a, (k0_off123 v1496 (BitVec.ofNat 32 (64 * r.val))) a + S64x4096.size a ≤ S4096x4096.size a) ∧
  (∀ (r : Fin 2), ∀ (hinb : ∀ a, (k0_off123 v1496 (BitVec.ofNat 32 (64 * r.val))) a + S64x4096.size a ≤ S4096x4096.size a), (Rect.unit (s := S4096x4096) (k0_off123 v1496 (BitVec.ofNat 32 (64 * r.val))) S64x4096.size hinb).WholeWords (EltTy.packing .fp8e4m3))
theorem k0_off112_inb : ∀ (v1496 : BitVec 32) (k0_hw25 : k0_chk25 v1496), ∀ (r : Fin 2), ∀ a, (k0_off112 v1496 (BitVec.ofNat 32 (64 * r.val))) a + S64x4096.size a ≤ S4096x4096.size a := fun v1496 k0_hw25 r => k0_hw25.1 r
theorem k0_off112_wordsfp8e4m3 : ∀ (v1496 : BitVec 32) (k0_hw25 : k0_chk25 v1496), ∀ (r : Fin 2), (Rect.unit (s := S4096x4096) (k0_off112 v1496 (BitVec.ofNat 32 (64 * r.val))) S64x4096.size (k0_off112_inb v1496 k0_hw25 r)).WholeWords (EltTy.packing .fp8e4m3) := fun v1496 k0_hw25 r => k0_hw25.2.1 r (k0_off112_inb v1496 k0_hw25 r)
theorem k0_off116_inb : ∀ (v1496 : BitVec 32) (k0_hw25 : k0_chk25 v1496), ∀ a, (k0_off116 v1496) a + S128x4096.size a ≤ S4096x4096.size a := fun v1496 k0_hw25 => k0_hw25.2.2.1
theorem k0_off117_inb : ∀ (v1496 : BitVec 32) (k0_hw25 : k0_chk25 v1496), ∀ a, (k0_off117 v1496) a + S128x64.size a ≤ S4096x64.size a := fun v1496 k0_hw25 => k0_hw25.2.2.2.1
theorem k0_off123_inb : ∀ (v1496 : BitVec 32) (k0_hw25 : k0_chk25 v1496), ∀ (r : Fin 2), ∀ a, (k0_off123 v1496 (BitVec.ofNat 32 (64 * r.val))) a + S64x4096.size a ≤ S4096x4096.size a := fun v1496 k0_hw25 r => k0_hw25.2.2.2.2.1 r
theorem k0_off123_wordsfp8e4m3 : ∀ (v1496 : BitVec 32) (k0_hw25 : k0_chk25 v1496), ∀ (r : Fin 2), (Rect.unit (s := S4096x4096) (k0_off123 v1496 (BitVec.ofNat 32 (64 * r.val))) S64x4096.size (k0_off123_inb v1496 k0_hw25 r)).WholeWords (EltTy.packing .fp8e4m3) := fun v1496 k0_hw25 r => k0_hw25.2.2.2.2.2 r (k0_off123_inb v1496 k0_hw25 r)

def k0_dev54 (v13 : BitVec 32) : Nat :=
  let c0_i32_1598 : BitVec 32 := 0#32
  let c1_i32_1597 : BitVec 32 := 1#32
  let v1664 : BitVec 32 := Scalar.muli v13 c1_i32_1597
  let v1665 : BitVec 32 := Scalar.addi c0_i32_1598 v1664
  v1665.toNat
def k0_off124 (v1582 : BitVec 32) : Fin 2 → Nat :=
  let c128_i32_1608 : BitVec 32 := 128#32
  let v1676 : BitVec 32 := Scalar.muli v1582 c128_i32_1608
  let v1677 : Index := Scalar.indexCast v1676
  let c0_1609 : Index := 0#32
  ![v1677.toNat, 0]
def k0_off125 (v1582 : BitVec 32) : Fin 2 → Nat :=
  let c128_i32_1616 : BitVec 32 := 128#32
  let v1691 : BitVec 32 := Scalar.muli v1582 c128_i32_1616
  let v1692 : Index := Scalar.indexCast v1691
  let c0_1617 : Index := 0#32
  ![v1692.toNat, 0]
def k0_off126 (v1631 : BitVec 32) : Fin 2 → Nat :=
  let c128_i32_1618 : BitVec 32 := 128#32
  let v1694 : BitVec 32 := Scalar.muli v1631 c128_i32_1618
  let v1695 : Index := Scalar.indexCast v1694
  let c0_1619 : Index := 0#32
  ![v1695.toNat, 0]
def k0_off127 (v1631 : BitVec 32) : Fin 2 → Nat :=
  let c128_i32_1626 : BitVec 32 := 128#32
  let v1709 : BitVec 32 := Scalar.muli v1631 c128_i32_1626
  let v1710 : Index := Scalar.indexCast v1709
  let c0_1627 : Index := 0#32
  ![v1710.toNat, 0]
def k0_off128 (v4 : BitVec 32) : Fin 1 → Nat :=
  let c1_i32_1628 : BitVec 32 := 1#32
  let v1712 : BitVec 32 := Scalar.subi v4 c1_i32_1628
  let c12_i32_1629 : BitVec 32 := 12#32
  let v1713 : BitVec 32 := Scalar.subi v1712 c12_i32_1629
  let c64_i32_1630 : BitVec 32 := 64#32
  let v1714 : BitVec 32 := Scalar.addi v1713 c64_i32_1630
  let c32_i32_1631 : BitVec 32 := 32#32
  let v1715 : BitVec 32 := Scalar.remsi v1714 c32_i32_1631
  let v1716 : Index := Scalar.indexCast v1715
  ![v1716.toNat]
def k0_off129 (v1717 : BitVec 32) (c0_i32_1633 : BitVec 32) : Fin 2 → Nat :=
  let c128_i32_1632 : BitVec 32 := 128#32
  let v1718 : BitVec 32 := Scalar.muli v1717 c128_i32_1632
  let v1719 : BitVec 32 := Scalar.addi v1718 c0_i32_1633
  let c0_i32_1639 : BitVec 32 := 0#32
  ![v1719.toNat, 0]

def k0_dev55 (v8 : BitVec 32) : Nat :=
  let c0_i32_1647 : BitVec 32 := 0#32
  let c1_i32_1646 : BitVec 32 := 1#32
  let v1728 : BitVec 32 := Scalar.muli v8 c1_i32_1646
  let v1729 : BitVec 32 := Scalar.addi c0_i32_1647 v1728
  v1729.toNat
def k0_off130 (v1582 : BitVec 32) (c0_i32_1512 : BitVec 32) : Fin 2 → Nat :=
  let c128_i32_1511 : BitVec 32 := 128#32
  let v1591 : BitVec 32 := Scalar.muli v1582 c128_i32_1511
  let v1592 : BitVec 32 := Scalar.addi v1591 c0_i32_1512
  let c0_i32_1655 : BitVec 32 := 0#32
  ![v1592.toNat, 0]

def k0_chk26 (v1582 : BitVec 32) : Prop :=
  (∀ (r : Fin 2), ∀ a, (k0_off119 v1582 (BitVec.ofNat 32 (64 * r.val))) a + S64x4096.size a ≤ S4096x4096.size a) ∧
  (∀ (r : Fin 2), ∀ (hinb : ∀ a, (k0_off119 v1582 (BitVec.ofNat 32 (64 * r.val))) a + S64x4096.size a ≤ S4096x4096.size a), (Rect.unit (s := S4096x4096) (k0_off119 v1582 (BitVec.ofNat 32 (64 * r.val))) S64x4096.size hinb).WholeWords (EltTy.packing .fp8e4m3)) ∧
  (∀ a, (k0_off124 v1582) a + S128x4096.size a ≤ S4096x4096.size a) ∧
  (∀ a, (k0_off125 v1582) a + S128x64.size a ≤ S4096x64.size a) ∧
  (∀ (r : Fin 2), ∀ a, (k0_off130 v1582 (BitVec.ofNat 32 (64 * r.val))) a + S64x4096.size a ≤ S4096x4096.size a) ∧
  (∀ (r : Fin 2), ∀ (hinb : ∀ a, (k0_off130 v1582 (BitVec.ofNat 32 (64 * r.val))) a + S64x4096.size a ≤ S4096x4096.size a), (Rect.unit (s := S4096x4096) (k0_off130 v1582 (BitVec.ofNat 32 (64 * r.val))) S64x4096.size hinb).WholeWords (EltTy.packing .fp8e4m3))
theorem k0_off119_inb : ∀ (v1582 : BitVec 32) (k0_hw26 : k0_chk26 v1582), ∀ (r : Fin 2), ∀ a, (k0_off119 v1582 (BitVec.ofNat 32 (64 * r.val))) a + S64x4096.size a ≤ S4096x4096.size a := fun v1582 k0_hw26 r => k0_hw26.1 r
theorem k0_off119_wordsfp8e4m3 : ∀ (v1582 : BitVec 32) (k0_hw26 : k0_chk26 v1582), ∀ (r : Fin 2), (Rect.unit (s := S4096x4096) (k0_off119 v1582 (BitVec.ofNat 32 (64 * r.val))) S64x4096.size (k0_off119_inb v1582 k0_hw26 r)).WholeWords (EltTy.packing .fp8e4m3) := fun v1582 k0_hw26 r => k0_hw26.2.1 r (k0_off119_inb v1582 k0_hw26 r)
theorem k0_off124_inb : ∀ (v1582 : BitVec 32) (k0_hw26 : k0_chk26 v1582), ∀ a, (k0_off124 v1582) a + S128x4096.size a ≤ S4096x4096.size a := fun v1582 k0_hw26 => k0_hw26.2.2.1
theorem k0_off125_inb : ∀ (v1582 : BitVec 32) (k0_hw26 : k0_chk26 v1582), ∀ a, (k0_off125 v1582) a + S128x64.size a ≤ S4096x64.size a := fun v1582 k0_hw26 => k0_hw26.2.2.2.1
theorem k0_off130_inb : ∀ (v1582 : BitVec 32) (k0_hw26 : k0_chk26 v1582), ∀ (r : Fin 2), ∀ a, (k0_off130 v1582 (BitVec.ofNat 32 (64 * r.val))) a + S64x4096.size a ≤ S4096x4096.size a := fun v1582 k0_hw26 r => k0_hw26.2.2.2.2.1 r
theorem k0_off130_wordsfp8e4m3 : ∀ (v1582 : BitVec 32) (k0_hw26 : k0_chk26 v1582), ∀ (r : Fin 2), (Rect.unit (s := S4096x4096) (k0_off130 v1582 (BitVec.ofNat 32 (64 * r.val))) S64x4096.size (k0_off130_inb v1582 k0_hw26 r)).WholeWords (EltTy.packing .fp8e4m3) := fun v1582 k0_hw26 r => k0_hw26.2.2.2.2.2 r (k0_off130_inb v1582 k0_hw26 r)

def k0_dev56 (v8 : BitVec 32) : Nat :=
  let c0_i32_1673 : BitVec 32 := 0#32
  let c1_i32_1672 : BitVec 32 := 1#32
  let v1750 : BitVec 32 := Scalar.muli v8 c1_i32_1672
  let v1751 : BitVec 32 := Scalar.addi c0_i32_1673 v1750
  v1751.toNat
def k0_off131 (v4 : BitVec 32) : Fin 1 → Nat :=
  let c1_i32_1683 : BitVec 32 := 1#32
  let v1762 : BitVec 32 := Scalar.addi v4 c1_i32_1683
  let c12_i32_1684 : BitVec 32 := 12#32
  let v1763 : BitVec 32 := Scalar.addi v1762 c12_i32_1684
  let c32_i32_1685 : BitVec 32 := 32#32
  let v1764 : BitVec 32 := Scalar.remsi v1763 c32_i32_1685
  let v1765 : Index := Scalar.indexCast v1764
  ![v1765.toNat]
def k0_off132 (v1766 : BitVec 32) (c0_i32_1687 : BitVec 32) : Fin 2 → Nat :=
  let c128_i32_1686 : BitVec 32 := 128#32
  let v1767 : BitVec 32 := Scalar.muli v1766 c128_i32_1686
  let v1768 : BitVec 32 := Scalar.addi v1767 c0_i32_1687
  let c0_i32_1693 : BitVec 32 := 0#32
  ![v1768.toNat, 0]

def k0_dev57 (v13 : BitVec 32) : Nat :=
  let c0_i32_1702 : BitVec 32 := 0#32
  let c1_i32_1701 : BitVec 32 := 1#32
  let v1777 : BitVec 32 := Scalar.muli v13 c1_i32_1701
  let v1778 : BitVec 32 := Scalar.addi c0_i32_1702 v1777
  v1778.toNat
def k0_off133 (v1631 : BitVec 32) (c0_i32_1566 : BitVec 32) : Fin 2 → Nat :=
  let c128_i32_1565 : BitVec 32 := 128#32
  let v1640 : BitVec 32 := Scalar.muli v1631 c128_i32_1565
  let v1641 : BitVec 32 := Scalar.addi v1640 c0_i32_1566
  let c0_i32_1710 : BitVec 32 := 0#32
  ![v1641.toNat, 0]

def k0_chk27 (v1631 : BitVec 32) : Prop :=
  (∀ (r : Fin 2), ∀ a, (k0_off122 v1631 (BitVec.ofNat 32 (64 * r.val))) a + S64x4096.size a ≤ S4096x4096.size a) ∧
  (∀ (r : Fin 2), ∀ (hinb : ∀ a, (k0_off122 v1631 (BitVec.ofNat 32 (64 * r.val))) a + S64x4096.size a ≤ S4096x4096.size a), (Rect.unit (s := S4096x4096) (k0_off122 v1631 (BitVec.ofNat 32 (64 * r.val))) S64x4096.size hinb).WholeWords (EltTy.packing .fp8e4m3)) ∧
  (∀ a, (k0_off126 v1631) a + S128x4096.size a ≤ S4096x4096.size a) ∧
  (∀ a, (k0_off127 v1631) a + S128x64.size a ≤ S4096x64.size a) ∧
  (∀ (r : Fin 2), ∀ a, (k0_off133 v1631 (BitVec.ofNat 32 (64 * r.val))) a + S64x4096.size a ≤ S4096x4096.size a) ∧
  (∀ (r : Fin 2), ∀ (hinb : ∀ a, (k0_off133 v1631 (BitVec.ofNat 32 (64 * r.val))) a + S64x4096.size a ≤ S4096x4096.size a), (Rect.unit (s := S4096x4096) (k0_off133 v1631 (BitVec.ofNat 32 (64 * r.val))) S64x4096.size hinb).WholeWords (EltTy.packing .fp8e4m3))
theorem k0_off122_inb : ∀ (v1631 : BitVec 32) (k0_hw27 : k0_chk27 v1631), ∀ (r : Fin 2), ∀ a, (k0_off122 v1631 (BitVec.ofNat 32 (64 * r.val))) a + S64x4096.size a ≤ S4096x4096.size a := fun v1631 k0_hw27 r => k0_hw27.1 r
theorem k0_off122_wordsfp8e4m3 : ∀ (v1631 : BitVec 32) (k0_hw27 : k0_chk27 v1631), ∀ (r : Fin 2), (Rect.unit (s := S4096x4096) (k0_off122 v1631 (BitVec.ofNat 32 (64 * r.val))) S64x4096.size (k0_off122_inb v1631 k0_hw27 r)).WholeWords (EltTy.packing .fp8e4m3) := fun v1631 k0_hw27 r => k0_hw27.2.1 r (k0_off122_inb v1631 k0_hw27 r)
theorem k0_off126_inb : ∀ (v1631 : BitVec 32) (k0_hw27 : k0_chk27 v1631), ∀ a, (k0_off126 v1631) a + S128x4096.size a ≤ S4096x4096.size a := fun v1631 k0_hw27 => k0_hw27.2.2.1
theorem k0_off127_inb : ∀ (v1631 : BitVec 32) (k0_hw27 : k0_chk27 v1631), ∀ a, (k0_off127 v1631) a + S128x64.size a ≤ S4096x64.size a := fun v1631 k0_hw27 => k0_hw27.2.2.2.1
theorem k0_off133_inb : ∀ (v1631 : BitVec 32) (k0_hw27 : k0_chk27 v1631), ∀ (r : Fin 2), ∀ a, (k0_off133 v1631 (BitVec.ofNat 32 (64 * r.val))) a + S64x4096.size a ≤ S4096x4096.size a := fun v1631 k0_hw27 r => k0_hw27.2.2.2.2.1 r
theorem k0_off133_wordsfp8e4m3 : ∀ (v1631 : BitVec 32) (k0_hw27 : k0_chk27 v1631), ∀ (r : Fin 2), (Rect.unit (s := S4096x4096) (k0_off133 v1631 (BitVec.ofNat 32 (64 * r.val))) S64x4096.size (k0_off133_inb v1631 k0_hw27 r)).WholeWords (EltTy.packing .fp8e4m3) := fun v1631 k0_hw27 r => k0_hw27.2.2.2.2.2 r (k0_off133_inb v1631 k0_hw27 r)

def k0_dev58 (v13 : BitVec 32) : Nat :=
  let c0_i32_1728 : BitVec 32 := 0#32
  let c1_i32_1727 : BitVec 32 := 1#32
  let v1799 : BitVec 32 := Scalar.muli v13 c1_i32_1727
  let v1800 : BitVec 32 := Scalar.addi c0_i32_1728 v1799
  v1800.toNat
def k0_off134 (v1717 : BitVec 32) : Fin 2 → Nat :=
  let c128_i32_1738 : BitVec 32 := 128#32
  let v1811 : BitVec 32 := Scalar.muli v1717 c128_i32_1738
  let v1812 : Index := Scalar.indexCast v1811
  let c0_1739 : Index := 0#32
  ![v1812.toNat, 0]
def k0_off135 (v1717 : BitVec 32) : Fin 2 → Nat :=
  let c128_i32_1746 : BitVec 32 := 128#32
  let v1826 : BitVec 32 := Scalar.muli v1717 c128_i32_1746
  let v1827 : Index := Scalar.indexCast v1826
  let c0_1747 : Index := 0#32
  ![v1827.toNat, 0]
def k0_off136 (v1766 : BitVec 32) : Fin 2 → Nat :=
  let c128_i32_1748 : BitVec 32 := 128#32
  let v1829 : BitVec 32 := Scalar.muli v1766 c128_i32_1748
  let v1830 : Index := Scalar.indexCast v1829
  let c0_1749 : Index := 0#32
  ![v1830.toNat, 0]
def k0_off137 (v1766 : BitVec 32) : Fin 2 → Nat :=
  let c128_i32_1756 : BitVec 32 := 128#32
  let v1844 : BitVec 32 := Scalar.muli v1766 c128_i32_1756
  let v1845 : Index := Scalar.indexCast v1844
  let c0_1757 : Index := 0#32
  ![v1845.toNat, 0]
def k0_off138 (v4 : BitVec 32) : Fin 1 → Nat :=
  let c1_i32_1758 : BitVec 32 := 1#32
  let v1847 : BitVec 32 := Scalar.subi v4 c1_i32_1758
  let c13_i32_1759 : BitVec 32 := 13#32
  let v1848 : BitVec 32 := Scalar.subi v1847 c13_i32_1759
  let c64_i32_1760 : BitVec 32 := 64#32
  let v1849 : BitVec 32 := Scalar.addi v1848 c64_i32_1760
  let c32_i32_1761 : BitVec 32 := 32#32
  let v1850 : BitVec 32 := Scalar.remsi v1849 c32_i32_1761
  let v1851 : Index := Scalar.indexCast v1850
  ![v1851.toNat]
def k0_off139 (v1852 : BitVec 32) (c0_i32_1763 : BitVec 32) : Fin 2 → Nat :=
  let c128_i32_1762 : BitVec 32 := 128#32
  let v1853 : BitVec 32 := Scalar.muli v1852 c128_i32_1762
  let v1854 : BitVec 32 := Scalar.addi v1853 c0_i32_1763
  let c0_i32_1769 : BitVec 32 := 0#32
  ![v1854.toNat, 0]

def k0_dev59 (v8 : BitVec 32) : Nat :=
  let c0_i32_1777 : BitVec 32 := 0#32
  let c1_i32_1776 : BitVec 32 := 1#32
  let v1863 : BitVec 32 := Scalar.muli v8 c1_i32_1776
  let v1864 : BitVec 32 := Scalar.addi c0_i32_1777 v1863
  v1864.toNat
def k0_off140 (v1717 : BitVec 32) (c0_i32_1642 : BitVec 32) : Fin 2 → Nat :=
  let c128_i32_1641 : BitVec 32 := 128#32
  let v1726 : BitVec 32 := Scalar.muli v1717 c128_i32_1641
  let v1727 : BitVec 32 := Scalar.addi v1726 c0_i32_1642
  let c0_i32_1785 : BitVec 32 := 0#32
  ![v1727.toNat, 0]

def k0_chk28 (v1717 : BitVec 32) : Prop :=
  (∀ (r : Fin 2), ∀ a, (k0_off129 v1717 (BitVec.ofNat 32 (64 * r.val))) a + S64x4096.size a ≤ S4096x4096.size a) ∧
  (∀ (r : Fin 2), ∀ (hinb : ∀ a, (k0_off129 v1717 (BitVec.ofNat 32 (64 * r.val))) a + S64x4096.size a ≤ S4096x4096.size a), (Rect.unit (s := S4096x4096) (k0_off129 v1717 (BitVec.ofNat 32 (64 * r.val))) S64x4096.size hinb).WholeWords (EltTy.packing .fp8e4m3)) ∧
  (∀ a, (k0_off134 v1717) a + S128x4096.size a ≤ S4096x4096.size a) ∧
  (∀ a, (k0_off135 v1717) a + S128x64.size a ≤ S4096x64.size a) ∧
  (∀ (r : Fin 2), ∀ a, (k0_off140 v1717 (BitVec.ofNat 32 (64 * r.val))) a + S64x4096.size a ≤ S4096x4096.size a) ∧
  (∀ (r : Fin 2), ∀ (hinb : ∀ a, (k0_off140 v1717 (BitVec.ofNat 32 (64 * r.val))) a + S64x4096.size a ≤ S4096x4096.size a), (Rect.unit (s := S4096x4096) (k0_off140 v1717 (BitVec.ofNat 32 (64 * r.val))) S64x4096.size hinb).WholeWords (EltTy.packing .fp8e4m3))
theorem k0_off129_inb : ∀ (v1717 : BitVec 32) (k0_hw28 : k0_chk28 v1717), ∀ (r : Fin 2), ∀ a, (k0_off129 v1717 (BitVec.ofNat 32 (64 * r.val))) a + S64x4096.size a ≤ S4096x4096.size a := fun v1717 k0_hw28 r => k0_hw28.1 r
theorem k0_off129_wordsfp8e4m3 : ∀ (v1717 : BitVec 32) (k0_hw28 : k0_chk28 v1717), ∀ (r : Fin 2), (Rect.unit (s := S4096x4096) (k0_off129 v1717 (BitVec.ofNat 32 (64 * r.val))) S64x4096.size (k0_off129_inb v1717 k0_hw28 r)).WholeWords (EltTy.packing .fp8e4m3) := fun v1717 k0_hw28 r => k0_hw28.2.1 r (k0_off129_inb v1717 k0_hw28 r)
theorem k0_off134_inb : ∀ (v1717 : BitVec 32) (k0_hw28 : k0_chk28 v1717), ∀ a, (k0_off134 v1717) a + S128x4096.size a ≤ S4096x4096.size a := fun v1717 k0_hw28 => k0_hw28.2.2.1
theorem k0_off135_inb : ∀ (v1717 : BitVec 32) (k0_hw28 : k0_chk28 v1717), ∀ a, (k0_off135 v1717) a + S128x64.size a ≤ S4096x64.size a := fun v1717 k0_hw28 => k0_hw28.2.2.2.1
theorem k0_off140_inb : ∀ (v1717 : BitVec 32) (k0_hw28 : k0_chk28 v1717), ∀ (r : Fin 2), ∀ a, (k0_off140 v1717 (BitVec.ofNat 32 (64 * r.val))) a + S64x4096.size a ≤ S4096x4096.size a := fun v1717 k0_hw28 r => k0_hw28.2.2.2.2.1 r
theorem k0_off140_wordsfp8e4m3 : ∀ (v1717 : BitVec 32) (k0_hw28 : k0_chk28 v1717), ∀ (r : Fin 2), (Rect.unit (s := S4096x4096) (k0_off140 v1717 (BitVec.ofNat 32 (64 * r.val))) S64x4096.size (k0_off140_inb v1717 k0_hw28 r)).WholeWords (EltTy.packing .fp8e4m3) := fun v1717 k0_hw28 r => k0_hw28.2.2.2.2.2 r (k0_off140_inb v1717 k0_hw28 r)

def k0_dev60 (v8 : BitVec 32) : Nat :=
  let c0_i32_1803 : BitVec 32 := 0#32
  let c1_i32_1802 : BitVec 32 := 1#32
  let v1885 : BitVec 32 := Scalar.muli v8 c1_i32_1802
  let v1886 : BitVec 32 := Scalar.addi c0_i32_1803 v1885
  v1886.toNat
def k0_off141 (v4 : BitVec 32) : Fin 1 → Nat :=
  let c1_i32_1813 : BitVec 32 := 1#32
  let v1897 : BitVec 32 := Scalar.addi v4 c1_i32_1813
  let c13_i32_1814 : BitVec 32 := 13#32
  let v1898 : BitVec 32 := Scalar.addi v1897 c13_i32_1814
  let c32_i32_1815 : BitVec 32 := 32#32
  let v1899 : BitVec 32 := Scalar.remsi v1898 c32_i32_1815
  let v1900 : Index := Scalar.indexCast v1899
  ![v1900.toNat]
def k0_off142 (v1901 : BitVec 32) (c0_i32_1817 : BitVec 32) : Fin 2 → Nat :=
  let c128_i32_1816 : BitVec 32 := 128#32
  let v1902 : BitVec 32 := Scalar.muli v1901 c128_i32_1816
  let v1903 : BitVec 32 := Scalar.addi v1902 c0_i32_1817
  let c0_i32_1823 : BitVec 32 := 0#32
  ![v1903.toNat, 0]

def k0_dev61 (v13 : BitVec 32) : Nat :=
  let c0_i32_1832 : BitVec 32 := 0#32
  let c1_i32_1831 : BitVec 32 := 1#32
  let v1912 : BitVec 32 := Scalar.muli v13 c1_i32_1831
  let v1913 : BitVec 32 := Scalar.addi c0_i32_1832 v1912
  v1913.toNat
def k0_off143 (v1766 : BitVec 32) (c0_i32_1696 : BitVec 32) : Fin 2 → Nat :=
  let c128_i32_1695 : BitVec 32 := 128#32
  let v1775 : BitVec 32 := Scalar.muli v1766 c128_i32_1695
  let v1776 : BitVec 32 := Scalar.addi v1775 c0_i32_1696
  let c0_i32_1840 : BitVec 32 := 0#32
  ![v1776.toNat, 0]

def k0_chk29 (v1766 : BitVec 32) : Prop :=
  (∀ (r : Fin 2), ∀ a, (k0_off132 v1766 (BitVec.ofNat 32 (64 * r.val))) a + S64x4096.size a ≤ S4096x4096.size a) ∧
  (∀ (r : Fin 2), ∀ (hinb : ∀ a, (k0_off132 v1766 (BitVec.ofNat 32 (64 * r.val))) a + S64x4096.size a ≤ S4096x4096.size a), (Rect.unit (s := S4096x4096) (k0_off132 v1766 (BitVec.ofNat 32 (64 * r.val))) S64x4096.size hinb).WholeWords (EltTy.packing .fp8e4m3)) ∧
  (∀ a, (k0_off136 v1766) a + S128x4096.size a ≤ S4096x4096.size a) ∧
  (∀ a, (k0_off137 v1766) a + S128x64.size a ≤ S4096x64.size a) ∧
  (∀ (r : Fin 2), ∀ a, (k0_off143 v1766 (BitVec.ofNat 32 (64 * r.val))) a + S64x4096.size a ≤ S4096x4096.size a) ∧
  (∀ (r : Fin 2), ∀ (hinb : ∀ a, (k0_off143 v1766 (BitVec.ofNat 32 (64 * r.val))) a + S64x4096.size a ≤ S4096x4096.size a), (Rect.unit (s := S4096x4096) (k0_off143 v1766 (BitVec.ofNat 32 (64 * r.val))) S64x4096.size hinb).WholeWords (EltTy.packing .fp8e4m3))
theorem k0_off132_inb : ∀ (v1766 : BitVec 32) (k0_hw29 : k0_chk29 v1766), ∀ (r : Fin 2), ∀ a, (k0_off132 v1766 (BitVec.ofNat 32 (64 * r.val))) a + S64x4096.size a ≤ S4096x4096.size a := fun v1766 k0_hw29 r => k0_hw29.1 r
theorem k0_off132_wordsfp8e4m3 : ∀ (v1766 : BitVec 32) (k0_hw29 : k0_chk29 v1766), ∀ (r : Fin 2), (Rect.unit (s := S4096x4096) (k0_off132 v1766 (BitVec.ofNat 32 (64 * r.val))) S64x4096.size (k0_off132_inb v1766 k0_hw29 r)).WholeWords (EltTy.packing .fp8e4m3) := fun v1766 k0_hw29 r => k0_hw29.2.1 r (k0_off132_inb v1766 k0_hw29 r)
theorem k0_off136_inb : ∀ (v1766 : BitVec 32) (k0_hw29 : k0_chk29 v1766), ∀ a, (k0_off136 v1766) a + S128x4096.size a ≤ S4096x4096.size a := fun v1766 k0_hw29 => k0_hw29.2.2.1
theorem k0_off137_inb : ∀ (v1766 : BitVec 32) (k0_hw29 : k0_chk29 v1766), ∀ a, (k0_off137 v1766) a + S128x64.size a ≤ S4096x64.size a := fun v1766 k0_hw29 => k0_hw29.2.2.2.1
theorem k0_off143_inb : ∀ (v1766 : BitVec 32) (k0_hw29 : k0_chk29 v1766), ∀ (r : Fin 2), ∀ a, (k0_off143 v1766 (BitVec.ofNat 32 (64 * r.val))) a + S64x4096.size a ≤ S4096x4096.size a := fun v1766 k0_hw29 r => k0_hw29.2.2.2.2.1 r
theorem k0_off143_wordsfp8e4m3 : ∀ (v1766 : BitVec 32) (k0_hw29 : k0_chk29 v1766), ∀ (r : Fin 2), (Rect.unit (s := S4096x4096) (k0_off143 v1766 (BitVec.ofNat 32 (64 * r.val))) S64x4096.size (k0_off143_inb v1766 k0_hw29 r)).WholeWords (EltTy.packing .fp8e4m3) := fun v1766 k0_hw29 r => k0_hw29.2.2.2.2.2 r (k0_off143_inb v1766 k0_hw29 r)

def k0_dev62 (v13 : BitVec 32) : Nat :=
  let c0_i32_1858 : BitVec 32 := 0#32
  let c1_i32_1857 : BitVec 32 := 1#32
  let v1934 : BitVec 32 := Scalar.muli v13 c1_i32_1857
  let v1935 : BitVec 32 := Scalar.addi c0_i32_1858 v1934
  v1935.toNat
def k0_off144 (v1852 : BitVec 32) : Fin 2 → Nat :=
  let c128_i32_1868 : BitVec 32 := 128#32
  let v1946 : BitVec 32 := Scalar.muli v1852 c128_i32_1868
  let v1947 : Index := Scalar.indexCast v1946
  let c0_1869 : Index := 0#32
  ![v1947.toNat, 0]
def k0_off145 (v1852 : BitVec 32) : Fin 2 → Nat :=
  let c128_i32_1876 : BitVec 32 := 128#32
  let v1961 : BitVec 32 := Scalar.muli v1852 c128_i32_1876
  let v1962 : Index := Scalar.indexCast v1961
  let c0_1877 : Index := 0#32
  ![v1962.toNat, 0]
def k0_off146 (v1901 : BitVec 32) : Fin 2 → Nat :=
  let c128_i32_1878 : BitVec 32 := 128#32
  let v1964 : BitVec 32 := Scalar.muli v1901 c128_i32_1878
  let v1965 : Index := Scalar.indexCast v1964
  let c0_1879 : Index := 0#32
  ![v1965.toNat, 0]
def k0_off147 (v1901 : BitVec 32) : Fin 2 → Nat :=
  let c128_i32_1886 : BitVec 32 := 128#32
  let v1979 : BitVec 32 := Scalar.muli v1901 c128_i32_1886
  let v1980 : Index := Scalar.indexCast v1979
  let c0_1887 : Index := 0#32
  ![v1980.toNat, 0]
def k0_off148 (v4 : BitVec 32) : Fin 1 → Nat :=
  let c1_i32_1888 : BitVec 32 := 1#32
  let v1982 : BitVec 32 := Scalar.subi v4 c1_i32_1888
  let c14_i32_1889 : BitVec 32 := 14#32
  let v1983 : BitVec 32 := Scalar.subi v1982 c14_i32_1889
  let c64_i32_1890 : BitVec 32 := 64#32
  let v1984 : BitVec 32 := Scalar.addi v1983 c64_i32_1890
  let c32_i32_1891 : BitVec 32 := 32#32
  let v1985 : BitVec 32 := Scalar.remsi v1984 c32_i32_1891
  let v1986 : Index := Scalar.indexCast v1985
  ![v1986.toNat]
def k0_off149 (v1987 : BitVec 32) (c0_i32_1893 : BitVec 32) : Fin 2 → Nat :=
  let c128_i32_1892 : BitVec 32 := 128#32
  let v1988 : BitVec 32 := Scalar.muli v1987 c128_i32_1892
  let v1989 : BitVec 32 := Scalar.addi v1988 c0_i32_1893
  let c0_i32_1899 : BitVec 32 := 0#32
  ![v1989.toNat, 0]

def k0_dev63 (v8 : BitVec 32) : Nat :=
  let c0_i32_1907 : BitVec 32 := 0#32
  let c1_i32_1906 : BitVec 32 := 1#32
  let v1998 : BitVec 32 := Scalar.muli v8 c1_i32_1906
  let v1999 : BitVec 32 := Scalar.addi c0_i32_1907 v1998
  v1999.toNat

def k0_chk3 (v8 : BitVec 32) : Prop :=
  ((k0_dev2 v8) < nD) ∧
  ((k0_dev3 v8) < nD) ∧
  ((k0_dev5 v8) < nD) ∧
  ((k0_dev7 v8) < nD) ∧
  ((k0_dev8 v8) < nD) ∧
  ((k0_dev11 v8) < nD) ∧
  ((k0_dev12 v8) < nD) ∧
  ((k0_dev15 v8) < nD) ∧
  ((k0_dev16 v8) < nD) ∧
  ((k0_dev19 v8) < nD) ∧
  ((k0_dev20 v8) < nD) ∧
  ((k0_dev23 v8) < nD) ∧
  ((k0_dev24 v8) < nD) ∧
  ((k0_dev27 v8) < nD) ∧
  ((k0_dev28 v8) < nD) ∧
  ((k0_dev31 v8) < nD) ∧
  ((k0_dev32 v8) < nD) ∧
  ((k0_dev35 v8) < nD) ∧
  ((k0_dev36 v8) < nD) ∧
  ((k0_dev39 v8) < nD) ∧
  ((k0_dev40 v8) < nD) ∧
  ((k0_dev43 v8) < nD) ∧
  ((k0_dev44 v8) < nD) ∧
  ((k0_dev47 v8) < nD) ∧
  ((k0_dev48 v8) < nD) ∧
  ((k0_dev51 v8) < nD) ∧
  ((k0_dev52 v8) < nD) ∧
  ((k0_dev55 v8) < nD) ∧
  ((k0_dev56 v8) < nD) ∧
  ((k0_dev59 v8) < nD) ∧
  ((k0_dev60 v8) < nD) ∧
  ((k0_dev63 v8) < nD)
theorem k0_dev2_lt : ∀ (v8 : BitVec 32) (k0_hw3 : k0_chk3 v8), (k0_dev2 v8) < nD := fun v8 k0_hw3 => k0_hw3.1
theorem k0_dev3_lt : ∀ (v8 : BitVec 32) (k0_hw3 : k0_chk3 v8), (k0_dev3 v8) < nD := fun v8 k0_hw3 => k0_hw3.2.1
theorem k0_dev5_lt : ∀ (v8 : BitVec 32) (k0_hw3 : k0_chk3 v8), (k0_dev5 v8) < nD := fun v8 k0_hw3 => k0_hw3.2.2.1
theorem k0_dev7_lt : ∀ (v8 : BitVec 32) (k0_hw3 : k0_chk3 v8), (k0_dev7 v8) < nD := fun v8 k0_hw3 => k0_hw3.2.2.2.1
theorem k0_dev8_lt : ∀ (v8 : BitVec 32) (k0_hw3 : k0_chk3 v8), (k0_dev8 v8) < nD := fun v8 k0_hw3 => k0_hw3.2.2.2.2.1
theorem k0_dev11_lt : ∀ (v8 : BitVec 32) (k0_hw3 : k0_chk3 v8), (k0_dev11 v8) < nD := fun v8 k0_hw3 => k0_hw3.2.2.2.2.2.1
theorem k0_dev12_lt : ∀ (v8 : BitVec 32) (k0_hw3 : k0_chk3 v8), (k0_dev12 v8) < nD := fun v8 k0_hw3 => k0_hw3.2.2.2.2.2.2.1
theorem k0_dev15_lt : ∀ (v8 : BitVec 32) (k0_hw3 : k0_chk3 v8), (k0_dev15 v8) < nD := fun v8 k0_hw3 => k0_hw3.2.2.2.2.2.2.2.1
theorem k0_dev16_lt : ∀ (v8 : BitVec 32) (k0_hw3 : k0_chk3 v8), (k0_dev16 v8) < nD := fun v8 k0_hw3 => k0_hw3.2.2.2.2.2.2.2.2.1
theorem k0_dev19_lt : ∀ (v8 : BitVec 32) (k0_hw3 : k0_chk3 v8), (k0_dev19 v8) < nD := fun v8 k0_hw3 => k0_hw3.2.2.2.2.2.2.2.2.2.1
theorem k0_dev20_lt : ∀ (v8 : BitVec 32) (k0_hw3 : k0_chk3 v8), (k0_dev20 v8) < nD := fun v8 k0_hw3 => k0_hw3.2.2.2.2.2.2.2.2.2.2.1
theorem k0_dev23_lt : ∀ (v8 : BitVec 32) (k0_hw3 : k0_chk3 v8), (k0_dev23 v8) < nD := fun v8 k0_hw3 => k0_hw3.2.2.2.2.2.2.2.2.2.2.2.1
theorem k0_dev24_lt : ∀ (v8 : BitVec 32) (k0_hw3 : k0_chk3 v8), (k0_dev24 v8) < nD := fun v8 k0_hw3 => k0_hw3.2.2.2.2.2.2.2.2.2.2.2.2.1
theorem k0_dev27_lt : ∀ (v8 : BitVec 32) (k0_hw3 : k0_chk3 v8), (k0_dev27 v8) < nD := fun v8 k0_hw3 => k0_hw3.2.2.2.2.2.2.2.2.2.2.2.2.2.1
theorem k0_dev28_lt : ∀ (v8 : BitVec 32) (k0_hw3 : k0_chk3 v8), (k0_dev28 v8) < nD := fun v8 k0_hw3 => k0_hw3.2.2.2.2.2.2.2.2.2.2.2.2.2.2.1
theorem k0_dev31_lt : ∀ (v8 : BitVec 32) (k0_hw3 : k0_chk3 v8), (k0_dev31 v8) < nD := fun v8 k0_hw3 => k0_hw3.2.2.2.2.2.2.2.2.2.2.2.2.2.2.2.1
theorem k0_dev32_lt : ∀ (v8 : BitVec 32) (k0_hw3 : k0_chk3 v8), (k0_dev32 v8) < nD := fun v8 k0_hw3 => k0_hw3.2.2.2.2.2.2.2.2.2.2.2.2.2.2.2.2.1
theorem k0_dev35_lt : ∀ (v8 : BitVec 32) (k0_hw3 : k0_chk3 v8), (k0_dev35 v8) < nD := fun v8 k0_hw3 => k0_hw3.2.2.2.2.2.2.2.2.2.2.2.2.2.2.2.2.2.1
theorem k0_dev36_lt : ∀ (v8 : BitVec 32) (k0_hw3 : k0_chk3 v8), (k0_dev36 v8) < nD := fun v8 k0_hw3 => k0_hw3.2.2.2.2.2.2.2.2.2.2.2.2.2.2.2.2.2.2.1
theorem k0_dev39_lt : ∀ (v8 : BitVec 32) (k0_hw3 : k0_chk3 v8), (k0_dev39 v8) < nD := fun v8 k0_hw3 => k0_hw3.2.2.2.2.2.2.2.2.2.2.2.2.2.2.2.2.2.2.2.1
theorem k0_dev40_lt : ∀ (v8 : BitVec 32) (k0_hw3 : k0_chk3 v8), (k0_dev40 v8) < nD := fun v8 k0_hw3 => k0_hw3.2.2.2.2.2.2.2.2.2.2.2.2.2.2.2.2.2.2.2.2.1
theorem k0_dev43_lt : ∀ (v8 : BitVec 32) (k0_hw3 : k0_chk3 v8), (k0_dev43 v8) < nD := fun v8 k0_hw3 => k0_hw3.2.2.2.2.2.2.2.2.2.2.2.2.2.2.2.2.2.2.2.2.2.1
theorem k0_dev44_lt : ∀ (v8 : BitVec 32) (k0_hw3 : k0_chk3 v8), (k0_dev44 v8) < nD := fun v8 k0_hw3 => k0_hw3.2.2.2.2.2.2.2.2.2.2.2.2.2.2.2.2.2.2.2.2.2.2.1
theorem k0_dev47_lt : ∀ (v8 : BitVec 32) (k0_hw3 : k0_chk3 v8), (k0_dev47 v8) < nD := fun v8 k0_hw3 => k0_hw3.2.2.2.2.2.2.2.2.2.2.2.2.2.2.2.2.2.2.2.2.2.2.2.1
theorem k0_dev48_lt : ∀ (v8 : BitVec 32) (k0_hw3 : k0_chk3 v8), (k0_dev48 v8) < nD := fun v8 k0_hw3 => k0_hw3.2.2.2.2.2.2.2.2.2.2.2.2.2.2.2.2.2.2.2.2.2.2.2.2.1
theorem k0_dev51_lt : ∀ (v8 : BitVec 32) (k0_hw3 : k0_chk3 v8), (k0_dev51 v8) < nD := fun v8 k0_hw3 => k0_hw3.2.2.2.2.2.2.2.2.2.2.2.2.2.2.2.2.2.2.2.2.2.2.2.2.2.1
theorem k0_dev52_lt : ∀ (v8 : BitVec 32) (k0_hw3 : k0_chk3 v8), (k0_dev52 v8) < nD := fun v8 k0_hw3 => k0_hw3.2.2.2.2.2.2.2.2.2.2.2.2.2.2.2.2.2.2.2.2.2.2.2.2.2.2.1
theorem k0_dev55_lt : ∀ (v8 : BitVec 32) (k0_hw3 : k0_chk3 v8), (k0_dev55 v8) < nD := fun v8 k0_hw3 => k0_hw3.2.2.2.2.2.2.2.2.2.2.2.2.2.2.2.2.2.2.2.2.2.2.2.2.2.2.2.1
theorem k0_dev56_lt : ∀ (v8 : BitVec 32) (k0_hw3 : k0_chk3 v8), (k0_dev56 v8) < nD := fun v8 k0_hw3 => k0_hw3.2.2.2.2.2.2.2.2.2.2.2.2.2.2.2.2.2.2.2.2.2.2.2.2.2.2.2.2.1
theorem k0_dev59_lt : ∀ (v8 : BitVec 32) (k0_hw3 : k0_chk3 v8), (k0_dev59 v8) < nD := fun v8 k0_hw3 => k0_hw3.2.2.2.2.2.2.2.2.2.2.2.2.2.2.2.2.2.2.2.2.2.2.2.2.2.2.2.2.2.1
theorem k0_dev60_lt : ∀ (v8 : BitVec 32) (k0_hw3 : k0_chk3 v8), (k0_dev60 v8) < nD := fun v8 k0_hw3 => k0_hw3.2.2.2.2.2.2.2.2.2.2.2.2.2.2.2.2.2.2.2.2.2.2.2.2.2.2.2.2.2.2.1
theorem k0_dev63_lt : ∀ (v8 : BitVec 32) (k0_hw3 : k0_chk3 v8), (k0_dev63 v8) < nD := fun v8 k0_hw3 => k0_hw3.2.2.2.2.2.2.2.2.2.2.2.2.2.2.2.2.2.2.2.2.2.2.2.2.2.2.2.2.2.2.2

def k0_off150 (v1852 : BitVec 32) : Fin 2 → Nat :=
  let c128_i32_1771 : BitVec 32 := 128#32
  let v1861 : BitVec 32 := Scalar.muli v1852 c128_i32_1771
  let c0_i32_1772 : BitVec 32 := 0#32
  let v1862 : BitVec 32 := Scalar.addi v1861 c0_i32_1772
  let c0_i32_1915 : BitVec 32 := 0#32
  ![v1862.toNat, 0]
def k0_off151 (v4 : BitVec 32) : Fin 1 → Nat :=
  let c1_i32_1926 : BitVec 32 := 1#32
  let v2018 : BitVec 32 := Scalar.addi v4 c1_i32_1926
  let c14_i32_1927 : BitVec 32 := 14#32
  let v2019 : BitVec 32 := Scalar.addi v2018 c14_i32_1927
  let c32_i32_1928 : BitVec 32 := 32#32
  let v2020 : BitVec 32 := Scalar.remsi v2019 c32_i32_1928
  let v2021 : Index := Scalar.indexCast v2020
  ![v2021.toNat]
def k0_off152 (v2022 : BitVec 32) (c0_i32_1930 : BitVec 32) : Fin 2 → Nat :=
  let c128_i32_1929 : BitVec 32 := 128#32
  let v2023 : BitVec 32 := Scalar.muli v2022 c128_i32_1929
  let v2024 : BitVec 32 := Scalar.addi v2023 c0_i32_1930
  let c0_i32_1936 : BitVec 32 := 0#32
  ![v2024.toNat, 0]

def k0_dev64 (v13 : BitVec 32) : Nat :=
  let c0_i32_1954 : BitVec 32 := 0#32
  let c1_i32_1953 : BitVec 32 := 1#32
  let v2041 : BitVec 32 := Scalar.muli v13 c1_i32_1953
  let v2042 : BitVec 32 := Scalar.addi c0_i32_1954 v2041
  v2042.toNat

def k0_chk2 (v13 : BitVec 32) : Prop :=
  ((k0_dev1 v13) < nD) ∧
  ((k0_dev4 v13) < nD) ∧
  ((k0_dev6 v13) < nD) ∧
  ((k0_dev9 v13) < nD) ∧
  ((k0_dev10 v13) < nD) ∧
  ((k0_dev13 v13) < nD) ∧
  ((k0_dev14 v13) < nD) ∧
  ((k0_dev17 v13) < nD) ∧
  ((k0_dev18 v13) < nD) ∧
  ((k0_dev21 v13) < nD) ∧
  ((k0_dev22 v13) < nD) ∧
  ((k0_dev25 v13) < nD) ∧
  ((k0_dev26 v13) < nD) ∧
  ((k0_dev29 v13) < nD) ∧
  ((k0_dev30 v13) < nD) ∧
  ((k0_dev33 v13) < nD) ∧
  ((k0_dev34 v13) < nD) ∧
  ((k0_dev37 v13) < nD) ∧
  ((k0_dev38 v13) < nD) ∧
  ((k0_dev41 v13) < nD) ∧
  ((k0_dev42 v13) < nD) ∧
  ((k0_dev45 v13) < nD) ∧
  ((k0_dev46 v13) < nD) ∧
  ((k0_dev49 v13) < nD) ∧
  ((k0_dev50 v13) < nD) ∧
  ((k0_dev53 v13) < nD) ∧
  ((k0_dev54 v13) < nD) ∧
  ((k0_dev57 v13) < nD) ∧
  ((k0_dev58 v13) < nD) ∧
  ((k0_dev61 v13) < nD) ∧
  ((k0_dev62 v13) < nD) ∧
  ((k0_dev64 v13) < nD)
theorem k0_dev1_lt : ∀ (v13 : BitVec 32) (k0_hw2 : k0_chk2 v13), (k0_dev1 v13) < nD := fun v13 k0_hw2 => k0_hw2.1
theorem k0_dev4_lt : ∀ (v13 : BitVec 32) (k0_hw2 : k0_chk2 v13), (k0_dev4 v13) < nD := fun v13 k0_hw2 => k0_hw2.2.1
theorem k0_dev6_lt : ∀ (v13 : BitVec 32) (k0_hw2 : k0_chk2 v13), (k0_dev6 v13) < nD := fun v13 k0_hw2 => k0_hw2.2.2.1
theorem k0_dev9_lt : ∀ (v13 : BitVec 32) (k0_hw2 : k0_chk2 v13), (k0_dev9 v13) < nD := fun v13 k0_hw2 => k0_hw2.2.2.2.1
theorem k0_dev10_lt : ∀ (v13 : BitVec 32) (k0_hw2 : k0_chk2 v13), (k0_dev10 v13) < nD := fun v13 k0_hw2 => k0_hw2.2.2.2.2.1
theorem k0_dev13_lt : ∀ (v13 : BitVec 32) (k0_hw2 : k0_chk2 v13), (k0_dev13 v13) < nD := fun v13 k0_hw2 => k0_hw2.2.2.2.2.2.1
theorem k0_dev14_lt : ∀ (v13 : BitVec 32) (k0_hw2 : k0_chk2 v13), (k0_dev14 v13) < nD := fun v13 k0_hw2 => k0_hw2.2.2.2.2.2.2.1
theorem k0_dev17_lt : ∀ (v13 : BitVec 32) (k0_hw2 : k0_chk2 v13), (k0_dev17 v13) < nD := fun v13 k0_hw2 => k0_hw2.2.2.2.2.2.2.2.1
theorem k0_dev18_lt : ∀ (v13 : BitVec 32) (k0_hw2 : k0_chk2 v13), (k0_dev18 v13) < nD := fun v13 k0_hw2 => k0_hw2.2.2.2.2.2.2.2.2.1
theorem k0_dev21_lt : ∀ (v13 : BitVec 32) (k0_hw2 : k0_chk2 v13), (k0_dev21 v13) < nD := fun v13 k0_hw2 => k0_hw2.2.2.2.2.2.2.2.2.2.1
theorem k0_dev22_lt : ∀ (v13 : BitVec 32) (k0_hw2 : k0_chk2 v13), (k0_dev22 v13) < nD := fun v13 k0_hw2 => k0_hw2.2.2.2.2.2.2.2.2.2.2.1
theorem k0_dev25_lt : ∀ (v13 : BitVec 32) (k0_hw2 : k0_chk2 v13), (k0_dev25 v13) < nD := fun v13 k0_hw2 => k0_hw2.2.2.2.2.2.2.2.2.2.2.2.1
theorem k0_dev26_lt : ∀ (v13 : BitVec 32) (k0_hw2 : k0_chk2 v13), (k0_dev26 v13) < nD := fun v13 k0_hw2 => k0_hw2.2.2.2.2.2.2.2.2.2.2.2.2.1
theorem k0_dev29_lt : ∀ (v13 : BitVec 32) (k0_hw2 : k0_chk2 v13), (k0_dev29 v13) < nD := fun v13 k0_hw2 => k0_hw2.2.2.2.2.2.2.2.2.2.2.2.2.2.1
theorem k0_dev30_lt : ∀ (v13 : BitVec 32) (k0_hw2 : k0_chk2 v13), (k0_dev30 v13) < nD := fun v13 k0_hw2 => k0_hw2.2.2.2.2.2.2.2.2.2.2.2.2.2.2.1
theorem k0_dev33_lt : ∀ (v13 : BitVec 32) (k0_hw2 : k0_chk2 v13), (k0_dev33 v13) < nD := fun v13 k0_hw2 => k0_hw2.2.2.2.2.2.2.2.2.2.2.2.2.2.2.2.1
theorem k0_dev34_lt : ∀ (v13 : BitVec 32) (k0_hw2 : k0_chk2 v13), (k0_dev34 v13) < nD := fun v13 k0_hw2 => k0_hw2.2.2.2.2.2.2.2.2.2.2.2.2.2.2.2.2.1
theorem k0_dev37_lt : ∀ (v13 : BitVec 32) (k0_hw2 : k0_chk2 v13), (k0_dev37 v13) < nD := fun v13 k0_hw2 => k0_hw2.2.2.2.2.2.2.2.2.2.2.2.2.2.2.2.2.2.1
theorem k0_dev38_lt : ∀ (v13 : BitVec 32) (k0_hw2 : k0_chk2 v13), (k0_dev38 v13) < nD := fun v13 k0_hw2 => k0_hw2.2.2.2.2.2.2.2.2.2.2.2.2.2.2.2.2.2.2.1
theorem k0_dev41_lt : ∀ (v13 : BitVec 32) (k0_hw2 : k0_chk2 v13), (k0_dev41 v13) < nD := fun v13 k0_hw2 => k0_hw2.2.2.2.2.2.2.2.2.2.2.2.2.2.2.2.2.2.2.2.1
theorem k0_dev42_lt : ∀ (v13 : BitVec 32) (k0_hw2 : k0_chk2 v13), (k0_dev42 v13) < nD := fun v13 k0_hw2 => k0_hw2.2.2.2.2.2.2.2.2.2.2.2.2.2.2.2.2.2.2.2.2.1
theorem k0_dev45_lt : ∀ (v13 : BitVec 32) (k0_hw2 : k0_chk2 v13), (k0_dev45 v13) < nD := fun v13 k0_hw2 => k0_hw2.2.2.2.2.2.2.2.2.2.2.2.2.2.2.2.2.2.2.2.2.2.1
theorem k0_dev46_lt : ∀ (v13 : BitVec 32) (k0_hw2 : k0_chk2 v13), (k0_dev46 v13) < nD := fun v13 k0_hw2 => k0_hw2.2.2.2.2.2.2.2.2.2.2.2.2.2.2.2.2.2.2.2.2.2.2.1
theorem k0_dev49_lt : ∀ (v13 : BitVec 32) (k0_hw2 : k0_chk2 v13), (k0_dev49 v13) < nD := fun v13 k0_hw2 => k0_hw2.2.2.2.2.2.2.2.2.2.2.2.2.2.2.2.2.2.2.2.2.2.2.2.1
theorem k0_dev50_lt : ∀ (v13 : BitVec 32) (k0_hw2 : k0_chk2 v13), (k0_dev50 v13) < nD := fun v13 k0_hw2 => k0_hw2.2.2.2.2.2.2.2.2.2.2.2.2.2.2.2.2.2.2.2.2.2.2.2.2.1
theorem k0_dev53_lt : ∀ (v13 : BitVec 32) (k0_hw2 : k0_chk2 v13), (k0_dev53 v13) < nD := fun v13 k0_hw2 => k0_hw2.2.2.2.2.2.2.2.2.2.2.2.2.2.2.2.2.2.2.2.2.2.2.2.2.2.1
theorem k0_dev54_lt : ∀ (v13 : BitVec 32) (k0_hw2 : k0_chk2 v13), (k0_dev54 v13) < nD := fun v13 k0_hw2 => k0_hw2.2.2.2.2.2.2.2.2.2.2.2.2.2.2.2.2.2.2.2.2.2.2.2.2.2.2.1
theorem k0_dev57_lt : ∀ (v13 : BitVec 32) (k0_hw2 : k0_chk2 v13), (k0_dev57 v13) < nD := fun v13 k0_hw2 => k0_hw2.2.2.2.2.2.2.2.2.2.2.2.2.2.2.2.2.2.2.2.2.2.2.2.2.2.2.2.1
theorem k0_dev58_lt : ∀ (v13 : BitVec 32) (k0_hw2 : k0_chk2 v13), (k0_dev58 v13) < nD := fun v13 k0_hw2 => k0_hw2.2.2.2.2.2.2.2.2.2.2.2.2.2.2.2.2.2.2.2.2.2.2.2.2.2.2.2.2.1
theorem k0_dev61_lt : ∀ (v13 : BitVec 32) (k0_hw2 : k0_chk2 v13), (k0_dev61 v13) < nD := fun v13 k0_hw2 => k0_hw2.2.2.2.2.2.2.2.2.2.2.2.2.2.2.2.2.2.2.2.2.2.2.2.2.2.2.2.2.2.1
theorem k0_dev62_lt : ∀ (v13 : BitVec 32) (k0_hw2 : k0_chk2 v13), (k0_dev62 v13) < nD := fun v13 k0_hw2 => k0_hw2.2.2.2.2.2.2.2.2.2.2.2.2.2.2.2.2.2.2.2.2.2.2.2.2.2.2.2.2.2.2.1
theorem k0_dev64_lt : ∀ (v13 : BitVec 32) (k0_hw2 : k0_chk2 v13), (k0_dev64 v13) < nD := fun v13 k0_hw2 => k0_hw2.2.2.2.2.2.2.2.2.2.2.2.2.2.2.2.2.2.2.2.2.2.2.2.2.2.2.2.2.2.2.2

def k0_off153 (v1901 : BitVec 32) : Fin 2 → Nat :=
  let c128_i32_1851 : BitVec 32 := 128#32
  let v1932 : BitVec 32 := Scalar.muli v1901 c128_i32_1851
  let c64_i32_1852 : BitVec 32 := 64#32
  let v1933 : BitVec 32 := Scalar.addi v1932 c64_i32_1852
  let c0_i32_1962 : BitVec 32 := 0#32
  ![v1933.toNat, 0]
def k0_off154 (v1987 : BitVec 32) : Fin 2 → Nat :=
  let c128_i32_1964 : BitVec 32 := 128#32
  let v2053 : BitVec 32 := Scalar.muli v1987 c128_i32_1964
  let v2054 : Index := Scalar.indexCast v2053
  let c0_1965 : Index := 0#32
  ![v2054.toNat, 0]
def k0_off155 (v1987 : BitVec 32) : Fin 2 → Nat :=
  let c128_i32_1972 : BitVec 32 := 128#32
  let v2068 : BitVec 32 := Scalar.muli v1987 c128_i32_1972
  let v2069 : Index := Scalar.indexCast v2068
  let c0_1973 : Index := 0#32
  ![v2069.toNat, 0]
def k0_off156 (v2022 : BitVec 32) : Fin 2 → Nat :=
  let c128_i32_1974 : BitVec 32 := 128#32
  let v2071 : BitVec 32 := Scalar.muli v2022 c128_i32_1974
  let v2072 : Index := Scalar.indexCast v2071
  let c0_1975 : Index := 0#32
  ![v2072.toNat, 0]
def k0_off157 (v2022 : BitVec 32) : Fin 2 → Nat :=
  let c128_i32_1982 : BitVec 32 := 128#32
  let v2086 : BitVec 32 := Scalar.muli v2022 c128_i32_1982
  let v2087 : Index := Scalar.indexCast v2086
  let c0_1983 : Index := 0#32
  ![v2087.toNat, 0]
def k0_off158 (v4 : BitVec 32) : Fin 1 → Nat :=
  let c1_i32_1984 : BitVec 32 := 1#32
  let v2089 : BitVec 32 := Scalar.subi v4 c1_i32_1984
  let c15_i32_1985 : BitVec 32 := 15#32
  let v2090 : BitVec 32 := Scalar.subi v2089 c15_i32_1985
  let c64_i32_1986 : BitVec 32 := 64#32
  let v2091 : BitVec 32 := Scalar.addi v2090 c64_i32_1986
  let c32_i32_1987 : BitVec 32 := 32#32
  let v2092 : BitVec 32 := Scalar.remsi v2091 c32_i32_1987
  let v2093 : Index := Scalar.indexCast v2092
  ![v2093.toNat]
def k0_off159 (v2094 : BitVec 32) : Fin 2 → Nat :=
  let c128_i32_1988 : BitVec 32 := 128#32
  let v2095 : BitVec 32 := Scalar.muli v2094 c128_i32_1988
  let c0_i32_1989 : BitVec 32 := 0#32
  let v2096 : BitVec 32 := Scalar.addi v2095 c0_i32_1989
  let c0_i32_1995 : BitVec 32 := 0#32
  ![v2096.toNat, 0]

def k0_chk34 (v2094 : BitVec 32) : Prop :=
  (∀ a, (k0_off159 v2094) a + S64x4096.size a ≤ S4096x4096.size a) ∧
  (∀ (hinb : ∀ a, (k0_off159 v2094) a + S64x4096.size a ≤ S4096x4096.size a), (Rect.unit (s := S4096x4096) (k0_off159 v2094) S64x4096.size hinb).WholeWords (EltTy.packing .fp8e4m3))
theorem k0_off159_inb : ∀ (v2094 : BitVec 32) (k0_hw34 : k0_chk34 v2094), ∀ a, (k0_off159 v2094) a + S64x4096.size a ≤ S4096x4096.size a := fun v2094 k0_hw34 => k0_hw34.1
theorem k0_off159_wordsfp8e4m3 : ∀ (v2094 : BitVec 32) (k0_hw34 : k0_chk34 v2094), (Rect.unit (s := S4096x4096) (k0_off159 v2094) S64x4096.size (k0_off159_inb v2094 k0_hw34)).WholeWords (EltTy.packing .fp8e4m3) := fun v2094 k0_hw34 => k0_hw34.2 (k0_off159_inb v2094 k0_hw34)

def k0_off160 (v4 : BitVec 32) : Fin 1 → Nat :=
  let c1_i32_1997 : BitVec 32 := 1#32
  let v2103 : BitVec 32 := Scalar.addi v4 c1_i32_1997
  let c15_i32_1998 : BitVec 32 := 15#32
  let v2104 : BitVec 32 := Scalar.addi v2103 c15_i32_1998
  let c32_i32_1999 : BitVec 32 := 32#32
  let v2105 : BitVec 32 := Scalar.remsi v2104 c32_i32_1999
  let v2106 : Index := Scalar.indexCast v2105
  ![v2106.toNat]

def k0_chk1_0 (v4 : BitVec 32) : Prop :=
  (∀ a, (k0_off2 v4) a + S1.size a ≤ S32.size a) ∧
  (∀ a, (k0_off3 v4) a + S1.size a ≤ S32.size a) ∧
  (∀ a, (k0_off8 v4) a + S1.size a ≤ S32.size a) ∧
  (∀ a, (k0_off11 v4) a + S1.size a ≤ S32.size a) ∧
  (∀ a, (k0_off18 v4) a + S1.size a ≤ S32.size a) ∧
  (∀ a, (k0_off21 v4) a + S1.size a ≤ S32.size a) ∧
  (∀ a, (k0_off28 v4) a + S1.size a ≤ S32.size a) ∧
  (∀ a, (k0_off31 v4) a + S1.size a ≤ S32.size a) ∧
  (∀ a, (k0_off38 v4) a + S1.size a ≤ S32.size a) ∧
  (∀ a, (k0_off41 v4) a + S1.size a ≤ S32.size a) ∧
  (∀ a, (k0_off48 v4) a + S1.size a ≤ S32.size a) ∧
  (∀ a, (k0_off51 v4) a + S1.size a ≤ S32.size a) ∧
  (∀ a, (k0_off58 v4) a + S1.size a ≤ S32.size a) ∧
  (∀ a, (k0_off61 v4) a + S1.size a ≤ S32.size a) ∧
  (∀ a, (k0_off68 v4) a + S1.size a ≤ S32.size a) ∧
  (∀ a, (k0_off71 v4) a + S1.size a ≤ S32.size a) ∧
  (∀ a, (k0_off78 v4) a + S1.size a ≤ S32.size a) ∧
  (∀ a, (k0_off81 v4) a + S1.size a ≤ S32.size a) ∧
  (∀ a, (k0_off88 v4) a + S1.size a ≤ S32.size a) ∧
  (∀ a, (k0_off91 v4) a + S1.size a ≤ S32.size a) ∧
  (∀ a, (k0_off98 v4) a + S1.size a ≤ S32.size a) ∧
  (∀ a, (k0_off101 v4) a + S1.size a ≤ S32.size a) ∧
  (∀ a, (k0_off108 v4) a + S1.size a ≤ S32.size a) ∧
  (∀ a, (k0_off111 v4) a + S1.size a ≤ S32.size a) ∧
  (∀ a, (k0_off118 v4) a + S1.size a ≤ S32.size a) ∧
  (∀ a, (k0_off121 v4) a + S1.size a ≤ S32.size a) ∧
  (∀ a, (k0_off128 v4) a + S1.size a ≤ S32.size a) ∧
  (∀ a, (k0_off131 v4) a + S1.size a ≤ S32.size a) ∧
  (∀ a, (k0_off138 v4) a + S1.size a ≤ S32.size a) ∧
  (∀ a, (k0_off141 v4) a + S1.size a ≤ S32.size a) ∧
  (∀ a, (k0_off148 v4) a + S1.size a ≤ S32.size a) ∧
  (∀ a, (k0_off151 v4) a + S1.size a ≤ S32.size a)
def k0_chk1_1 (v4 : BitVec 32) : Prop :=
  (∀ a, (k0_off158 v4) a + S1.size a ≤ S32.size a) ∧
  (∀ a, (k0_off160 v4) a + S1.size a ≤ S32.size a)
def k0_chk1 (v4 : BitVec 32) : Prop :=
  k0_chk1_0 v4 ∧
  k0_chk1_1 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off8_inb : ∀ (v4 : BitVec 32) (k0_hw1 : k0_chk1 v4), ∀ a, (k0_off8 v4) a + S1.size a ≤ S32.size a := fun v4 k0_hw1 => k0_hw1.1.2.2.1
theorem k0_off11_inb : ∀ (v4 : BitVec 32) (k0_hw1 : k0_chk1 v4), ∀ a, (k0_off11 v4) a + S1.size a ≤ S32.size a := fun v4 k0_hw1 => k0_hw1.1.2.2.2.1
theorem k0_off18_inb : ∀ (v4 : BitVec 32) (k0_hw1 : k0_chk1 v4), ∀ a, (k0_off18 v4) a + S1.size a ≤ S32.size a := fun v4 k0_hw1 => k0_hw1.1.2.2.2.2.1
theorem k0_off21_inb : ∀ (v4 : BitVec 32) (k0_hw1 : k0_chk1 v4), ∀ a, (k0_off21 v4) a + S1.size a ≤ S32.size a := fun v4 k0_hw1 => k0_hw1.1.2.2.2.2.2.1
theorem k0_off28_inb : ∀ (v4 : BitVec 32) (k0_hw1 : k0_chk1 v4), ∀ a, (k0_off28 v4) a + S1.size a ≤ S32.size a := fun v4 k0_hw1 => k0_hw1.1.2.2.2.2.2.2.1
theorem k0_off31_inb : ∀ (v4 : BitVec 32) (k0_hw1 : k0_chk1 v4), ∀ a, (k0_off31 v4) a + S1.size a ≤ S32.size a := fun v4 k0_hw1 => k0_hw1.1.2.2.2.2.2.2.2.1
theorem k0_off38_inb : ∀ (v4 : BitVec 32) (k0_hw1 : k0_chk1 v4), ∀ a, (k0_off38 v4) a + S1.size a ≤ S32.size a := fun v4 k0_hw1 => k0_hw1.1.2.2.2.2.2.2.2.2.1
theorem k0_off41_inb : ∀ (v4 : BitVec 32) (k0_hw1 : k0_chk1 v4), ∀ a, (k0_off41 v4) a + S1.size a ≤ S32.size a := fun v4 k0_hw1 => k0_hw1.1.2.2.2.2.2.2.2.2.2.1
theorem k0_off48_inb : ∀ (v4 : BitVec 32) (k0_hw1 : k0_chk1 v4), ∀ a, (k0_off48 v4) a + S1.size a ≤ S32.size a := fun v4 k0_hw1 => k0_hw1.1.2.2.2.2.2.2.2.2.2.2.1
theorem k0_off51_inb : ∀ (v4 : BitVec 32) (k0_hw1 : k0_chk1 v4), ∀ a, (k0_off51 v4) a + S1.size a ≤ S32.size a := fun v4 k0_hw1 => k0_hw1.1.2.2.2.2.2.2.2.2.2.2.2.1
theorem k0_off58_inb : ∀ (v4 : BitVec 32) (k0_hw1 : k0_chk1 v4), ∀ a, (k0_off58 v4) a + S1.size a ≤ S32.size a := fun v4 k0_hw1 => k0_hw1.1.2.2.2.2.2.2.2.2.2.2.2.2.1
theorem k0_off61_inb : ∀ (v4 : BitVec 32) (k0_hw1 : k0_chk1 v4), ∀ a, (k0_off61 v4) a + S1.size a ≤ S32.size a := fun v4 k0_hw1 => k0_hw1.1.2.2.2.2.2.2.2.2.2.2.2.2.2.1
theorem k0_off68_inb : ∀ (v4 : BitVec 32) (k0_hw1 : k0_chk1 v4), ∀ a, (k0_off68 v4) a + S1.size a ≤ S32.size a := fun v4 k0_hw1 => k0_hw1.1.2.2.2.2.2.2.2.2.2.2.2.2.2.2.1
theorem k0_off71_inb : ∀ (v4 : BitVec 32) (k0_hw1 : k0_chk1 v4), ∀ a, (k0_off71 v4) a + S1.size a ≤ S32.size a := fun v4 k0_hw1 => k0_hw1.1.2.2.2.2.2.2.2.2.2.2.2.2.2.2.2.1
theorem k0_off78_inb : ∀ (v4 : BitVec 32) (k0_hw1 : k0_chk1 v4), ∀ a, (k0_off78 v4) a + S1.size a ≤ S32.size a := fun v4 k0_hw1 => k0_hw1.1.2.2.2.2.2.2.2.2.2.2.2.2.2.2.2.2.1
theorem k0_off81_inb : ∀ (v4 : BitVec 32) (k0_hw1 : k0_chk1 v4), ∀ a, (k0_off81 v4) a + S1.size a ≤ S32.size a := fun v4 k0_hw1 => k0_hw1.1.2.2.2.2.2.2.2.2.2.2.2.2.2.2.2.2.2.1
theorem k0_off88_inb : ∀ (v4 : BitVec 32) (k0_hw1 : k0_chk1 v4), ∀ a, (k0_off88 v4) a + S1.size a ≤ S32.size a := fun v4 k0_hw1 => k0_hw1.1.2.2.2.2.2.2.2.2.2.2.2.2.2.2.2.2.2.2.1
theorem k0_off91_inb : ∀ (v4 : BitVec 32) (k0_hw1 : k0_chk1 v4), ∀ a, (k0_off91 v4) a + S1.size a ≤ S32.size a := fun v4 k0_hw1 => k0_hw1.1.2.2.2.2.2.2.2.2.2.2.2.2.2.2.2.2.2.2.2.1
theorem k0_off98_inb : ∀ (v4 : BitVec 32) (k0_hw1 : k0_chk1 v4), ∀ a, (k0_off98 v4) a + S1.size a ≤ S32.size a := fun v4 k0_hw1 => k0_hw1.1.2.2.2.2.2.2.2.2.2.2.2.2.2.2.2.2.2.2.2.2.1
theorem k0_off101_inb : ∀ (v4 : BitVec 32) (k0_hw1 : k0_chk1 v4), ∀ a, (k0_off101 v4) a + S1.size a ≤ S32.size a := fun v4 k0_hw1 => k0_hw1.1.2.2.2.2.2.2.2.2.2.2.2.2.2.2.2.2.2.2.2.2.2.1
theorem k0_off108_inb : ∀ (v4 : BitVec 32) (k0_hw1 : k0_chk1 v4), ∀ a, (k0_off108 v4) a + S1.size a ≤ S32.size a := fun v4 k0_hw1 => k0_hw1.1.2.2.2.2.2.2.2.2.2.2.2.2.2.2.2.2.2.2.2.2.2.2.1
theorem k0_off111_inb : ∀ (v4 : BitVec 32) (k0_hw1 : k0_chk1 v4), ∀ a, (k0_off111 v4) a + S1.size a ≤ S32.size a := fun v4 k0_hw1 => k0_hw1.1.2.2.2.2.2.2.2.2.2.2.2.2.2.2.2.2.2.2.2.2.2.2.2.1
theorem k0_off118_inb : ∀ (v4 : BitVec 32) (k0_hw1 : k0_chk1 v4), ∀ a, (k0_off118 v4) a + S1.size a ≤ S32.size a := fun v4 k0_hw1 => k0_hw1.1.2.2.2.2.2.2.2.2.2.2.2.2.2.2.2.2.2.2.2.2.2.2.2.2.1
theorem k0_off121_inb : ∀ (v4 : BitVec 32) (k0_hw1 : k0_chk1 v4), ∀ a, (k0_off121 v4) a + S1.size a ≤ S32.size a := fun v4 k0_hw1 => k0_hw1.1.2.2.2.2.2.2.2.2.2.2.2.2.2.2.2.2.2.2.2.2.2.2.2.2.2.1
theorem k0_off128_inb : ∀ (v4 : BitVec 32) (k0_hw1 : k0_chk1 v4), ∀ a, (k0_off128 v4) a + S1.size a ≤ S32.size a := fun v4 k0_hw1 => k0_hw1.1.2.2.2.2.2.2.2.2.2.2.2.2.2.2.2.2.2.2.2.2.2.2.2.2.2.2.1
theorem k0_off131_inb : ∀ (v4 : BitVec 32) (k0_hw1 : k0_chk1 v4), ∀ a, (k0_off131 v4) a + S1.size a ≤ S32.size a := fun v4 k0_hw1 => k0_hw1.1.2.2.2.2.2.2.2.2.2.2.2.2.2.2.2.2.2.2.2.2.2.2.2.2.2.2.2.1
theorem k0_off138_inb : ∀ (v4 : BitVec 32) (k0_hw1 : k0_chk1 v4), ∀ a, (k0_off138 v4) a + S1.size a ≤ S32.size a := fun v4 k0_hw1 => k0_hw1.1.2.2.2.2.2.2.2.2.2.2.2.2.2.2.2.2.2.2.2.2.2.2.2.2.2.2.2.2.1
theorem k0_off141_inb : ∀ (v4 : BitVec 32) (k0_hw1 : k0_chk1 v4), ∀ a, (k0_off141 v4) a + S1.size a ≤ S32.size a := fun v4 k0_hw1 => k0_hw1.1.2.2.2.2.2.2.2.2.2.2.2.2.2.2.2.2.2.2.2.2.2.2.2.2.2.2.2.2.2.1
theorem k0_off148_inb : ∀ (v4 : BitVec 32) (k0_hw1 : k0_chk1 v4), ∀ a, (k0_off148 v4) a + S1.size a ≤ S32.size a := fun v4 k0_hw1 => k0_hw1.1.2.2.2.2.2.2.2.2.2.2.2.2.2.2.2.2.2.2.2.2.2.2.2.2.2.2.2.2.2.2.1
theorem k0_off151_inb : ∀ (v4 : BitVec 32) (k0_hw1 : k0_chk1 v4), ∀ a, (k0_off151 v4) a + S1.size a ≤ S32.size a := fun v4 k0_hw1 => k0_hw1.1.2.2.2.2.2.2.2.2.2.2.2.2.2.2.2.2.2.2.2.2.2.2.2.2.2.2.2.2.2.2.2
theorem k0_off158_inb : ∀ (v4 : BitVec 32) (k0_hw1 : k0_chk1 v4), ∀ a, (k0_off158 v4) a + S1.size a ≤ S32.size a := fun v4 k0_hw1 => k0_hw1.2.1
theorem k0_off160_inb : ∀ (v4 : BitVec 32) (k0_hw1 : k0_chk1 v4), ∀ a, (k0_off160 v4) a + S1.size a ≤ S32.size a := fun v4 k0_hw1 => k0_hw1.2.2

def k0_off161 (v2107 : BitVec 32) : Fin 2 → Nat :=
  let c128_i32_2000 : BitVec 32 := 128#32
  let v2108 : BitVec 32 := Scalar.muli v2107 c128_i32_2000
  let c64_i32_2001 : BitVec 32 := 64#32
  let v2109 : BitVec 32 := Scalar.addi v2108 c64_i32_2001
  let c0_i32_2007 : BitVec 32 := 0#32
  ![v2109.toNat, 0]

def k0_off162 (v2107 : BitVec 32) : Fin 2 → Nat :=
  let c128_i32_2009 : BitVec 32 := 128#32
  let v2116 : BitVec 32 := Scalar.muli v2107 c128_i32_2009
  let v2117 : Index := Scalar.indexCast v2116
  let c0_2010 : Index := 0#32
  ![v2117.toNat, 0]
def k0_off163 (v2107 : BitVec 32) : Fin 2 → Nat :=
  let c128_i32_2017 : BitVec 32 := 128#32
  let v2131 : BitVec 32 := Scalar.muli v2107 c128_i32_2017
  let v2132 : Index := Scalar.indexCast v2131
  let c0_2018 : Index := 0#32
  ![v2132.toNat, 0]

def k0_chk35 (v2107 : BitVec 32) : Prop :=
  (∀ a, (k0_off161 v2107) a + S64x4096.size a ≤ S4096x4096.size a) ∧
  (∀ (hinb : ∀ a, (k0_off161 v2107) a + S64x4096.size a ≤ S4096x4096.size a), (Rect.unit (s := S4096x4096) (k0_off161 v2107) S64x4096.size hinb).WholeWords (EltTy.packing .fp8e4m3)) ∧
  (∀ a, (k0_off162 v2107) a + S128x4096.size a ≤ S4096x4096.size a) ∧
  (∀ a, (k0_off163 v2107) a + S128x64.size a ≤ S4096x64.size a)
theorem k0_off161_inb : ∀ (v2107 : BitVec 32) (k0_hw35 : k0_chk35 v2107), ∀ a, (k0_off161 v2107) a + S64x4096.size a ≤ S4096x4096.size a := fun v2107 k0_hw35 => k0_hw35.1
theorem k0_off161_wordsfp8e4m3 : ∀ (v2107 : BitVec 32) (k0_hw35 : k0_chk35 v2107), (Rect.unit (s := S4096x4096) (k0_off161 v2107) S64x4096.size (k0_off161_inb v2107 k0_hw35)).WholeWords (EltTy.packing .fp8e4m3) := fun v2107 k0_hw35 => k0_hw35.2.1 (k0_off161_inb v2107 k0_hw35)
theorem k0_off162_inb : ∀ (v2107 : BitVec 32) (k0_hw35 : k0_chk35 v2107), ∀ a, (k0_off162 v2107) a + S128x4096.size a ≤ S4096x4096.size a := fun v2107 k0_hw35 => k0_hw35.2.2.1
theorem k0_off163_inb : ∀ (v2107 : BitVec 32) (k0_hw35 : k0_chk35 v2107), ∀ a, (k0_off163 v2107) a + S128x64.size a ≤ S4096x64.size a := fun v2107 k0_hw35 => k0_hw35.2.2.2

def k0_off164 (v1987 : BitVec 32) : Fin 2 → Nat :=
  let c128_i32_1901 : BitVec 32 := 128#32
  let v1996 : BitVec 32 := Scalar.muli v1987 c128_i32_1901
  let c0_i32_1902 : BitVec 32 := 0#32
  let v1997 : BitVec 32 := Scalar.addi v1996 c0_i32_1902
  let c0_i32_2024 : BitVec 32 := 0#32
  ![v1997.toNat, 0]

def k0_chk32 (v1987 : BitVec 32) : Prop :=
  (∀ (r : Fin 2), ∀ a, (k0_off149 v1987 (BitVec.ofNat 32 (64 * r.val))) a + S64x4096.size a ≤ S4096x4096.size a) ∧
  (∀ (r : Fin 2), ∀ (hinb : ∀ a, (k0_off149 v1987 (BitVec.ofNat 32 (64 * r.val))) a + S64x4096.size a ≤ S4096x4096.size a), (Rect.unit (s := S4096x4096) (k0_off149 v1987 (BitVec.ofNat 32 (64 * r.val))) S64x4096.size hinb).WholeWords (EltTy.packing .fp8e4m3)) ∧
  (∀ a, (k0_off154 v1987) a + S128x4096.size a ≤ S4096x4096.size a) ∧
  (∀ a, (k0_off155 v1987) a + S128x64.size a ≤ S4096x64.size a) ∧
  (∀ a, (k0_off164 v1987) a + S64x4096.size a ≤ S4096x4096.size a) ∧
  (∀ (hinb : ∀ a, (k0_off164 v1987) a + S64x4096.size a ≤ S4096x4096.size a), (Rect.unit (s := S4096x4096) (k0_off164 v1987) S64x4096.size hinb).WholeWords (EltTy.packing .fp8e4m3))
theorem k0_off149_inb : ∀ (v1987 : BitVec 32) (k0_hw32 : k0_chk32 v1987), ∀ (r : Fin 2), ∀ a, (k0_off149 v1987 (BitVec.ofNat 32 (64 * r.val))) a + S64x4096.size a ≤ S4096x4096.size a := fun v1987 k0_hw32 r => k0_hw32.1 r
theorem k0_off149_wordsfp8e4m3 : ∀ (v1987 : BitVec 32) (k0_hw32 : k0_chk32 v1987), ∀ (r : Fin 2), (Rect.unit (s := S4096x4096) (k0_off149 v1987 (BitVec.ofNat 32 (64 * r.val))) S64x4096.size (k0_off149_inb v1987 k0_hw32 r)).WholeWords (EltTy.packing .fp8e4m3) := fun v1987 k0_hw32 r => k0_hw32.2.1 r (k0_off149_inb v1987 k0_hw32 r)
theorem k0_off154_inb : ∀ (v1987 : BitVec 32) (k0_hw32 : k0_chk32 v1987), ∀ a, (k0_off154 v1987) a + S128x4096.size a ≤ S4096x4096.size a := fun v1987 k0_hw32 => k0_hw32.2.2.1
theorem k0_off155_inb : ∀ (v1987 : BitVec 32) (k0_hw32 : k0_chk32 v1987), ∀ a, (k0_off155 v1987) a + S128x64.size a ≤ S4096x64.size a := fun v1987 k0_hw32 => k0_hw32.2.2.2.1
theorem k0_off164_inb : ∀ (v1987 : BitVec 32) (k0_hw32 : k0_chk32 v1987), ∀ a, (k0_off164 v1987) a + S64x4096.size a ≤ S4096x4096.size a := fun v1987 k0_hw32 => k0_hw32.2.2.2.2.1
theorem k0_off164_wordsfp8e4m3 : ∀ (v1987 : BitVec 32) (k0_hw32 : k0_chk32 v1987), (Rect.unit (s := S4096x4096) (k0_off164 v1987) S64x4096.size (k0_off164_inb v1987 k0_hw32)).WholeWords (EltTy.packing .fp8e4m3) := fun v1987 k0_hw32 => k0_hw32.2.2.2.2.2 (k0_off164_inb v1987 k0_hw32)

def k0_off165 (v1901 : BitVec 32) : Fin 2 → Nat :=
  let c128_i32_1825 : BitVec 32 := 128#32
  let v1910 : BitVec 32 := Scalar.muli v1901 c128_i32_1825
  let c0_i32_1826 : BitVec 32 := 0#32
  let v1911 : BitVec 32 := Scalar.addi v1910 c0_i32_1826
  let c0_i32_2031 : BitVec 32 := 0#32
  ![v1911.toNat, 0]

def k0_chk31 (v1901 : BitVec 32) : Prop :=
  (∀ (r : Fin 2), ∀ a, (k0_off142 v1901 (BitVec.ofNat 32 (64 * r.val))) a + S64x4096.size a ≤ S4096x4096.size a) ∧
  (∀ (r : Fin 2), ∀ (hinb : ∀ a, (k0_off142 v1901 (BitVec.ofNat 32 (64 * r.val))) a + S64x4096.size a ≤ S4096x4096.size a), (Rect.unit (s := S4096x4096) (k0_off142 v1901 (BitVec.ofNat 32 (64 * r.val))) S64x4096.size hinb).WholeWords (EltTy.packing .fp8e4m3)) ∧
  (∀ a, (k0_off146 v1901) a + S128x4096.size a ≤ S4096x4096.size a) ∧
  (∀ a, (k0_off147 v1901) a + S128x64.size a ≤ S4096x64.size a) ∧
  (∀ a, (k0_off153 v1901) a + S64x4096.size a ≤ S4096x4096.size a) ∧
  (∀ (hinb : ∀ a, (k0_off153 v1901) a + S64x4096.size a ≤ S4096x4096.size a), (Rect.unit (s := S4096x4096) (k0_off153 v1901) S64x4096.size hinb).WholeWords (EltTy.packing .fp8e4m3)) ∧
  (∀ a, (k0_off165 v1901) a + S64x4096.size a ≤ S4096x4096.size a) ∧
  (∀ (hinb : ∀ a, (k0_off165 v1901) a + S64x4096.size a ≤ S4096x4096.size a), (Rect.unit (s := S4096x4096) (k0_off165 v1901) S64x4096.size hinb).WholeWords (EltTy.packing .fp8e4m3))
theorem k0_off142_inb : ∀ (v1901 : BitVec 32) (k0_hw31 : k0_chk31 v1901), ∀ (r : Fin 2), ∀ a, (k0_off142 v1901 (BitVec.ofNat 32 (64 * r.val))) a + S64x4096.size a ≤ S4096x4096.size a := fun v1901 k0_hw31 r => k0_hw31.1 r
theorem k0_off142_wordsfp8e4m3 : ∀ (v1901 : BitVec 32) (k0_hw31 : k0_chk31 v1901), ∀ (r : Fin 2), (Rect.unit (s := S4096x4096) (k0_off142 v1901 (BitVec.ofNat 32 (64 * r.val))) S64x4096.size (k0_off142_inb v1901 k0_hw31 r)).WholeWords (EltTy.packing .fp8e4m3) := fun v1901 k0_hw31 r => k0_hw31.2.1 r (k0_off142_inb v1901 k0_hw31 r)
theorem k0_off146_inb : ∀ (v1901 : BitVec 32) (k0_hw31 : k0_chk31 v1901), ∀ a, (k0_off146 v1901) a + S128x4096.size a ≤ S4096x4096.size a := fun v1901 k0_hw31 => k0_hw31.2.2.1
theorem k0_off147_inb : ∀ (v1901 : BitVec 32) (k0_hw31 : k0_chk31 v1901), ∀ a, (k0_off147 v1901) a + S128x64.size a ≤ S4096x64.size a := fun v1901 k0_hw31 => k0_hw31.2.2.2.1
theorem k0_off153_inb : ∀ (v1901 : BitVec 32) (k0_hw31 : k0_chk31 v1901), ∀ a, (k0_off153 v1901) a + S64x4096.size a ≤ S4096x4096.size a := fun v1901 k0_hw31 => k0_hw31.2.2.2.2.1
theorem k0_off153_wordsfp8e4m3 : ∀ (v1901 : BitVec 32) (k0_hw31 : k0_chk31 v1901), (Rect.unit (s := S4096x4096) (k0_off153 v1901) S64x4096.size (k0_off153_inb v1901 k0_hw31)).WholeWords (EltTy.packing .fp8e4m3) := fun v1901 k0_hw31 => k0_hw31.2.2.2.2.2.1 (k0_off153_inb v1901 k0_hw31)
theorem k0_off165_inb : ∀ (v1901 : BitVec 32) (k0_hw31 : k0_chk31 v1901), ∀ a, (k0_off165 v1901) a + S64x4096.size a ≤ S4096x4096.size a := fun v1901 k0_hw31 => k0_hw31.2.2.2.2.2.2.1
theorem k0_off165_wordsfp8e4m3 : ∀ (v1901 : BitVec 32) (k0_hw31 : k0_chk31 v1901), (Rect.unit (s := S4096x4096) (k0_off165 v1901) S64x4096.size (k0_off165_inb v1901 k0_hw31)).WholeWords (EltTy.packing .fp8e4m3) := fun v1901 k0_hw31 => k0_hw31.2.2.2.2.2.2.2 (k0_off165_inb v1901 k0_hw31)

def k0_off166 (v1852 : BitVec 32) : Fin 2 → Nat :=
  let c128_i32_1796 : BitVec 32 := 128#32
  let v1883 : BitVec 32 := Scalar.muli v1852 c128_i32_1796
  let c64_i32_1797 : BitVec 32 := 64#32
  let v1884 : BitVec 32 := Scalar.addi v1883 c64_i32_1797
  let c0_i32_2038 : BitVec 32 := 0#32
  ![v1884.toNat, 0]

def k0_chk30 (v1852 : BitVec 32) : Prop :=
  (∀ (r : Fin 2), ∀ a, (k0_off139 v1852 (BitVec.ofNat 32 (64 * r.val))) a + S64x4096.size a ≤ S4096x4096.size a) ∧
  (∀ (r : Fin 2), ∀ (hinb : ∀ a, (k0_off139 v1852 (BitVec.ofNat 32 (64 * r.val))) a + S64x4096.size a ≤ S4096x4096.size a), (Rect.unit (s := S4096x4096) (k0_off139 v1852 (BitVec.ofNat 32 (64 * r.val))) S64x4096.size hinb).WholeWords (EltTy.packing .fp8e4m3)) ∧
  (∀ a, (k0_off144 v1852) a + S128x4096.size a ≤ S4096x4096.size a) ∧
  (∀ a, (k0_off145 v1852) a + S128x64.size a ≤ S4096x64.size a) ∧
  (∀ a, (k0_off150 v1852) a + S64x4096.size a ≤ S4096x4096.size a) ∧
  (∀ (hinb : ∀ a, (k0_off150 v1852) a + S64x4096.size a ≤ S4096x4096.size a), (Rect.unit (s := S4096x4096) (k0_off150 v1852) S64x4096.size hinb).WholeWords (EltTy.packing .fp8e4m3)) ∧
  (∀ a, (k0_off166 v1852) a + S64x4096.size a ≤ S4096x4096.size a) ∧
  (∀ (hinb : ∀ a, (k0_off166 v1852) a + S64x4096.size a ≤ S4096x4096.size a), (Rect.unit (s := S4096x4096) (k0_off166 v1852) S64x4096.size hinb).WholeWords (EltTy.packing .fp8e4m3))
theorem k0_off139_inb : ∀ (v1852 : BitVec 32) (k0_hw30 : k0_chk30 v1852), ∀ (r : Fin 2), ∀ a, (k0_off139 v1852 (BitVec.ofNat 32 (64 * r.val))) a + S64x4096.size a ≤ S4096x4096.size a := fun v1852 k0_hw30 r => k0_hw30.1 r
theorem k0_off139_wordsfp8e4m3 : ∀ (v1852 : BitVec 32) (k0_hw30 : k0_chk30 v1852), ∀ (r : Fin 2), (Rect.unit (s := S4096x4096) (k0_off139 v1852 (BitVec.ofNat 32 (64 * r.val))) S64x4096.size (k0_off139_inb v1852 k0_hw30 r)).WholeWords (EltTy.packing .fp8e4m3) := fun v1852 k0_hw30 r => k0_hw30.2.1 r (k0_off139_inb v1852 k0_hw30 r)
theorem k0_off144_inb : ∀ (v1852 : BitVec 32) (k0_hw30 : k0_chk30 v1852), ∀ a, (k0_off144 v1852) a + S128x4096.size a ≤ S4096x4096.size a := fun v1852 k0_hw30 => k0_hw30.2.2.1
theorem k0_off145_inb : ∀ (v1852 : BitVec 32) (k0_hw30 : k0_chk30 v1852), ∀ a, (k0_off145 v1852) a + S128x64.size a ≤ S4096x64.size a := fun v1852 k0_hw30 => k0_hw30.2.2.2.1
theorem k0_off150_inb : ∀ (v1852 : BitVec 32) (k0_hw30 : k0_chk30 v1852), ∀ a, (k0_off150 v1852) a + S64x4096.size a ≤ S4096x4096.size a := fun v1852 k0_hw30 => k0_hw30.2.2.2.2.1
theorem k0_off150_wordsfp8e4m3 : ∀ (v1852 : BitVec 32) (k0_hw30 : k0_chk30 v1852), (Rect.unit (s := S4096x4096) (k0_off150 v1852) S64x4096.size (k0_off150_inb v1852 k0_hw30)).WholeWords (EltTy.packing .fp8e4m3) := fun v1852 k0_hw30 => k0_hw30.2.2.2.2.2.1 (k0_off150_inb v1852 k0_hw30)
theorem k0_off166_inb : ∀ (v1852 : BitVec 32) (k0_hw30 : k0_chk30 v1852), ∀ a, (k0_off166 v1852) a + S64x4096.size a ≤ S4096x4096.size a := fun v1852 k0_hw30 => k0_hw30.2.2.2.2.2.2.1
theorem k0_off166_wordsfp8e4m3 : ∀ (v1852 : BitVec 32) (k0_hw30 : k0_chk30 v1852), (Rect.unit (s := S4096x4096) (k0_off166 v1852) S64x4096.size (k0_off166_inb v1852 k0_hw30)).WholeWords (EltTy.packing .fp8e4m3) := fun v1852 k0_hw30 => k0_hw30.2.2.2.2.2.2.2 (k0_off166_inb v1852 k0_hw30)

def k0_off167 (v2022 : BitVec 32) : Fin 2 → Nat :=
  let c128_i32_1947 : BitVec 32 := 128#32
  let v2039 : BitVec 32 := Scalar.muli v2022 c128_i32_1947
  let c64_i32_1948 : BitVec 32 := 64#32
  let v2040 : BitVec 32 := Scalar.addi v2039 c64_i32_1948
  let c0_i32_2045 : BitVec 32 := 0#32
  ![v2040.toNat, 0]

def k0_chk33 (v2022 : BitVec 32) : Prop :=
  (∀ (r : Fin 2), ∀ a, (k0_off152 v2022 (BitVec.ofNat 32 (64 * r.val))) a + S64x4096.size a ≤ S4096x4096.size a) ∧
  (∀ (r : Fin 2), ∀ (hinb : ∀ a, (k0_off152 v2022 (BitVec.ofNat 32 (64 * r.val))) a + S64x4096.size a ≤ S4096x4096.size a), (Rect.unit (s := S4096x4096) (k0_off152 v2022 (BitVec.ofNat 32 (64 * r.val))) S64x4096.size hinb).WholeWords (EltTy.packing .fp8e4m3)) ∧
  (∀ a, (k0_off156 v2022) a + S128x4096.size a ≤ S4096x4096.size a) ∧
  (∀ a, (k0_off157 v2022) a + S128x64.size a ≤ S4096x64.size a) ∧
  (∀ a, (k0_off167 v2022) a + S64x4096.size a ≤ S4096x4096.size a) ∧
  (∀ (hinb : ∀ a, (k0_off167 v2022) a + S64x4096.size a ≤ S4096x4096.size a), (Rect.unit (s := S4096x4096) (k0_off167 v2022) S64x4096.size hinb).WholeWords (EltTy.packing .fp8e4m3))
theorem k0_off152_inb : ∀ (v2022 : BitVec 32) (k0_hw33 : k0_chk33 v2022), ∀ (r : Fin 2), ∀ a, (k0_off152 v2022 (BitVec.ofNat 32 (64 * r.val))) a + S64x4096.size a ≤ S4096x4096.size a := fun v2022 k0_hw33 r => k0_hw33.1 r
theorem k0_off152_wordsfp8e4m3 : ∀ (v2022 : BitVec 32) (k0_hw33 : k0_chk33 v2022), ∀ (r : Fin 2), (Rect.unit (s := S4096x4096) (k0_off152 v2022 (BitVec.ofNat 32 (64 * r.val))) S64x4096.size (k0_off152_inb v2022 k0_hw33 r)).WholeWords (EltTy.packing .fp8e4m3) := fun v2022 k0_hw33 r => k0_hw33.2.1 r (k0_off152_inb v2022 k0_hw33 r)
theorem k0_off156_inb : ∀ (v2022 : BitVec 32) (k0_hw33 : k0_chk33 v2022), ∀ a, (k0_off156 v2022) a + S128x4096.size a ≤ S4096x4096.size a := fun v2022 k0_hw33 => k0_hw33.2.2.1
theorem k0_off157_inb : ∀ (v2022 : BitVec 32) (k0_hw33 : k0_chk33 v2022), ∀ a, (k0_off157 v2022) a + S128x64.size a ≤ S4096x64.size a := fun v2022 k0_hw33 => k0_hw33.2.2.2.1
theorem k0_off167_inb : ∀ (v2022 : BitVec 32) (k0_hw33 : k0_chk33 v2022), ∀ a, (k0_off167 v2022) a + S64x4096.size a ≤ S4096x4096.size a := fun v2022 k0_hw33 => k0_hw33.2.2.2.2.1
theorem k0_off167_wordsfp8e4m3 : ∀ (v2022 : BitVec 32) (k0_hw33 : k0_chk33 v2022), (Rect.unit (s := S4096x4096) (k0_off167 v2022) S64x4096.size (k0_off167_inb v2022 k0_hw33)).WholeWords (EltTy.packing .fp8e4m3) := fun v2022 k0_hw33 => k0_hw33.2.2.2.2.2 (k0_off167_inb v2022 k0_hw33)

abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S32 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ring.lean ====
module

public import proofs.«01_k».proof.Proof.Gen.KernelIdeal.Frame
public import proofs.«01_k».proof.Proof.Gen.KernelIdeal.Skeleton

@[expose] public section

set_option maxRecDepth 16384

/-!
  The ring of the thirty-two devices, the slots of the two-way gather and the order in which one
  device does the steps that move data.
-/

namespace Cert.KernelIdeal.Ag

open Idealize.ShloMosaic

/-! ## The ring -/

/-- The device at a place of the ring. -/
def cyc : Fin 32 → Dev nD := ![0, 3, 4, 7, 15, 12, 11, 8, 16, 19, 20, 23, 31, 28, 27, 24, 25, 26, 29, 30, 22, 21, 18, 17, 9, 10, 13, 14, 6, 5, 2, 1]
/-- The place of a device on the ring. -/
def pos : Dev nD → Fin 32 := ![0, 31, 30, 1, 2, 29, 28, 3, 7, 24, 25, 6, 5, 26, 27, 4, 8, 23, 22, 9, 10, 21, 20, 11, 15, 16, 17, 14, 13, 18, 19, 12]

theorem cyc_pos : ∀ c, cyc (pos c) = c := by decide
theorem pos_cyc : ∀ r, pos (cyc r) = r := by decide

/-- The device `k` places before `c` on the ring. -/
def org (c : Dev nD) (k : Fin 32) : Dev nD := cyc (pos c - k)

theorem pos_org (c : Dev nD) (k : Fin 32) : pos (org c k) = pos c - k := pos_cyc _
theorem org_zero (c : Dev nD) : org c 0 = c := by
  unfold org; rw [(by decide : ∀ p : Fin 32, p - 0 = p) (pos c), cyc_pos]
theorem org_org (c : Dev nD) (a b : Fin 32) : org (org c a) b = org c (a + b) := by
  unfold org; rw [pos_cyc, (by decide +kernel : ∀ p a b : Fin 32, p - a - b = p - (a + b)) (pos c) a b]
theorem org_inj (c : Dev nD) {a b : Fin 32} (h : org c a = org c b) : a = b := by
  have h' := congrArg pos h
  rw [pos_org, pos_org] at h'
  exact (by decide +kernel : ∀ p a b : Fin 32, p - a = p - b → a = b) _ _ _ h'

/-- The next device on the ring. -/
def nxt (c : Dev nD) : Dev nD := org c (-1)
/-- The device before. -/
def prv (c : Dev nD) : Dev nD := org c 1

theorem nxt_prv (c : Dev nD) : nxt (prv c) = c := by unfold nxt prv; rw [org_org, (by decide : (1 + -1 : Fin 32) = 0), org_zero]
theorem prv_nxt (c : Dev nD) : prv (nxt c) = c := by unfold nxt prv; rw [org_org, (by decide : (-1 + 1 : Fin 32) = 0), org_zero]

/-- The neighbour a copy of a direction goes to: forward (`true`) the next, backward the one before. -/
def peer (d : Bool) (c : Dev nD) : Dev nD := if d then nxt c else prv c

theorem peer_peer (d : Bool) (c : Dev nD) : peer d (peer (!d) c) = c := by
  cases d
  · exact prv_nxt c
  · exact nxt_prv c
theorem peer_peer' (d : Bool) (c : Dev nD) : peer (!d) (peer d c) = c := by
  cases d
  · exact nxt_prv c
  · exact prv_nxt c

/-- One step of a direction is a permutation of the devices. -/
def ring (d : Bool) : Dev nD ≃ Dev nD := ⟨peer d, peer (!d), peer_peer' d, peer_peer d⟩

/-! ## Slots: direction, hop, half of the block -/

/-- A transfer of one half block: its direction, its hop, which half. -/
abbrev Slot : Type := Bool × Fin 16 × Fin 2

/-- Whether the transfer is made: at the last hop one half comes from each side. -/
def used (s : Slot) : Bool := decide (s.2.1.val < 15) || (if s.1 then decide (s.2.2 = 0) else decide (s.2.2 = 1))

/-- The transfers that are made. -/
def US : Finset Slot := Finset.univ.filter fun s => used s = true

theorem mem_US {s : Slot} : s ∈ US ↔ used s = true := by unfold US; rw [Finset.mem_filter]; exact ⟨fun h => h.2, fun h => ⟨Finset.mem_univ _, h⟩⟩

/-- How many places before the sender the block of a transfer started. -/
def kS (s : Slot) : Fin 32 := if s.1 then ⟨s.2.1.val, by omega⟩ else -⟨s.2.1.val, by omega⟩
/-- How many places before the receiver. -/
def kR (s : Slot) : Fin 32 := if s.1 then ⟨s.2.1.val + 1, by omega⟩ else -⟨s.2.1.val + 1, by omega⟩

/-- What the receiver counts as the block of a transfer is what the sender counts. -/
theorem org_peer (c : Dev nD) (s : Slot) : org (peer s.1 c) (kR s) = org c (kS s) := by
  have e : peer s.1 c = org c (if s.1 then -1 else 1) := by
    unfold peer nxt prv; split <;> rfl
  rw [e, org_org, (by decide +kernel : ∀ s : Slot, (if s.1 then -1 else 1) + kR s = kS s) s]

/-- The transfer that passes on what a transfer has brought. -/
def nextSlot (s : Slot) : Slot := (s.1, s.2.1 + 1, s.2.2)
/-- Whether what a transfer has brought is passed on. -/
def passes (s : Slot) : Bool := decide (s.2.1.val < 15) && used (nextSlot s)

/-! ## The order of a device's steps -/

/-- A step of a device: start a transfer, wait until a transfer of its own has read its source, wait until a
    transfer to it has landed, compute the rows of the block that started `k` places before. -/
inductive Act : Type
  | send (s : Slot)
  | swait (s : Slot)
  | recv (s : Slot)
  | comp (k : Fin 32)
deriving DecidableEq

/-- What a device does once a transfer has landed. -/
def onLand (s : Slot) : List Act := if passes s then [.recv s, .send (nextSlot s), .swait s] else [.recv s]

/-- One hop. -/
def hop (h : Fin 16) : List Act :=
  (if h.val < 15 then onLand (true, h, 0) ++ onLand (true, h, 1) else onLand (true, h, 0))
    ++ (if h.val < 15 then onLand (false, h, 0) ++ onLand (false, h, 1) else onLand (false, h, 1))
    ++ (if h.val < 15 then [.comp (kR (true, h, 0))] else [])
    ++ [.comp (kR (false, h, 0))]

/-- The steps of a device, in order, from the barrier on. -/
def script : List Act :=
  [.send (true, 0, 0), .send (false, 0, 0), .send (true, 0, 1), .send (false, 0, 1), .comp 0]
    ++ (List.finRange 16).flatMap hop
    ++ [.swait (true, 15, 0), .swait (false, 14, 0), .swait (true, 14, 1), .swait (false, 15, 1)]

theorem script_nodup : script.Nodup := by decide +kernel

/-- Whether a step is among the first `n`. -/
def done (n : ℕ) (a : Act) : Prop := a ∈ script.take n
instance (n : ℕ) (a : Act) : Decidable (done n a) := by unfold done; infer_instance

theorem done_succ {n : ℕ} {a : Act} (h : script[n]? = some a) (b : Act) : done (n + 1) b ↔ done n b ∨ b = a := by
  unfold done
  rw [List.take_succ, h, List.mem_append, Option.toList_some, List.mem_singleton]

theorem not_done {n : ℕ} {a : Act} (h : script[n]? = some a) : ¬ done n a := by
  intro hd
  obtain ⟨i, hi, e⟩ := List.mem_iff_getElem.mp hd
  rw [List.length_take] at hi
  rw [List.getElem_take] at e
  obtain ⟨hn, e'⟩ := List.getElem?_eq_some_iff.mp h
  have := (List.Nodup.getElem_inj_iff script_nodup (hi := by omega) (hj := hn)).mp (e.trans e'.symm)
  omega

/-- The order is possible: what a step needs is done before it. -/
def okAt (n : ℕ) : Act → Bool
  | .send s => used s && (decide (s.2.1 = 0) || decide (∃ r ∈ US, passes r ∧ nextSlot r = s ∧ done n (.recv r)))
  | .swait s => used s && decide (done n (.send s))
  | .recv s => used s && (decide (∀ r ∈ US, done n (.send r) ∨ s.2.1.val < r.2.1.val)) && decide (passes s = true → ¬ done n (.send (nextSlot s)))
  | .comp k => decide (k = 0) || decide (∃ r ∈ US, ∃ r' ∈ US, r.2.2 = 0 ∧ r'.2.2 = 1 ∧ kR r = k ∧ kR r' = k ∧ done n (.recv r) ∧ done n (.recv r'))

def okAll : Bool := script.zipIdx.all fun p => okAt p.2 p.1
theorem okAll_true : okAll = true := by decide +kernel

theorem ok {n : ℕ} {a : Act} (h : script[n]? = some a) : okAt n a = true :=
  List.all_eq_true.mp okAll_true (a, n) (List.mem_zipIdx_iff_getElem?.mpr h)

/-- At the end every step is done. -/
theorem all_done : (∀ s ∈ US, done script.length (.send s) ∧ done script.length (.swait s) ∧ done script.length (.recv s)) ∧ ∀ k, done script.length (.comp k) := by
  decide +kernel

/-- Every half block of the whole array is one of the device's own two or comes by exactly one transfer. -/
theorem pieces : ∀ c : Dev nD, (Finset.univ : Finset (Dev nD × Fin 2)) = {(c, 0), (c, 1)} ∪ US.image (fun s => (org c (kR s), s.2.2)) := by decide +kernel
theorem pieces_inj : ∀ s ∈ US, ∀ s' ∈ US, (kR s, s.2.2) = (kR s', s'.2.2) → s = s' := by decide +kernel
theorem kR_ne : ∀ s ∈ US, kR s ≠ 0 := by decide +kernel

end Cert.KernelIdeal.Ag
end
-- ==== Proof.Sched.lean ====
module

public import proofs.«01_k».proof.Proof.Ring
public import Idealize.ShloMosaic.Lib.Rounds

@[expose] public section

set_option maxRecDepth 16384

/-!
  The protocol of the two-way gather: the half blocks of the gathered array, the semaphore cells with
  what each hands over, and what a device holds after each of its steps.
-/

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Half blocks -/

abbrev gM : Memref sig .tc .vmem S4096x4096 .fp8e4m3 := Memref.whole cc0_scratch0

theorem piece_inb (o : Dev nD) (j : Fin 2) : ∀ i : Fin 2, (![128 * o.val + 64 * j.val, 0] : Fin 2 → ℕ) i + S64x4096.size i ≤ S4096x4096.size i := by
  intro i
  have h : o.val < 32 := o.isLt
  have := j.isLt
  match i with
  | 0 => show 128 * o.val + 64 * j.val + 64 ≤ 4096; omega
  | 1 => show 0 + 4096 ≤ 4096; omega

/-- Half `j` of the block of device `o` within the gathered array. -/
abbrev pieceR (o : Dev nD) (j : Fin 2) : Rect S4096x4096 := Rect.unit (s := S4096x4096) ![128 * o.val + 64 * j.val, 0] S64x4096.size (piece_inb o j)
abbrev pieceM (o : Dev nD) (j : Fin 2) : Memref sig .tc .vmem S64x4096 .fp8e4m3 := gM.slice (pieceR o j) (fun _ => rfl)

/-- Its elements. -/
def P (o : Dev nD) (j : Fin 2) : Finset (S4096x4096.Idx) := (pieceM o j).view.set

/-- What one copy of a half block pays. -/
abbrev N : ℕ := (pieceM 0 0).view.dmaCredit
theorem N_pos : 0 < N := View.dmaCredit_pos _ (by decide)
theorem N_eq (o : Dev nD) (j : Fin 2) : (pieceM o j).view.dmaCredit = N := rfl

/-! ## Cells -/

/-- The place of the semaphore of a transfer among the core's: `true` the one that tells the receiver. -/
def semIx (r : Bool) (s : Slot) : DmaSem sig :=
  ⟨7 + (if s.1 then 0 else 64) + (if r then 32 else 0) + 2 * s.2.1.val + s.2.2.val, by
    have := s.2.1.isLt; have := s.2.2.isLt
    show _ < 136
    split <;> split <;> omega⟩

/-- Which transfer a semaphore belongs to. -/
def slotOf (n : DmaSem sig) : Option (Bool × Slot) :=
  if 7 ≤ n.val ∧ n.val < 135 then
    some (decide (32 ≤ (n.val - 7) % 64), decide (n.val - 7 < 64), ⟨(n.val - 7) % 32 / 2, by omega⟩, ⟨(n.val - 7) % 2, by omega⟩)
  else none

theorem slotOf_semIx (r : Bool) (s : Slot) : slotOf (semIx r s) = some (r, s) := by
  obtain ⟨d, h, j⟩ := s
  unfold slotOf
  have hh := h.isLt; have hj := j.isLt
  rw [if_pos (by unfold semIx; dsimp only; cases d <;> cases r <;> simp <;> omega)]
  unfold semIx
  cases d <;> cases r <;> simp <;> refine ⟨by omega, by omega, Fin.ext ?_, Fin.ext ?_⟩ <;> (dsimp only; omega)

abbrev barCell (c : Dev nD) : GSem nD τ sig := ((c : Thread nD τ), .reg barrier0)
/-- The cell that says a transfer of the device has read its source. -/
abbrev sCell (c : Dev nD) (s : Slot) : GSem nD τ sig := ((c : Thread nD τ), .dma (semIx false s))
/-- The cell that says a transfer to the device has landed. -/
abbrev rCell (c : Dev nD) (s : Slot) : GSem nD τ sig := ((c : Thread nD τ), .dma (semIx true s))

variable {F : FTy → Type} [FloatOps F]

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

abbrev 𝒱₀ : Variants := Variants.none

/-! ## Contents -/

/-- The gathered array: block `o` of it is what device `o` brought. -/
def G (X : Dev nD → Vec F S128x4096 .fp8e4m3) : (cc0_scratch0 : Ref sig .tc).ty.Contents (Elt F) :=
  fun (i : S4096x4096.Idx) => X ⟨(i 0).val / 128, by have := (i 0).isLt; change (i 0).val < 4096 at this; show _ < 32; omega⟩
    (fun a => match a with
      | 0 => (⟨(i 0).val % 128, Nat.mod_lt _ (by decide)⟩ : Fin 128)
      | 1 => (i 1 : Fin 4096))

/-- A half block of a device's gathered array, at a share. -/
def pcs (c o : Dev nD) (j : Fin 2) (q : PosShare TreeShare) (f : (cc0_scratch0 : Ref sig .tc).ty.Contents (Elt F)) : sProp 𝕄 :=
  ((c : Thread nD τ).loc cc0_scratch0) ↦[P o j]{q} f

instance (c o : Dev nD) (j : Fin 2) (q : PosShare TreeShare) (f : (cc0_scratch0 : Ref sig .tc).ty.Contents (Elt F)) :
    BI.Storable (upEmb : UEmb _ 𝕄) (pcs c o j q f) := by unfold pcs; infer_instance

/-- The share of its source a transfer is lent. A device's own block goes both ways. -/
def qS (s : Slot) : PosShare TreeShare := if s.2.1 = 0 then (if s.1 then fullShare.left else fullShare.right.left) else fullShare.left

variable (X : Dev nD → Vec F S128x4096 .fp8e4m3)

/-! ## The schedule -/

/-- What neighbour `d` of device `c` hands over at the barrier: the places where `c`'s transfers that way land, and that
    their cells are open. -/
def barPay (c : Dev nD) (d : Bool) : sProp 𝕄 :=
  bigSep (US.filter fun s => s.1 = d) fun s =>
    iprop((∃ f, pcs (peer d c) (org (peer d c) (kR s)) s.2.2 fullShare f) ∗ reached ER (rCell (peer d c) s) 0)

/-- What a semaphore of transfers hands over: the landed half block at the gathered array's contents, or the source's lent
    share back. -/
def dmaPay (c : Dev nD) : Option (Bool × Slot) → sProp 𝕄
  | some (true, s) => pcs c (org c (kR s)) s.2.2 fullShare (G X)
  | some (false, s) => pcs c (org c (kS s)) s.2.2 (qS s) (G X)
  | none => iprop(emp)

def dmaDuty : Option (Bool × Slot) → Finset Bool
  | some (_, s) => if used s then {true} else ∅
  | none => ∅

def sdl : Rounds.Schedule (GSem nD τ sig) Bool 𝕄 where
  duties g r := if r = 0 ∧ g.1.2 = .tc then (match g.2 with | .reg _ => {true, false} | .dma n => dmaDuty (slotOf n)) else ∅
  unitless _ := False
  amount g _ _ := match g.2 with | .reg _ => 1 | .dma _ => N
  payload g _ d := match g.2 with | .reg _ => barPay g.1.1 d | .dma n => dmaPay X g.1.1 (slotOf n)
  amount_pos g _ _ _ := by
    obtain ⟨t, s⟩ := g
    cases s
    · exact Nat.one_pos
    · exact N_pos

instance sdl_storable (g : GSem nD τ sig) (r : ℕ) (d : Bool) : BI.Storable (upEmb : UEmb _ 𝕄) ((sdl (F := F) X).payload g r d) := by
  obtain ⟨t, s⟩ := g
  cases s with
  | reg n => show BI.Storable upEmb (barPay t.1 d); unfold barPay; infer_instance
  | dma n =>
    show BI.Storable upEmb (dmaPay X t.1 (slotOf n))
    rcases slotOf n with _ | ⟨_ | _, s⟩ <;> (unfold dmaPay; infer_instance)

theorem duties_bar (c : Dev nD) : (sdl (F := F) X).duties (barCell c) 0 = {true, false} := by
  dsimp only [sdl]; exact if_pos ⟨rfl, rfl⟩
theorem duties_dma (c : Dev nD) (r : Bool) (s : Slot) (hs : used s = true) : (sdl (F := F) X).duties ((c : Thread nD τ), .dma (semIx r s)) 0 = {true} := by
  dsimp only [sdl]; rw [if_pos ⟨rfl, rfl⟩, slotOf_semIx]; exact if_pos hs
theorem duties_later (g : GSem nD τ sig) : ∀ r, 1 ≤ r → (sdl (F := F) X).duties g r = ∅ :=
  fun r hr => if_neg fun h => by omega
theorem duties_unused (c : Dev nD) (r : Bool) (s : Slot) (hs : ¬ used s = true) : ∀ n, 0 ≤ n → (sdl (F := F) X).duties ((c : Thread nD τ), .dma (semIx r s)) n = ∅ := by
  intro n _
  dsimp only [sdl]; rw [slotOf_semIx, (by unfold dmaDuty; dsimp only; exact if_neg hs : dmaDuty (some (r, s)) = ∅), ite_self]
theorem amount_dma (c : Dev nD) (n : DmaSem sig) (r : ℕ) (d : Bool) : (sdl (F := F) X).amount ((c : Thread nD τ), .dma n) r d = N := rfl
theorem amount_bar (c : Dev nD) (r : ℕ) (d : Bool) : (sdl (F := F) X).amount (barCell c) r d = 1 := rfl
theorem payload_bar (c : Dev nD) (d : Bool) : (sdl (F := F) X).payload (barCell c) 0 d = barPay c d := rfl
theorem payload_s (c : Dev nD) (s : Slot) (d : Bool) : (sdl (F := F) X).payload (sCell c s) 0 d = pcs c (org c (kS s)) s.2.2 (qS s) (G X) := by
  dsimp only [sdl]; rw [slotOf_semIx]; rfl
theorem payload_r (c : Dev nD) (s : Slot) (d : Bool) : (sdl (F := F) X).payload (rCell c s) 0 d = pcs c (org c (kR s)) s.2.2 fullShare (G X) := by
  dsimp only [sdl]; rw [slotOf_semIx]; rfl
theorem expect_dma (c : Dev nD) (r : Bool) (s : Slot) (hs : used s = true) : (sdl (F := F) X).expect ((c : Thread nD τ), .dma (semIx r s)) 0 = N := by
  unfold Schedule.expect Schedule.amountOf; rw [duties_dma X c r s hs, Finset.sum_singleton, amount_dma]
theorem expect_bar (c : Dev nD) : (sdl (F := F) X).expect (barCell c) 0 = 2 := by
  unfold Schedule.expect Schedule.amountOf; rw [duties_bar, Finset.sum_pair (by decide), amount_bar, amount_bar]
theorem rest_bar (c : Dev nD) : bigSep ((sdl (F := F) X).duties (barCell c) 0 \ ∅) (fun d => (sdl (F := F) X).payload (barCell c) 0 d) = iprop(barPay c true ∗ barPay (F := F) c false) := by
  rw [Finset.sdiff_empty, duties_bar, bigSep_insert (by decide), bigSep_singleton, payload_bar, payload_bar]; rfl
theorem rest_s (c : Dev nD) (s : Slot) (hs : used s = true) : bigSep ((sdl (F := F) X).duties (sCell c s) 0 \ ∅) (fun d => (sdl (F := F) X).payload (sCell c s) 0 d) = pcs c (org c (kS s)) s.2.2 (qS s) (G X) := by
  rw [Finset.sdiff_empty, duties_dma X c false s hs, bigSep_singleton, payload_s]
theorem rest_r (c : Dev nD) (s : Slot) (hs : used s = true) : bigSep ((sdl (F := F) X).duties (rCell c s) 0 \ ∅) (fun d => (sdl (F := F) X).payload (rCell c s) 0 d) = pcs c (org c (kR s)) s.2.2 fullShare (G X) := by
  rw [Finset.sdiff_empty, duties_dma X c true s hs, bigSep_singleton, payload_r]

/-! ## What is owed; the levels -/

/-- What the transfers of a list of steps owe their receivers. -/
def owedBy (c : Dev nD) : List Act → CellTallies nD τ sig Unit
  | [] => 0
  | .send s :: l => owedBy c l + tallyAt (rCell (peer s.1 c) s) () N
  | _ :: l => owedBy c l

/-- What a device owes after its first `n` steps. -/
def dues (c : Dev nD) (n : ℕ) : CellTallies nD τ sig Unit := owedBy c (script.drop n)

theorem drop_step {n : ℕ} {a : Act} (h : script[n]? = some a) : script.drop n = a :: script.drop (n + 1) := by
  obtain ⟨hn, e⟩ := List.getElem?_eq_some_iff.mp h
  rw [List.drop_eq_getElem_cons hn, e]

theorem dues_send (c : Dev nD) {n : ℕ} {s : Slot} (h : script[n]? = some (.send s)) : dues c n = dues c (n + 1) + tallyAt (rCell (peer s.1 c) s) () N := by
  unfold dues; rw [drop_step h]; rfl
theorem dues_other (c : Dev nD) {n : ℕ} {a : Act} (h : script[n]? = some a) (ha : ∀ s, a ≠ .send s) : dues c n = dues c (n + 1) := by
  unfold dues; rw [drop_step h]
  cases a with
  | send s => exact absurd rfl (ha s)
  | _ => rfl

theorem owedBy_pos (c : Dev nD) (g : GSem nD τ sig) (u : Unit) : ∀ l : List Act, 0 < owedBy c l g u → ∃ s, Act.send s ∈ l ∧ g = rCell (peer s.1 c) s := by
  intro l
  induction l with
  | nil => intro h; exact absurd h (Nat.lt_irrefl 0)
  | cons a l ih =>
    intro h
    cases a with
    | send s =>
      by_cases hg : g = rCell (peer s.1 c) s
      · exact ⟨s, List.mem_cons_self .., hg⟩
      · have h' : 0 < owedBy c l g u + tallyAt (rCell (peer s.1 c) s) () N g u := h
        rw [tallyAt_apply, if_neg (fun e => hg e.1), Nat.add_zero] at h'
        obtain ⟨s', hs', e⟩ := ih h'
        exact ⟨s', List.mem_cons_of_mem _ hs', e⟩
    | _ =>
      obtain ⟨s', hs', e⟩ := ih h
      exact ⟨s', List.mem_cons_of_mem _ hs', e⟩

def L (g : GSem nD τ sig) : Finset Unit := if g.1.2 = .tc then {()} else ∅
def lvDma : Option (Bool × Slot) → ℕ
  | some (true, s) => s.2.1.val + 2
  | _ => 0
/-- The levels: the barrier at 1, the landings by their hop, the rest at 0. -/
def lv (g : GSem nD τ sig) (_ : Unit) : ℕ := match g.2 with | .reg _ => 1 | .dma n => lvDma (slotOf n)

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (s : Slot) : lv (rCell c s) () = s.2.1.val + 2 := by unfold lv; dsimp only; rw [slotOf_semIx]; rfl
theorem lv_s (c : Dev nD) (s : Slot) : lv (sCell c s) () = 0 := by unfold lv; dsimp only; rw [slotOf_semIx]; rfl

/-- A device may wait on a cell below everything that the list of steps still owes. -/
theorem mayWait (c : Dev nD) (sm : SemLoc sig) (l : List Act) (k : ℕ) (hk : lv ((c : Thread nD τ), sm) () ≤ k) (hl : ∀ s, Act.send s ∈ l → k < s.2.1.val + 2) :
    (levAts L lv : sProp 𝕄) ⊢ MayWait (c : Thread nD τ) sm () (owedBy c l) :=
  MayOwe.of_cut (L := L) (lev := lv) k (fun p hp => by rw [Finset.mem_singleton.mp hp, L_tc]; exact Finset.mem_singleton_self _)
    (fun g u hg => by
      obtain ⟨s, _, e⟩ := owedBy_pos c g u l hg
      rw [e, L_tc]; exact Finset.mem_singleton_self _)
    (fun p hp => by rw [Finset.mem_singleton.mp hp]; exact hk)
    (fun g u hg => by
      obtain ⟨s, hs, e⟩ := owedBy_pos c g u l hg
      rw [e]; show k < lv _ (); rw [lv_r]; exact hl s hs)

end Cert.KernelIdeal.Ag
end
end
-- ==== Proof.State.lean ====
module

public import proofs.«01_k».proof.Proof.Sched

@[expose] public section

set_option maxRecDepth 16384

/-!
  What a device holds after its first `n` steps, and how one step changes it.
-/

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Which steps are done, as truth values -/

def dn (n : ℕ) (a : Act) : Bool := decide (done n a)

theorem dn_succ {n : ℕ} {a : Act} (h : script[n]? = some a) (b : Act) : dn (n + 1) b = (dn n b || decide (b = a)) := by
  unfold dn; rw [decide_eq_decide.mpr (done_succ h b), Bool.decide_or]
theorem dn_now {n : ℕ} {a : Act} (h : script[n]? = some a) : dn n a = false := decide_eq_false (not_done h)
theorem dn_self {n : ℕ} {a : Act} (h : script[n]? = some a) : dn (n + 1) a = true := by rw [dn_succ h, decide_eq_true rfl, Bool.or_true]
theorem dn_ne {n : ℕ} {a b : Act} (h : script[n]? = some a) (hb : b ≠ a) : dn (n + 1) b = dn n b := by rw [dn_succ h, decide_eq_false hb, Bool.or_false]

/-- The transfer that brought what a transfer passes on. -/
def prevSlot (s : Slot) : Slot := (s.1, s.2.1 - 1, s.2.2)

theorem prev_next : ∀ s : Slot, prevSlot (nextSlot s) = s := by decide +kernel
theorem prev_eq : ∀ s ∈ US, ∀ t ∈ US, prevSlot t = s → t.2.1 ≠ 0 → passes s = true ∧ t = nextSlot s := by decide +kernel
theorem next_used : ∀ s : Slot, passes s = true → nextSlot s ∈ US ∧ (nextSlot s).2.1 ≠ 0 ∧ kS (nextSlot s) = kR s ∧ (nextSlot s).2.2 = s.2.2 := by decide +kernel

/-- Whether the device holds the lent share of the source of a transfer. -/
def inhand (n : ℕ) (s : Slot) : Bool := (decide (s.2.1 = 0) || dn n (.recv (prevSlot s))) && !(dn n (.send s) && !dn n (.swait s))

variable {F : FTy → Type} [FloatOps F]

local notation "𝕄" => MT nD τ sig Unit (Elt F) ℕ UU ℕ

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- One member of a family over the transfers is taken out and put back changed, the others being as they were. -/
theorem bigSep_step {Φ Ψ : Slot → sProp 𝕄} {s : Slot} (hs : s ∈ US) (h : ∀ t ∈ US, t ≠ s → Φ t = Ψ t) :
    bigSep US Φ ⊢ iprop(Φ s ∗ (Ψ s -∗ bigSep US Ψ)) := by
  have e : bigSep (US.erase s) Φ = bigSep (US.erase s) Ψ :=
    bigSep_congr fun t ht => h t (Finset.mem_of_mem_erase ht) (Finset.ne_of_mem_erase ht)
  rw [bigSep_erase hs, e, bigSep_erase (Φ := Ψ) hs]
  show iprop(Φ s ∗ bigSep (US.erase s) Ψ) ⊢ iprop(Φ s ∗ (Ψ s -∗ (Ψ s ∗ bigSep (US.erase s) Ψ)))
  iintro ⟨H, Hr⟩
  isplitl [H]; · iexact H
  iintro H'
  isplitl [H']; · iexact H'
  iexact Hr

theorem bigSep_same {Φ Ψ : Slot → sProp 𝕄} (h : ∀ t ∈ US, Φ t = Ψ t) : bigSep US Φ = bigSep US Ψ := bigSep_congr h

variable (X : Dev nD → Vec F S128x4096 .fp8e4m3) (Wt : Dev nD → Vec F S4096x64 .fp8e4m3) (sc : Dev nD → F .f32)

/-! ## The state -/

/-- What a device knows of the cells of a transfer. -/
def slotInv (K : GSem nD τ sig → ℕ) (c : Dev nD) (s : Slot) : sProp 𝕄 :=
  iprop(cellInv ER (sdl X) (K (sCell c s)) (sCell c s) ∗ cellInv ER (sdl X) (K (rCell c s)) (rCell c s)
    ∗ cellInv ER (sdl X) (K (rCell (peer s.1 c) s)) (rCell (peer s.1 c) s)
    ∗ reached ER (sCell c s) 0 ∗ reached ER (rCell (peer s.1 c) s) 0)

instance slotInv_persistent (K : GSem nD τ sig → ℕ) (c : Dev nD) (s : Slot) : BI.Persistent (slotInv (F := F) X K c s) := by unfold slotInv; infer_instance

def Inv (K : GSem nD τ sig → ℕ) (c : Dev nD) : sProp 𝕄 := iprop(bigSep US (slotInv X K c) ∗ levAts L lv)

instance Inv_persistent (K : GSem nD τ sig → ℕ) (c : Dev nD) : BI.Persistent (Inv (F := F) X K c) := by unfold Inv; infer_instance

/-- The sending side of a transfer: before it starts, while it runs, after the device has waited for it. -/
def SSb (c : Dev nD) (s : Slot) : Bool → Bool → sProp 𝕄
  | false, _ => iprop(dutyTok ER (sCell c s) 0 true ∗ dutyTok ER (rCell (peer s.1 c) s) 0 true ∗ atPos ER (sCell c s) 0 ∅ 0
      ∗ ∃ f, pcs (peer s.1 c) (org c (kS s)) s.2.2 fullShare f)
  | true, false => iprop(cred (tallyAt (sCell c s) () N) ∗ atPos ER (sCell c s) 0 ∅ 0)
  | true, true => atPos ER (sCell c s) 1 ∅ 0
def SS (c : Dev nD) (n : ℕ) (s : Slot) : sProp 𝕄 := SSb c s (dn n (.send s)) (dn n (.swait s))

/-- The lent share of the source of a transfer, while the device has it. -/
def QSb (c : Dev nD) (s : Slot) : Bool → sProp 𝕄
  | true => pcs c (org c (kS s)) s.2.2 (qS s) (G X)
  | false => iprop(emp)
def QS (c : Dev nD) (n : ℕ) (s : Slot) : sProp 𝕄 := QSb X c s (inhand n s)

/-- The receiving side of a transfer: before the device has waited for it, and after. -/
def RSb (c : Dev nD) (s : Slot) : Bool → sProp 𝕄
  | false => iprop(cred (tallyAt (rCell c s) () N) ∗ atPos ER (rCell c s) 0 ∅ 0)
  | true => iprop(atPos ER (rCell c s) 1 ∅ 0 ∗ pcs c (org c (kR s)) s.2.2 fullShare.right (G X)
      ∗ (if passes s = true then iprop(emp) else pcs c (org c (kR s)) s.2.2 fullShare.left (G X)))
def RS (c : Dev nD) (n : ℕ) (s : Slot) : sProp 𝕄 := RSb X c s (dn n (.recv s))

/-- The rows of one device's block of the result: the product with the device's columns, scaled, times its logistic. -/
def Ych (c o : Dev nD) : FVec F S128x64 .f32 := Gen.k0_pay4 (sc c) (X o) (Wt c)

/-- The whole result of a device. -/
def Y (c : Dev nD) : (cc0_stg6_0 : Ref sig .tc).ty.Contents (Elt F) :=
  fun (i : S4096x64.Idx) => Ych X Wt sc c ⟨(i 0).val / 128, by have := (i 0).isLt; change (i 0).val < 4096 at this; show _ < 32; omega⟩
    (fun a => match a with
      | 0 => (⟨(i 0).val % 128, Nat.mod_lt _ (by decide)⟩ : Fin 128)
      | 1 => (i 1 : Fin 64))

/-- The result buffer holds the blocks computed so far. -/
def OutOk (c : Dev nD) (n : ℕ) (f : (cc0_stg6_0 : Ref sig .tc).ty.Contents (Elt F)) : Prop :=
  ∀ k, dn n (.comp k) = true → ∀ i : S4096x64.Idx, (i 0).val / 128 = (org c k).val → f i = Y X Wt sc c i

/-- The table of the ring's places. -/
def cycT : (cc0_stg4_0 : Ref sig .tc).ty.Contents (Elt F) := fun i => lit0 (S32.rowMajor i)

/-- The part of a device's own half block that never leaves it. -/
def own (c : Dev nD) : sProp 𝕄 := iprop(pcs c c 0 fullShare.right.right (G X) ∗ pcs c c 1 fullShare.right.right (G X))

/-- What device `c` holds after its first `n` steps, beside `R`. -/
def St (R : sProp 𝕄) (K : GSem nD τ sig → ℕ) (c : Dev nD) (n : ℕ) : sProp 𝕄 :=
  iprop(Inv X K c ∗ (∃ W, owes (c : Thread nD τ) (dues c n) W)
    ∗ bigSep US (SS c n) ∗ bigSep US (QS X c n) ∗ bigSep US (RS X c n) ∗ own X c
    ∗ (∃ f, (((c : Thread nD τ).loc cc0_stg6_0) ↦{fullShare} f) ∗ ⌜OutOk X Wt sc c n f⌝)
    ∗ (((c : Thread nD τ).loc cc0_scratch1) ↦{fullShare} (Wt c))
    ∗ (((c : Thread nD τ).loc cc0_stg4_0) ↦{fullShare} (cycT (F := F)))
    ∗ R)

/-! ## What a step leaves unchanged -/

theorem outOk_ne {c : Dev nD} {n : ℕ} {a : Act} (h : script[n]? = some a) (ha : ∀ k, a ≠ .comp k) (f : (cc0_stg6_0 : Ref sig .tc).ty.Contents (Elt F)) :
    OutOk X Wt sc c n f → OutOk X Wt sc c (n + 1) f :=
  fun hf k hk => hf k (by rwa [dn_ne h (fun e => ha k e.symm)] at hk)

theorem SS_ne (c : Dev nD) {n : ℕ} {a : Act} (h : script[n]? = some a) (t : Slot) (h1 : a ≠ .send t) (h2 : a ≠ .swait t) :
    SS (F := F) c n t = SS c (n + 1) t := by
  unfold SS; rw [dn_ne h h1.symm, dn_ne h h2.symm]
theorem RS_ne (c : Dev nD) {n : ℕ} {a : Act} (h : script[n]? = some a) (t : Slot) (h1 : a ≠ .recv t) :
    RS (F := F) X c n t = RS X c (n + 1) t := by
  unfold RS; rw [dn_ne h h1.symm]
theorem QS_ne (c : Dev nD) {n : ℕ} {a : Act} (h : script[n]? = some a) (t : Slot) (h1 : a ≠ .send t) (h2 : a ≠ .swait t) (h3 : t.2.1 = 0 ∨ a ≠ .recv (prevSlot t)) :
    QS (F := F) X c n t = QS X c (n + 1) t := by
  unfold QS inhand; rw [dn_ne h h1.symm, dn_ne h h2.symm]
  rcases h3 with h3 | h3
  · rw [decide_eq_true h3, Bool.true_or, Bool.true_or]
  · rw [dn_ne h h3.symm]

/-! ## The half blocks and the program's views -/

theorem pcs_view (c o : Dev nD) (j : Fin 2) (q : PosShare TreeShare) (f : (cc0_scratch0 : Ref sig .tc).ty.Contents (Elt F)) :
    pcs c o j q f = (((pieceM o j).view.loc (c : Thread nD τ)) ↦[(pieceM o j).view.set]{q} f : sProp 𝕄) := rfl

/-- A half block written over with what the same half block of the gathered array reads holds the gathered array. -/
theorem pcs_landed (c o : Dev nD) (j : Fin 2) (f : (cc0_scratch0 : Ref sig .tc).ty.Contents (Elt F)) :
    (((pieceM o j).view.loc (c : Thread nD τ)) ↦[(pieceM o j).view.set]{fullShare}
      ((pieceM o j).view.write (Elt F) f ((pieceM o j).view.read (Elt F) (G X)) Finset.univ) : sProp 𝕄) = pcs c o j fullShare (G X) := by
  rw [pcs_view]
  refine pointsTo_congr fun i hi => ?_
  obtain ⟨k, -, rfl⟩ := Finset.mem_map.mp hi
  rw [View.write_emb, if_pos (Finset.mem_univ _), View.read_apply]
  rfl

end Cert.KernelIdeal.Ag
end
end
-- ==== Proof.Steps.lean ====
module

public import proofs.«01_k».proof.Proof.State

@[expose] public section

set_option maxRecDepth 16384

/-!
  One lemma per kind of step of a device: start a transfer, wait for its source, wait for a landing, load a block,
  store a block of the result, read the table of places.
-/

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The order -/

theorem idx_of {n : ℕ} {a : Act} (h : script[n]? = some a) : script.idxOf a = n := by
  obtain ⟨hn, e⟩ := List.getElem?_eq_some_iff.mp h
  rw [← e]; exact script_nodup.idxOf_getElem n hn

theorem done_iff {n : ℕ} {a : Act} : done n a ↔ ∃ m < n, script[m]? = some a := by
  unfold done
  rw [List.mem_take_iff_getElem]
  constructor
  · rintro ⟨i, hi, e⟩
    exact ⟨i, by omega, List.getElem?_eq_some_iff.mpr ⟨by omega, e⟩⟩
  · rintro ⟨m, hm, e⟩
    obtain ⟨h, e⟩ := List.getElem?_eq_some_iff.mp e
    exact ⟨m, by omega, e⟩

theorem done_mono {m n : ℕ} (h : m ≤ n) {a : Act} (ha : done m a) : done n a := by
  obtain ⟨i, hi, e⟩ := done_iff.mp ha
  exact done_iff.mpr ⟨i, by omega, e⟩

theorem not_done_of_drop {n : ℕ} {a : Act} (h : a ∈ script.drop n) : ¬ done n a := by
  intro hd
  obtain ⟨m, hm, e⟩ := done_iff.mp hd
  obtain ⟨i, e'⟩ := List.mem_iff_getElem?.mp h
  rw [List.getElem?_drop] at e'
  have := (idx_of e).symm.trans (idx_of e')
  omega

theorem ok_send {n : ℕ} {s : Slot} (h : script[n]? = some (.send s)) : used s = true := by
  have := ok h; unfold okAt at this; exact (Bool.and_eq_true_iff.mp this).1
theorem avail_send {n : ℕ} {s : Slot} (h : script[n]? = some (.send s)) : (decide (s.2.1 = 0) || dn n (.recv (prevSlot s))) = true := by
  have := ok h; unfold okAt at this
  rcases Bool.or_eq_true_iff.mp (Bool.and_eq_true_iff.mp this).2 with h | h
  · rw [h]; rfl
  · obtain ⟨r, -, -, e, hd⟩ := of_decide_eq_true h
    rw [← e, prev_next]; unfold dn; rw [decide_eq_true hd, Bool.or_true]
theorem ok_swait {n : ℕ} {s : Slot} (h : script[n]? = some (.swait s)) : used s = true ∧ done n (.send s) := by
  have := ok h; unfold okAt at this
  exact ⟨(Bool.and_eq_true_iff.mp this).1, of_decide_eq_true (Bool.and_eq_true_iff.mp this).2⟩
theorem sent_of_swaited {n : ℕ} {s : Slot} (h : done n (.swait s)) : done n (.send s) := by
  obtain ⟨m, hm, e⟩ := done_iff.mp h
  exact done_mono (by omega) (ok_swait e).2
theorem avail_of_sent {n : ℕ} {s : Slot} (h : done n (.send s)) : (decide (s.2.1 = 0) || dn n (.recv (prevSlot s))) = true := by
  obtain ⟨m, hm, e⟩ := done_iff.mp h
  rcases Bool.or_eq_true_iff.mp (avail_send e) with h | h
  · rw [h]; rfl
  · unfold dn at h ⊢; rw [decide_eq_true (done_mono (by omega) (of_decide_eq_true h)), Bool.or_true]
theorem ok_recv {n : ℕ} {s : Slot} (h : script[n]? = some (.recv s)) :
    used s = true ∧ (∀ r ∈ US, done n (.send r) ∨ s.2.1.val < r.2.1.val) ∧ (passes s = true → ¬ done n (.send (nextSlot s))) := by
  have := ok h; unfold okAt at this
  rw [Bool.and_eq_true_iff, Bool.and_eq_true_iff] at this
  exact ⟨this.1.1, of_decide_eq_true this.1.2, of_decide_eq_true this.2⟩

section Pieces

variable {F : FTy → Type} [FloatOps F] (X : Dev nD → Vec F S128x4096 .fp8e4m3) (c : Dev nD)

theorem SSb_f (s : Slot) (b : Bool) : SSb (F := F) c s false b = iprop(dutyTok ER (sCell c s) 0 true ∗ dutyTok ER (rCell (peer s.1 c) s) 0 true ∗ atPos ER (sCell c s) 0 ∅ 0
      ∗ ∃ f, pcs (peer s.1 c) (org c (kS s)) s.2.2 fullShare f) := rfl
theorem SSb_tf (s : Slot) : SSb (F := F) c s true false = iprop(cred (tallyAt (sCell c s) () N) ∗ atPos ER (sCell c s) 0 ∅ 0) := rfl
theorem SSb_tt (s : Slot) : SSb (F := F) c s true true = atPos ER (sCell c s) 1 ∅ 0 := rfl
theorem QSb_t (s : Slot) : QSb (F := F) X c s true = pcs c (org c (kS s)) s.2.2 (qS s) (G X) := rfl
theorem RSb_f (s : Slot) : RSb (F := F) X c s false = iprop(cred (tallyAt (rCell c s) () N) ∗ atPos ER (rCell c s) 0 ∅ 0) := rfl
theorem RSb_t (s : Slot) : RSb (F := F) X c s true = iprop(atPos ER (rCell c s) 1 ∅ 0 ∗ pcs c (org c (kR s)) s.2.2 fullShare.right (G X)
      ∗ (if passes s = true then iprop(emp) else pcs c (org c (kR s)) s.2.2 fullShare.left (G X))) := rfl

theorem SS_unsent {n : ℕ} {s : Slot} (hn : script[n]? = some (.send s)) : SS (F := F) c n s = SSb c s false false := by
  unfold SS; rw [dn_now hn]; cases dn n (.swait s) <;> rfl
theorem SS_flying {n : ℕ} {s : Slot} (hn : script[n]? = some (.send s)) : SS (F := F) c (n + 1) s = SSb c s true false := by
  unfold SS; rw [dn_self hn, dn_ne hn (b := .swait s) (fun e => nomatch e)]
  rw [show dn n (.swait s) = false from decide_eq_false fun h => not_done hn (sent_of_swaited h)]
theorem QS_have {n : ℕ} {s : Slot} (hn : script[n]? = some (.send s)) : QS (F := F) X c n s = QSb X c s true := by
  unfold QS inhand; rw [avail_send hn, dn_now hn]; rfl
theorem QS_lent {n : ℕ} {s : Slot} (hn : script[n]? = some (.send s)) : QS (F := F) X c (n + 1) s = QSb X c s false := by
  unfold QS inhand; rw [dn_self hn, dn_ne hn (b := .swait s) (fun e => nomatch e)]
  rw [show dn n (.swait s) = false from decide_eq_false fun h => not_done hn (sent_of_swaited h)]
  cases (decide (s.2.1 = 0) || dn (n + 1) (.recv (prevSlot s))) <;> rfl
theorem SS_flown {n : ℕ} {s : Slot} (hn : script[n]? = some (.swait s)) : SS (F := F) c n s = SSb c s true false := by
  unfold SS; rw [dn_now hn, show dn n (.send s) = true from decide_eq_true (ok_swait hn).2]
theorem SS_back {n : ℕ} {s : Slot} (hn : script[n]? = some (.swait s)) : SS (F := F) c (n + 1) s = SSb c s true true := by
  unfold SS; rw [dn_self hn, dn_ne hn (b := .send s) (fun e => nomatch e), show dn n (.send s) = true from decide_eq_true (ok_swait hn).2]
theorem QS_away {n : ℕ} {s : Slot} (hn : script[n]? = some (.swait s)) : QS (F := F) X c n s = QSb X c s false := by
  unfold QS inhand; rw [dn_now hn, show dn n (.send s) = true from decide_eq_true (ok_swait hn).2]
  cases (decide (s.2.1 = 0) || dn n (.recv (prevSlot s))) <;> rfl
theorem QS_back {n : ℕ} {s : Slot} (hn : script[n]? = some (.swait s)) : QS (F := F) X c (n + 1) s = QSb X c s true := by
  unfold QS inhand
  rw [avail_of_sent (done_mono (Nat.le_succ n) (ok_swait hn).2), dn_self hn]
  cases dn (n + 1) (.send s) <;> rfl
theorem RS_due {n : ℕ} {s : Slot} (hn : script[n]? = some (.recv s)) : RS (F := F) X c n s = RSb X c s false := by
  unfold RS; rw [dn_now hn]
theorem RS_got {n : ℕ} {s : Slot} (hn : script[n]? = some (.recv s)) : RS (F := F) X c (n + 1) s = RSb X c s true := by
  unfold RS; rw [dn_self hn]
theorem QS_none {n : ℕ} {s : Slot} (hn : script[n]? = some (.recv s)) (hp : passes s = true) : QS (F := F) X c n (nextSlot s) = QSb X c (nextSlot s) false := by
  unfold QS inhand; rw [prev_next, dn_now hn, decide_eq_false (next_used s hp).2.1]; rfl
theorem QS_new {n : ℕ} {s : Slot} (hn : script[n]? = some (.recv s)) (hp : passes s = true) : QS (F := F) X c (n + 1) (nextSlot s) = QSb X c (nextSlot s) true := by
  unfold QS inhand
  rw [prev_next, dn_self hn, dn_ne hn (b := .send (nextSlot s)) (fun e => nomatch e), show dn n (.send (nextSlot s)) = false from decide_eq_false ((ok_recv hn).2.2 hp), Bool.or_true]; rfl

end Pieces

variable {F : FTy → Type} [FloatOps F]

local notation "𝕄" => MT nD τ sig Unit (Elt F) ℕ UU ℕ

variable (X : Dev nD → Vec F S128x4096 .fp8e4m3) (Wt : Dev nD → Vec F S4096x64 .fp8e4m3) (sc : Dev nD → F .f32)
variable (R : sProp (MT nD τ sig Unit (Elt F) ℕ UU ℕ)) (K : GSem nD τ sig → ℕ) (c : Dev nD)

/-! ## Moving through a program -/

theorem wp_seq {α β : Type} {P : sProp 𝕄} {p : Prog (TpuEff nD τ sig (Elt F) Λ₀ .tc) α} {k : α → Prog (TpuEff nD τ sig (Elt F) Λ₀ .tc) β} {Q : β → sProp 𝕄}
    (h : P ⊢ WP c p (fun a => WP c (k a) Q)) : P ⊢ WP c (p >>= k) Q := by
  unfold WP at h ⊢; rw [wp_bind]; exact h

theorem wp_done {α : Type} {P : sProp 𝕄} {x : α} {Q : α → sProp 𝕄} (h : P ⊢ Q x) : P ⊢ WP c (pure x) Q := by
  show P ⊢ WP c (.ret x) Q
  unfold WP; rw [wp_ret]
  exact h.trans fupd_intro

theorem wp_lift {α : Type} {P : sProp 𝕄} {e : TpuEff nD τ sig (Elt F) Λ₀ .tc α} {Q : α → sProp 𝕄}
    (h : P ⊢ WP c (.op e .ret) Q) : P ⊢ WP c (Prog.lift e) Q := h

theorem ret_of {α : Type} {P : sProp 𝕄} {x : α} {Q : α → sProp 𝕄} (h : P ⊢ Q x) : P ⊢ WP c (.ret x) Q := wp_done c h

theorem step_assume {P : sProp 𝕄} {p : Prop} {d : Decidable p} {Q : PLift p → sProp 𝕄} (h : p) (hQ : P ⊢ Q ⟨h⟩) :
    P ⊢ WP c (Prog.lift (.assume p d)) Q :=
  wp_lift c ((ret_of c hQ).trans (wp_assume 𝒱₀ (c : Thread nD τ) none Set.univ h))

/-- The transfer a semaphore is of. -/
def slotO (S : DmaSem sig) : Slot := match slotOf S with | some (_, s) => s | none => (true, 0, 0)

/-! ## The persistent part -/

theorem inv_slot {s : Slot} (hs : s ∈ US) : Inv (F := F) X K c ⊢ slotInv X K c s := by
  unfold Inv
  exact sep_elim_left.trans (bigSep_elim hs)

theorem inv_lev : Inv (F := F) X K c ⊢ levAts L lv := by
  unfold Inv
  exact sep_elim_right

/-! ## Transfers -/

/-- Starting a transfer lends its source and hands the landing place over; what it owed is paid. -/
theorem step_send {n : ℕ} {off₁ off₂ : Fin 2 → ℕ} {i₁ : ∀ a, off₁ a + S64x4096.size a ≤ S4096x4096.size a} {i₂ : ∀ a, off₂ a + S64x4096.size a ≤ S4096x4096.size a}
    {m₁ : ∀ a, (Rect.unit (s := S4096x4096) off₁ S64x4096.size i₁).stride a = 1} {m₂ : ∀ a, (Rect.unit (s := S4096x4096) off₂ S64x4096.size i₂).stride a = 1}
    {S₁ S₂ : DmaSem sig} {dv : ℕ} {hdv : dv < nD} {hsc} {hsrc} {hdst} {hsem} {Q : PUnit → sProp 𝕄}
    {s : Slot} (hs : slotO S₁ = s) (hn : script[n]? = some (.send s)) (h₁ : S₁ = semIx false s) (h₂ : S₂ = semIx true s) (hd : dv = (peer s.1 c).val)
    (ho₁ : off₁ = ![128 * (org c (kS s)).val + 64 * s.2.2.val, 0]) (ho₂ : off₂ = ![128 * (org c (kS s)).val + 64 * s.2.2.val, 0])
    (hQ : St X Wt sc R K c (n + 1) ⊢ Q ⟨⟩) :
    St X Wt sc R K c n ⊢ WP c (Prog.lift (.enqueueDma (gM.slice (Rect.unit (s := S4096x4096) off₁ S64x4096.size i₁) m₁)
      (.remote (Dev.tc (⟨dv, hdv⟩ : Dev nD)) (gM.slice (Rect.unit (s := S4096x4096) off₂ S64x4096.size i₂) m₂) (.dma S₁) hsc) (.dma S₂) hsrc hdst hsem)) Q := by
  subst h₁ h₂ hd ho₁ ho₂
  have hu := ok_send hn
  have hs : s ∈ US := mem_US.mpr hu
  refine wp_lift c ?_
  unfold St at hQ ⊢
  iintro ⟨#HI, ⟨%W, HO⟩, HSS, HQS, HRS, Hown, ⟨%f, Hf, %hf⟩, Hw, Ht, HR⟩
  ihave #Hsl := (inv_slot X K c hs) $$ HI
  unfold slotInv
  icases Hsl with ⟨#HIs, #HIr, #HIp, #HrS, #HrP⟩
  ihave Hss := (bigSep_step (Ψ := SS c (n + 1)) hs (fun t _ ht => SS_ne c hn t (fun e => ht (Act.send.inj e).symm) (fun e => nomatch e))) $$ HSS
  ihave Hqs := (bigSep_step (Ψ := QS X c (n + 1)) hs (fun t _ ht => QS_ne X c hn t (fun e => ht (Act.send.inj e).symm) (fun e => nomatch e) (.inr fun e => nomatch e))) $$ HQS
  icases Hss with ⟨Hs, HSS⟩
  icases Hqs with ⟨Hq, HQS⟩
  ihave Hs := (Entails.of_eq ((SS_unsent c hn).trans (SSb_f c s false))) $$ Hs
  ihave Hq := (Entails.of_eq ((QS_have X c hn).trans (pcs_view c _ _ _ _))) $$ Hq
  icases Hs with ⟨HtS, HtR, Hat, ⟨%fd, Hd⟩⟩
  ihave Hd := (Entails.of_eq (pcs_view (peer s.1 c) (org c (kS s)) s.2.2 fullShare fd)) $$ Hd
  iapply (Rounds.wp_send_pointsTo 𝒱₀ ER (sdl X) (c : Thread nD τ) none (c' := (peer s.1 c : Thread nD τ)) (src := pieceM (org c (kS s)) s.2.2) (dst := pieceM (org c (kS s)) s.2.2)
      (sS := .dma (semIx false s)) (sem := .dma (semIx true s)) (q := qS s) (fs := G X) (κ₁ := K (sCell c s)) (κ₂ := K (rCell (peer s.1 c) s))
      (r₁ := 0) (r₂ := 0) (d₁ := true) (d₂ := true) (fd := fd)
      (by rw [duties_dma X c false s hu]; exact Finset.mem_singleton_self _) (by rw [duties_dma X (peer s.1 c) true s hu]; exact Finset.mem_singleton_self _)
      () () N rfl (amount_dma X c _ _ _) (amount_dma X (peer s.1 c) _ _ _) (dues c (n + 1)) (dues_send c hn) (W := W)
      (by rw [payload_s]; exact BI.Entails.refl _)
      (by rw [payload_r, org_peer, pcs_landed])) $$ [Hq Hd HO HtS HtR]
  · isplitr; · iexact HIs
    isplitr; · iexact HIp
    isplitl [Hq]; · iexact Hq
    isplitl [Hd]; · iexact Hd
    isplitl [HO]; · iexact HO
    isplitl [HtS]; · iexact HtS
    isplitr; · iexact HrS
    isplitl [HtR]; · iexact HtR
    iexact HrP
  iintro ⟨Hc, HO⟩
  iapply (ret_of c hQ)
  isplitr; · iexact HI
  isplitl [HO]; · iexists W; iexact HO
  isplitl [HSS Hc Hat]
  · iapply HSS
    rw [SS_flying c hn, SSb_tf]
    isplitl [Hc]; · iexact Hc
    iexact Hat
  isplitl [HQS]
  · iapply HQS
    rw [QS_lent X c hn, show QSb X c s false = iprop(emp) from rfl]
    iempintro
  isplitl [HRS]
  · iapply (Entails.of_eq (bigSep_same (fun t _ => RS_ne X c hn t (fun e => nomatch e)))) $$ HRS
  isplitl [Hown]; · iexact Hown
  isplitl [Hf]
  · iexists f
    isplitl [Hf]; · iexact Hf
    ipureintro; exact outOk_ne X Wt sc hn (fun k e => nomatch e) f hf
  isplitl [Hw]; · iexact Hw
  isplitl [Ht]; · iexact Ht
  iexact HR

/-- Waiting for one's own transfer brings its source back. -/
theorem step_swait {n : ℕ} {off : Fin 2 → ℕ} {i : ∀ a, off a + S64x4096.size a ≤ S4096x4096.size a} {m : ∀ a, (Rect.unit (s := S4096x4096) off S64x4096.size i).stride a = 1}
    {sp' : Space} {s' : Shape} {e' : EltTy} {src : Memref sig .tc sp' s' e'} {S : DmaSem sig} {h} {h'} {Q : PUnit → sProp 𝕄}
    {s : Slot} (hs : slotO S = s) (hn : script[n]? = some (.swait s)) (hS : S = semIx false s)
    (hQ : St X Wt sc R K c (n + 1) ⊢ Q ⟨⟩) :
    St X Wt sc R K c n ⊢ WP c (Prog.lift (.waitDma2 S src (gM.slice (Rect.unit (s := S4096x4096) off S64x4096.size i) m) h h')) Q := by
  subst hS
  have hu := (ok_swait hn).1
  have hs : s ∈ US := mem_US.mpr hu
  refine wp_lift c ?_
  unfold St at hQ ⊢
  iintro ⟨#HI, ⟨%W, HO⟩, HSS, HQS, HRS, Hown, ⟨%f, Hf, %hf⟩, Hw, Ht, HR⟩
  ihave #Hsl := (inv_slot X K c hs) $$ HI
  unfold slotInv
  icases Hsl with ⟨#HIs, #HIr, #HIp, #HrS, #HrP⟩
  ihave Hss := (bigSep_step (Ψ := SS c (n + 1)) hs (fun t _ ht => SS_ne c hn t (fun e => nomatch e) (fun e => ht (Act.swait.inj e).symm))) $$ HSS
  ihave Hqs := (bigSep_step (Ψ := QS X c (n + 1)) hs (fun t _ ht => QS_ne X c hn t (fun e => nomatch e) (fun e => ht (Act.swait.inj e).symm) (.inr fun e => nomatch e))) $$ HQS
  icases Hss with ⟨Hs, HSS⟩
  icases Hqs with ⟨-, HQS⟩
  ihave Hs := (Entails.of_eq ((SS_flown c hn).trans (SSb_tf c s))) $$ Hs
  icases Hs with ⟨Hc, Hat⟩
  iapply (Rounds.wp_wait_rest_token 𝒱₀ ER (sdl X) (c : Thread nD τ) none (κ := K (sCell c s))
      (wpE_waitDma2_eq (src := src) (dst := gM.slice (Rect.unit (s := S4096x4096) off S64x4096.size i) m) (hsrc := h) (hdst := h') 𝒱₀ (c : Thread nD τ) none Set.univ) (Set.mem_univ _) () (O := dues c n) (W := W) (R := 0) (m := 0) (T := ∅)
      ((Nat.zero_add _).trans (expect_dma X c false s hu).symm)) $$ [Hc HO Hat]
  · isplitr; · iexact HIs
    isplitl [Hc]; · iexact Hc
    isplitl [HO]; · iexact HO
    isplitr
    · iapply (mayWait c (.dma (semIx false s)) (script.drop n) 0 (le_of_eq (lv_s c s)) (fun _ _ => Nat.succ_pos _))
      iapply (inv_lev X K c); iexact HI
    iexact Hat
  iintro ⟨HO, Hat, -, Hpay⟩
  ihave Hq := (Entails.of_eq (rest_s X c s hu)) $$ Hpay
  iapply (ret_of c hQ)
  isplitr; · iexact HI
  isplitl [HO]
  · iexists (insert (SemLoc.dma (semIx false s), ()) W)
    iapply (Entails.of_eq (by rw [dues_other c hn (fun _ e => nomatch e)])) $$ HO
  isplitl [HSS Hat]
  · iapply HSS
    iapply (Entails.of_eq ((SS_back c hn).trans (SSb_tt c s)).symm) $$ Hat
  isplitl [HQS Hq]
  · iapply HQS
    iapply (Entails.of_eq ((QS_back X c hn).trans (QSb_t X c s)).symm) $$ Hq
  isplitl [HRS]
  · iapply (Entails.of_eq (bigSep_same (fun t _ => RS_ne X c hn t (fun e => nomatch e)))) $$ HRS
  isplitl [Hown]; · iexact Hown
  isplitl [Hf]
  · iexists f
    isplitl [Hf]; · iexact Hf
    ipureintro; exact outOk_ne X Wt sc hn (fun k e => nomatch e) f hf
  isplitl [Hw]; · iexact Hw
  isplitl [Ht]; · iexact Ht
  iexact HR

theorem pcs_halve (o : Dev nD) (j : Fin 2) (q : PosShare TreeShare) :
    pcs c o j q (G X) ⊢ iprop(pcs c o j q.left (G X) ∗ pcs c o j q.right (G X)) :=
  (pointsTo_share (PosShare.mem_left_op_right q)).1
theorem pcs_whole (o : Dev nD) (j : Fin 2) (q : PosShare TreeShare) :
    iprop(pcs c o j q.left (G X) ∗ pcs c o j q.right (G X)) ⊢ pcs c o j q (G X) :=
  (pointsTo_share (PosShare.mem_left_op_right q)).2

theorem RS_in {s : Slot} {n : ℕ} (hn : script[n]? = some (.recv s)) :
    iprop(bigSep US (QS X c n) ∗ pcs c (org c (kR s)) s.2.2 fullShare.left (G X))
      ⊢ iprop(bigSep US (QS X c (n + 1)) ∗ (if passes s = true then iprop(emp) else pcs c (org c (kR s)) s.2.2 fullShare.left (G X))) := by
  have hs : s ∈ US := mem_US.mpr (ok_recv hn).1
  by_cases hp : passes s = true
  · rw [if_pos hp]
    obtain ⟨hu, h0, hk, hj⟩ := next_used s hp
    iintro ⟨HQS, Hq⟩
    ihave Hqs := (bigSep_step (Ψ := QS X c (n + 1)) hu (fun t _ ht => QS_ne X c hn t (fun e => nomatch e) (fun e => nomatch e)
      (by
        by_cases h : t.2.1 = 0
        · exact .inl h
        · exact .inr fun e => ht (prev_eq s hs t ‹_› (Act.recv.inj e).symm h).2))) $$ HQS
    icases Hqs with ⟨-, HQS⟩
    isplitl
    · iapply HQS
      iapply (Entails.of_eq (by
        rw [QS_new X c hn hp]
        show _ = pcs c (org c (kS (nextSlot s))) (nextSlot s).2.2 (qS (nextSlot s)) (G X)
        rw [hk, hj, show qS (nextSlot s) = fullShare.left from by unfold qS; rw [if_neg h0]])) $$ Hq
    iempintro
  · rw [if_neg hp]
    iintro ⟨HQS, Hq⟩
    isplitl [HQS]
    · iapply (Entails.of_eq (bigSep_same (fun t ht => QS_ne X c hn t (fun e => nomatch e) (fun e => nomatch e)
        (by
          by_cases h : t.2.1 = 0
          · exact .inl h
          · exact .inr fun e => hp (prev_eq s hs t ht (Act.recv.inj e).symm h).1)))) $$ HQS
    iexact Hq

/-- Waiting for a transfer to arrive brings the half block that landed; what is to be passed on goes to its sending side. -/
theorem step_recv {n : ℕ} {off : Fin 2 → ℕ} {i : ∀ a, off a + S64x4096.size a ≤ S4096x4096.size a} {m : ∀ a, (Rect.unit (s := S4096x4096) off S64x4096.size i).stride a = 1}
    {sp' : Space} {s' : Shape} {e' : EltTy} {src : Memref sig .tc sp' s' e'} {S : DmaSem sig} {h} {h'} {Q : PUnit → sProp 𝕄}
    {s : Slot} (hs : slotO S = s) (hn : script[n]? = some (.recv s)) (hS : S = semIx true s)
    (hQ : St X Wt sc R K c (n + 1) ⊢ Q ⟨⟩) :
    St X Wt sc R K c n ⊢ WP c (Prog.lift (.waitDma2 S src (gM.slice (Rect.unit (s := S4096x4096) off S64x4096.size i) m) h h')) Q := by
  subst hS
  obtain ⟨hu, hlow, -⟩ := ok_recv hn
  have hs : s ∈ US := mem_US.mpr hu
  refine wp_lift c ?_
  unfold St at hQ ⊢
  iintro ⟨#HI, ⟨%W, HO⟩, HSS, HQS, HRS, Hown, ⟨%f, Hf, %hf⟩, Hw, Ht, HR⟩
  ihave #Hsl := (inv_slot X K c hs) $$ HI
  unfold slotInv
  icases Hsl with ⟨#HIs, #HIr, #HIp, #HrS, #HrP⟩
  ihave Hrs := (bigSep_step (Ψ := RS X c (n + 1)) hs (fun t _ ht => RS_ne X c hn t (fun e => ht (Act.recv.inj e).symm))) $$ HRS
  icases Hrs with ⟨Hr, HRS⟩
  ihave Hr := (Entails.of_eq ((RS_due X c hn).trans (RSb_f X c s))) $$ Hr
  icases Hr with ⟨Hc, Hat⟩
  iapply (Rounds.wp_wait_rest_token 𝒱₀ ER (sdl X) (c : Thread nD τ) none (κ := K (rCell c s))
      (wpE_waitDma2_eq (src := src) (dst := gM.slice (Rect.unit (s := S4096x4096) off S64x4096.size i) m) (hsrc := h) (hdst := h') 𝒱₀ (c : Thread nD τ) none Set.univ) (Set.mem_univ _) () (O := dues c n) (W := W) (R := 0) (m := 0) (T := ∅)
      ((Nat.zero_add _).trans (expect_dma X c true s hu).symm)) $$ [Hc HO Hat]
  · isplitr; · iexact HIr
    isplitl [Hc]; · iexact Hc
    isplitl [HO]; · iexact HO
    isplitr
    · iapply (mayWait c (.dma (semIx true s)) (script.drop n) (s.2.1.val + 2) (le_of_eq (lv_r c s)) (fun r hr => by
        obtain ⟨k, hk⟩ := List.mem_iff_getElem?.mp hr
        rw [List.getElem?_drop] at hk
        rcases hlow r (mem_US.mpr (ok_send hk)) with hd | hd
        · exact absurd hd (not_done_of_drop hr)
        · omega))
      iapply (inv_lev X K c); iexact HI
    iexact Hat
  iintro ⟨HO, Hat, -, Hpay⟩
  ihave Hq := (Entails.of_eq (rest_r X c s hu)) $$ Hpay
  ihave Hq := (pcs_halve X c (org c (kR s)) s.2.2 fullShare) $$ Hq
  icases Hq with ⟨Hl, Hr⟩
  ihave Hx := (RS_in X c hn) $$ [HQS Hl]
  · isplitl [HQS]; · iexact HQS
    iexact Hl
  icases Hx with ⟨HQS, Hl⟩
  iapply (ret_of c hQ)
  isplitr; · iexact HI
  isplitl [HO]
  · iexists (insert (SemLoc.dma (semIx true s), ()) W)
    iapply (Entails.of_eq (by rw [dues_other c hn (fun _ e => nomatch e)])) $$ HO
  isplitl [HSS]
  · iapply (Entails.of_eq (bigSep_same (fun t _ => SS_ne c hn t (fun e => nomatch e) (fun e => nomatch e)))) $$ HSS
  isplitl [HQS]; · iexact HQS
  isplitl [HRS Hat Hl Hr]
  · iapply HRS
    iapply (Entails.of_eq ((RS_got X c hn).trans (RSb_t X c s)).symm)
    isplitl [Hat]; · iexact Hat
    isplitl [Hr]; · iexact Hr
    iexact Hl
  isplitl [Hown]; · iexact Hown
  isplitl [Hf]
  · iexists f
    isplitl [Hf]; · iexact Hf
    ipureintro; exact outOk_ne X Wt sc hn (fun k e => nomatch e) f hf
  isplitl [Hw]; · iexact Hw
  isplitl [Ht]; · iexact Ht
  iexact HR

end Cert.KernelIdeal.Ag
end
-- ==== Proof.Rows.lean ====
module

public import proofs.«01_k».proof.Proof.Steps

@[expose] public section

set_option maxRecDepth 16384

/-!
  The rows of the gathered array: half blocks as sets of rows, and the loads and stores of whole blocks.
-/

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Half blocks as rows -/

theorem P_eq (o : Dev nD) (j : Fin 2) : P o j = (pieceR o j).set := View.set_slice_whole cc0_scratch0 (pieceR o j)

theorem mem_P {o : Dev nD} {j : Fin 2} {i : S4096x4096.Idx} : i ∈ P o j ↔ (i 0).val / 64 = 2 * o.val + j.val := by
  rw [P_eq, Rect.mem_set_unit]
  have h1 : (i 1).val < 4096 := (i 1).isLt
  constructor
  · intro h
    have := h 0
    change 128 * o.val + 64 * j.val ≤ (i 0).val ∧ (i 0).val < 128 * o.val + 64 * j.val + 64 at this
    omega
  · intro h a
    match a with
    | 0 => show 128 * o.val + 64 * j.val ≤ (i 0).val ∧ (i 0).val < 128 * o.val + 64 * j.val + 64; omega
    | 1 => exact ⟨Nat.zero_le _, by show (i 1).val < 0 + 4096; omega⟩

theorem P_disj {o o' : Dev nD} {j j' : Fin 2} (h : (o, j) ≠ (o', j')) : Disjoint (P o j) (P o' j') := by
  rw [Finset.disjoint_left]
  intro i hi hi'
  rw [mem_P] at hi hi'
  apply h
  have := j.isLt; have := j'.isLt
  exact Prod.ext (Fin.ext (show o.val = o'.val by omega)) (Fin.ext (show j.val = j'.val by omega))

theorem P_cover : (Finset.univ : Finset (Dev nD × Fin 2)).biUnion (fun p => P p.1 p.2) = Finset.univ := by
  ext i
  have h0 : (i 0).val < 4096 := (i 0).isLt
  simp only [Finset.mem_biUnion, Finset.mem_univ, true_and, iff_true]
  exact ⟨(⟨(i 0).val / 128, show _ < 32 by omega⟩, ⟨(i 0).val / 64 % 2, by omega⟩), mem_P.mpr (by
    show (i 0).val / 64 = 2 * ((i 0).val / 128) + (i 0).val / 64 % 2; omega)⟩

/-- The rows of one device's block. -/
def chunkSet (o : Dev nD) : Finset S4096x4096.Idx := P o 0 ∪ P o 1

theorem mem_chunk {o : Dev nD} {i : S4096x4096.Idx} : i ∈ chunkSet o ↔ (i 0).val / 128 = o.val := by
  unfold chunkSet
  rw [Finset.mem_union, mem_P, mem_P]
  show _ = 2 * o.val + 0 ∨ _ = 2 * o.val + 1 ↔ _
  omega

variable {F : FTy → Type} [FloatOps F]

local notation "𝕄" => MT nD τ sig Unit (Elt F) ℕ UU ℕ

variable (X : Dev nD → Vec F S128x4096 .fp8e4m3) (Wt : Dev nD → Vec F S4096x64 .fp8e4m3) (sc : Dev nD → F .f32)
variable (R : sProp (MT nD τ sig Unit (Elt F) ℕ UU ℕ)) (K : GSem nD τ sig → ℕ) (c : Dev nD)

/-- A block of a device's gathered array, at a share. -/
def chunk (o : Dev nD) (q : PosShare TreeShare) (f : (cc0_scratch0 : Ref sig .tc).ty.Contents (Elt F)) : sProp 𝕄 :=
  ((c : Thread nD τ).loc cc0_scratch0) ↦[chunkSet o]{q} f

theorem chunk_split (o : Dev nD) (q : PosShare TreeShare) (f : (cc0_scratch0 : Ref sig .tc).ty.Contents (Elt F)) :
    (chunk c o q f : sProp 𝕄) ⊣⊢ iprop(pcs c o 0 q f ∗ pcs c o 1 q f) :=
  pointsTo_union (P_disj (fun e => absurd (Prod.mk.inj e).2 (by decide)))

/-! ## A block is held when its turn comes -/

theorem bigSep_two {Φ : Slot → sProp 𝕄} {r r' : Slot} (hr : r ∈ US) (hr' : r' ∈ US) (h : r' ≠ r) :
    bigSep US Φ ⊢ iprop(Φ r ∗ Φ r' ∗ ((Φ r ∗ Φ r') -∗ bigSep US Φ)) := by
  rw [bigSep_erase hr, bigSep_erase (Finset.mem_erase.mpr ⟨h, hr'⟩)]
  show iprop(Φ r ∗ Φ r' ∗ bigSep ((US.erase r).erase r') Φ) ⊢ iprop(Φ r ∗ Φ r' ∗ ((Φ r ∗ Φ r') -∗ (Φ r ∗ Φ r' ∗ bigSep ((US.erase r).erase r') Φ)))
  iintro ⟨H, H', Hr⟩
  isplitl [H]; · iexact H
  isplitl [H']; · iexact H'
  iintro ⟨H, H'⟩
  isplitl [H]; · iexact H
  isplitl [H']; · iexact H'
  iexact Hr

theorem ok_comp {n : ℕ} {k : Fin 32} (h : script[n]? = some (.comp k)) :
    k = 0 ∨ ∃ r ∈ US, ∃ r' ∈ US, r.2.2 = 0 ∧ r'.2.2 = 1 ∧ kR r = k ∧ kR r' = k ∧ done n (.recv r) ∧ done n (.recv r') := by
  have := ok h; unfold okAt at this
  rcases Bool.or_eq_true_iff.mp this with h | h
  · exact .inl (of_decide_eq_true h)
  · exact .inr (of_decide_eq_true h)

theorem RS_has {n : ℕ} {r : Slot} (h : done n (.recv r)) :
    RS X c n r ⊢ iprop(pcs c (org c (kR r)) r.2.2 fullShare.right (G X) ∗ (pcs c (org c (kR r)) r.2.2 fullShare.right (G X) -∗ RS X c n r)) := by
  unfold RS
  rw [show dn n (.recv r) = true from decide_eq_true h, RSb_t]
  iintro ⟨Ha, Hp, Hl⟩
  isplitl [Hp]; · iexact Hp
  iintro Hp
  isplitl [Ha]; · iexact Ha
  isplitl [Hp]; · iexact Hp
  iexact Hl

/-- A device holds a share of the rows of a block when it is about to use them. -/
theorem St_chunk {n : ℕ} {k : Fin 32} (hn : script[n]? = some (.comp k)) :
    ∃ q, St X Wt sc R K c n ⊢ iprop(chunk c (org c k) q (G X) ∗ (chunk c (org c k) q (G X) -∗ St X Wt sc R K c n)) := by
  rcases ok_comp hn with rfl | ⟨r, hr, r', hr', hj, hj', hk, hk', hd, hd'⟩
  · refine ⟨fullShare.right.right, ?_⟩
    rw [org_zero]
    unfold St own
    iintro ⟨#HI, HO, HSS, HQS, HRS, ⟨H0, H1⟩, Hf, Hw, Ht, HR⟩
    ihave Hc := (chunk_split c c fullShare.right.right (G X)).2 $$ [H0 H1]
    · isplitl [H0]; · iexact H0
      iexact H1
    isplitl [Hc]; · iexact Hc
    iintro Hc
    ihave Hc := (chunk_split c c fullShare.right.right (G X)).1 $$ Hc
    isplitr; · iexact HI
    isplitl [HO]; · iexact HO
    isplitl [HSS]; · iexact HSS
    isplitl [HQS]; · iexact HQS
    isplitl [HRS]; · iexact HRS
    isplitl [Hc]; · iexact Hc
    isplitl [Hf]; · iexact Hf
    isplitl [Hw]; · iexact Hw
    isplitl [Ht]; · iexact Ht
    iexact HR
  · refine ⟨fullShare.right, ?_⟩
    unfold St
    iintro ⟨#HI, HO, HSS, HQS, HRS, Hown, Hf, Hw, Ht, HR⟩
    ihave Hx := (bigSep_two (Φ := RS X c n) hr hr' (fun e => by rw [e, hj] at hj'; exact absurd hj' (by decide))) $$ HRS
    icases Hx with ⟨H0, H1, HRS⟩
    ihave H0 := (RS_has X c hd) $$ H0
    ihave H1 := (RS_has X c hd') $$ H1
    icases H0 with ⟨H0, HB0⟩
    icases H1 with ⟨H1, HB1⟩
    ihave Hc := (chunk_split c (org c k) fullShare.right (G X)).2 $$ [H0 H1]
    · isplitl [H0]
      · iapply (Entails.of_eq (by rw [hk, hj])) $$ H0
      · iapply (Entails.of_eq (by rw [hk', hj'])) $$ H1
    isplitl [Hc]; · iexact Hc
    iintro Hc
    ihave Hc := (chunk_split c (org c k) fullShare.right (G X)).1 $$ Hc
    icases Hc with ⟨H0, H1⟩
    isplitr; · iexact HI
    isplitl [HO]; · iexact HO
    isplitl [HSS]; · iexact HSS
    isplitl [HQS]; · iexact HQS
    isplitl [HRS HB0 HB1 H0 H1]
    · iapply HRS
      isplitl [HB0 H0]
      · iapply HB0
        iapply (Entails.of_eq (by rw [hk, hj])) $$ H0
      · iapply HB1
        iapply (Entails.of_eq (by rw [hk', hj'])) $$ H1
    isplitl [Hown]; · iexact Hown
    isplitl [Hf]; · iexact Hf
    isplitl [Hw]; · iexact Hw
    isplitl [Ht]; · iexact Ht
    iexact HR

/-! ## Loads -/

/-- What the rows of a block read. -/
theorem read_chunk {off : Fin 2 → ℕ} {i : ∀ a, off a + S128x4096.size a ≤ S4096x4096.size a} (o : Dev nD) (ho : off = ![128 * o.val, 0]) :
    (gM.access (Rect.unit (s := S4096x4096) off S128x4096.size i)).read (Elt F) (G X) = X o := by
  subst ho
  funext x
  rw [View.read_apply]
  have h0 : (x 0).val < 128 := (x 0).isLt
  have ho : o.val < 32 := o.isLt
  show X _ _ = X o x
  congr 1
  · apply Fin.ext
    show (128 * o.val + 1 * (x 0).val) / 128 = o.val
    omega
  · funext a
    match a with
    | 0 => apply Fin.ext; show (128 * o.val + 1 * (x 0).val) % 128 = (x 0).val; omega
    | 1 => apply Fin.ext; show 0 + 1 * (x 1).val = (x 1).val; omega

theorem chunk_access {off : Fin 2 → ℕ} {i : ∀ a, off a + S128x4096.size a ≤ S4096x4096.size a} (o : Dev nD) (ho : off = ![128 * o.val, 0]) :
    (gM.access (Rect.unit (s := S4096x4096) off S128x4096.size i)).set = chunkSet o := by
  subst ho
  refine (View.set_slice_whole cc0_scratch0 _).trans ?_
  ext x
  rw [Rect.mem_set_unit, mem_chunk]
  have h1 : (x 1).val < 4096 := (x 1).isLt
  constructor
  · intro h
    have := h 0
    change 128 * o.val ≤ (x 0).val ∧ (x 0).val < 128 * o.val + 128 at this
    omega
  · intro h a
    match a with
    | 0 => show 128 * o.val ≤ (x 0).val ∧ (x 0).val < 128 * o.val + 128; omega
    | 1 => exact ⟨Nat.zero_le _, by show (x 1).val < 0 + 4096; omega⟩

/-- Loading the rows of the block to be used next. -/
theorem step_rows {n : ℕ} {off : Fin 2 → ℕ} {i : ∀ a, off a + S128x4096.size a ≤ S4096x4096.size a} {hl}
    {Q : Vec F S128x4096 .fp8e4m3 → sProp 𝕄}
    (k : Fin 32) (hn : script[n]? = some (.comp k)) (ho : off = ![128 * (org c k).val, 0]) (hQ : St X Wt sc R K c n ⊢ Q (X (org c k))) :
    St X Wt sc R K c n ⊢ WP c (Prog.lift (.load gM (Rect.unit (s := S4096x4096) off S128x4096.size i).toLoadRect hl)) Q := by
  obtain ⟨q, hq⟩ := St_chunk X Wt sc R K c hn
  refine wp_lift c (hq.trans ?_)
  iintro ⟨Hc, HB⟩
  unfold chunk
  iapply (wp_load_rect 𝒱₀ (c : Thread nD τ) none Set.univ (m := gM) (r := Rect.unit (s := S4096x4096) off S128x4096.size i) (hl := hl)
    (S := chunkSet (org c k)) (q := q) (f := G X) (le_of_eq (chunk_access (org c k) ho))) $$ Hc
  iintro Hc
  rw [read_chunk X (org c k) ho]
  iapply (ret_of c hQ)
  iapply HB
  iexact Hc

theorem read_cols {i : ∀ a, (![0, 0] : Fin 2 → ℕ) a + S4096x64.size a ≤ S4096x64.size a} (f : (cc0_scratch1 : Ref sig .tc).ty.Contents (Elt F)) :
    ((Memref.whole cc0_scratch1 : Memref sig .tc .vmem S4096x64 .fp8e4m3).access (Rect.unit (s := S4096x64) ![0, 0] S4096x64.size i)).read (Elt F) f = f := by
  funext x
  rw [View.read_apply]
  show f _ = f x
  congr 1
  funext a
  match a with
  | 0 => apply Fin.ext; show 0 + 1 * (x 0).val = (x 0).val; omega
  | 1 => apply Fin.ext; show 0 + 1 * (x 1).val = (x 1).val; omega

/-- Loading the device's columns of the second matrix. -/
theorem step_cols {n : ℕ} {i : ∀ a, (![0, 0] : Fin 2 → ℕ) a + S4096x64.size a ≤ S4096x64.size a} {hl}
    {Q : Vec F S4096x64 .fp8e4m3 → sProp 𝕄} (hQ : St X Wt sc R K c n ⊢ Q (Wt c)) :
    St X Wt sc R K c n ⊢ WP c (Prog.lift (.load (Memref.whole cc0_scratch1) (Rect.unit (s := S4096x64) ![0, 0] S4096x64.size i).toLoadRect hl)) Q := by
  refine wp_lift c ?_
  unfold St at hQ ⊢
  iintro ⟨#HI, HO, HSS, HQS, HRS, Hown, Hf, Hw, Ht, HR⟩
  iapply (wp_load_rect 𝒱₀ (c : Thread nD τ) none Set.univ (m := Memref.whole cc0_scratch1) (r := Rect.unit (s := S4096x64) ![0, 0] S4096x64.size i) (hl := hl)
    (S := Finset.univ) (q := fullShare) (f := Wt c) (Finset.subset_univ _)) $$ Hw
  iintro Hw
  rw [read_cols (Wt c)]
  iapply (ret_of c hQ)
  isplitr; · iexact HI
  isplitl [HO]; · iexact HO
  isplitl [HSS]; · iexact HSS
  isplitl [HQS]; · iexact HQS
  isplitl [HRS]; · iexact HRS
  isplitl [Hown]; · iexact Hown
  isplitl [Hf]; · iexact Hf
  isplitl [Hw]; · iexact Hw
  isplitl [Ht]; · iexact Ht
  iexact HR

/-- What a store overwrites is loaded first, and not used. -/
theorem step_old {n : ℕ} {off : Fin 2 → ℕ} {i : ∀ a, off a + S128x64.size a ≤ S4096x64.size a} {hl}
    {Q : Vec F S128x64 .f32 → sProp 𝕄} (hQ : ∀ v, St X Wt sc R K c n ⊢ Q v) :
    St X Wt sc R K c n ⊢ WP c (Prog.lift (.load (Memref.whole cc0_stg6_0) (Rect.unit (s := S4096x64) off S128x64.size i).toLoadRect hl)) Q := by
  refine wp_lift c ?_
  unfold St at hQ ⊢
  iintro ⟨#HI, HO, HSS, HQS, HRS, Hown, ⟨%f, Hf, %hf⟩, Hw, Ht, HR⟩
  iapply (wp_load_rect 𝒱₀ (c : Thread nD τ) none Set.univ (m := Memref.whole cc0_stg6_0) (r := Rect.unit (s := S4096x64) off S128x64.size i) (hl := hl)
    (S := Finset.univ) (q := fullShare) (f := f) (Finset.subset_univ _)) $$ Hf
  iintro Hf
  iapply (ret_of c (hQ _))
  isplitr; · iexact HI
  isplitl [HO]; · iexact HO
  isplitl [HSS]; · iexact HSS
  isplitl [HQS]; · iexact HQS
  isplitl [HRS]; · iexact HRS
  isplitl [Hown]; · iexact Hown
  isplitl [Hf]
  · iexists f
    isplitl [Hf]; · iexact Hf
    ipureintro; exact hf
  isplitl [Hw]; · iexact Hw
  isplitl [Ht]; · iexact Ht
  iexact HR

/-! ## Stores -/

theorem out_access {off : Fin 2 → ℕ} {i : ∀ a, off a + S128x64.size a ≤ S4096x64.size a} (o : Dev nD) (ho : off = ![128 * o.val, 0]) (x : S4096x64.Idx) :
    x ∈ ((Memref.whole cc0_stg6_0 : Memref sig .tc .vmem S4096x64 .f32).access (Rect.unit (s := S4096x64) off S128x64.size i)).set ↔ (x 0).val / 128 = o.val := by
  subst ho
  rw [show ((Memref.whole cc0_stg6_0 : Memref sig .tc .vmem S4096x64 .f32).access (Rect.unit (s := S4096x64) ![128 * o.val, 0] S128x64.size i)).set
    = (Rect.unit (s := S4096x64) ![128 * o.val, 0] S128x64.size i).set from View.set_slice_whole cc0_stg6_0 _, Rect.mem_set_unit]
  have h1 : (x 1).val < 64 := (x 1).isLt
  constructor
  · intro h
    have := h 0
    change 128 * o.val ≤ (x 0).val ∧ (x 0).val < 128 * o.val + 128 at this
    omega
  · intro h a
    match a with
    | 0 => show 128 * o.val ≤ (x 0).val ∧ (x 0).val < 128 * o.val + 128; omega
    | 1 => exact ⟨Nat.zero_le _, by show (x 1).val < 0 + 64; omega⟩

/-- Storing a block leaves the blocks computed before as they were. -/
theorem out_step {n : ℕ} {off : Fin 2 → ℕ} {i : ∀ a, off a + S128x64.size a ≤ S4096x64.size a} (k : Fin 32) (hn : script[n]? = some (.comp k))
    (ho : off = ![128 * (org c k).val, 0]) (f : (cc0_stg6_0 : Ref sig .tc).ty.Contents (Elt F)) (hf : OutOk X Wt sc c n f) :
    OutOk X Wt sc c (n + 1) (((Memref.whole cc0_stg6_0 : Memref sig .tc .vmem S4096x64 .f32).access (Rect.unit (s := S4096x64) off S128x64.size i)).write (Elt F) f
      (Ych X Wt sc c (org c k)) Finset.univ) := by
  intro k' hk' x hx
  by_cases h : (x 0).val / 128 = (org c k).val
  · obtain ⟨y, -, rfl⟩ := Finset.mem_map.mp ((out_access (i := i) (org c k) ho x).mpr h)
    rw [View.write_emb, if_pos (Finset.mem_univ _)]
    subst ho
    have h0 : (y 0).val < 128 := (y 0).isLt
    show Ych X Wt sc c (org c k) y = Ych X Wt sc c _ _
    congr 1
    · apply Fin.ext; exact h.symm
    · funext a
      match a with
      | 0 => apply Fin.ext; show (y 0).val = (128 * (org c k).val + 1 * (y 0).val) % 128; omega
      | 1 => apply Fin.ext; show (y 1).val = 0 + 1 * (y 1).val; omega
  · rw [View.write_of_not_mem]
    · refine hf k' ?_ x hx
      rwa [dn_ne hn (fun e => h (by rw [hx, Act.comp.inj e]))] at hk'
    · intro hm
      exact h ((out_access (i := i) (org c k) ho x).mp hm)

/-- Storing the block computed from the rows of one device. -/
theorem step_store {n : ℕ} {off : Fin 2 → ℕ} {i : ∀ a, off a + S128x64.size a ≤ S4096x64.size a} {hx hm} {w : Vec F S128x64 .f32}
    {Q : PUnit → sProp 𝕄}
    (k : Fin 32) (hn : script[n]? = some (.comp k)) (ho : off = ![128 * (org c k).val, 0]) (hw : w = Ych X Wt sc c (org c k))
    (hQ : St X Wt sc R K c (n + 1) ⊢ Q ⟨⟩) :
    St X Wt sc R K c n ⊢ WP c (Prog.lift (.store (Memref.whole cc0_stg6_0) (Rect.unit (s := S4096x64) off S128x64.size i) w Finset.univ hx hm)) Q := by
  subst hw
  refine wp_lift c ?_
  unfold St at hQ ⊢
  iintro ⟨#HI, ⟨%W, HO⟩, HSS, HQS, HRS, Hown, ⟨%f, Hf, %hf⟩, Hw, Ht, HR⟩
  iapply (wp_store 𝒱₀ (c : Thread nD τ) none Set.univ (m := Memref.whole cc0_stg6_0) (r := Rect.unit (s := S4096x64) off S128x64.size i) (Mk := Finset.univ)
    (w := Ych X Wt sc c (org c k)) (hx := hx) (hm := hm) (S := Finset.univ) (f := f) (Finset.subset_univ _)) $$ Hf
  iintro Hf
  iapply (ret_of c hQ)
  isplitr; · iexact HI
  isplitl [HO]
  · iexists W
    iapply (Entails.of_eq (by rw [dues_other c hn (fun _ e => nomatch e)])) $$ HO
  isplitl [HSS]
  · iapply (Entails.of_eq (bigSep_same (fun t _ => SS_ne c hn t (fun e => nomatch e) (fun e => nomatch e)))) $$ HSS
  isplitl [HQS]
  · iapply (Entails.of_eq (bigSep_same (fun t _ => QS_ne X c hn t (fun e => nomatch e) (fun e => nomatch e) (.inr fun e => nomatch e)))) $$ HQS
  isplitl [HRS]
  · iapply (Entails.of_eq (bigSep_same (fun t _ => RS_ne X c hn t (fun e => nomatch e)))) $$ HRS
  isplitl [Hown]; · iexact Hown
  isplitl [Hf]
  · iexists _
    isplitl [Hf]; · iexact Hf
    ipureintro; exact out_step X Wt sc c k hn ho f hf
  isplitl [Hw]; · iexact Hw
  isplitl [Ht]; · iexact Ht
  iexact HR

/-! ## The table of the ring -/

/-- The offset within the ring that a position into the table asks for. -/
def kOf (f : BitVec 32 → Fin 1 → ℕ) : Fin 32 := -(Fin.ofNat 32 (f 0#32 0))

theorem table_word : ∀ p : Fin 32, lit0 p = Dev.word (cyc p) := by decide +kernel

theorem read_table {p : Fin 32} (i : ∀ a, (![p.val] : Fin 1 → ℕ) a + S1.size a ≤ S32.size a) (x) :
    ((Memref.whole cc0_stg4_0 : Memref sig .tc .smem S32 .i32).access (Rect.unit (s := S32) ![p.val] S1.size i)).read (Elt F) (cycT (F := F)) x = Dev.word (cyc p) := by
  rw [View.read_apply]
  show lit0 _ = _
  rw [← table_word]
  congr 1
  apply Fin.ext
  refine (Shape.rowMajor_val_one (d := ![32]) _).trans ?_
  have h : (x 0).val < 1 := (x 0).isLt
  show p.val + 1 * (x 0).val = p.val
  omega

/-- Reading the table at a position counted from the device's own. -/
theorem step_table {n : ℕ} {off : Fin 1 → ℕ} {i : ∀ a, off a + S1.size a ≤ S32.size a} {hnum : S1.numel = 1} {hp}
    {Q : Elt F .i32 → sProp 𝕄} (k : Fin 32) (ho : off = ![(pos c - k).val])
    (hQ : St X Wt sc R K c n ⊢ Q (Dev.word (org c k))) :
    St X Wt sc R K c n ⊢ WP c (smemLoad (Memref.whole cc0_stg4_0 : Memref sig .tc .smem S32 .i32) (Rect.unit (s := S32) off S1.size i) hnum hp) Q := by
  subst ho
  unfold smemLoad
  have hQ' : ∀ x, St X Wt sc R K c n ⊢ Q (((Memref.whole cc0_stg4_0 : Memref sig .tc .smem S32 .i32).access (Rect.unit (s := S32) ![(pos c - k).val] S1.size i)).read (Elt F) (cycT (F := F)) x) := by
    intro x; rw [read_table i x]; exact hQ
  unfold St at hQ' ⊢
  iintro ⟨#HI, HO, HSS, HQS, HRS, Hown, Hf, Hw, Ht, HR⟩
  iapply (wp_smemLoadElt 𝒱₀ (c : Thread nD τ) none Set.univ (m := Memref.whole cc0_stg4_0) (r := Rect.unit (s := S32) ![(pos c - k).val] S1.size i)
    (S := Finset.univ) (q := fullShare) (f := cycT (F := F)) (Finset.subset_univ _)) $$ Ht
  iintro Ht
  iapply (ret_of c (hQ' _))
  isplitr; · iexact HI
  isplitl [HO]; · iexact HO
  isplitl [HSS]; · iexact HSS
  isplitl [HQS]; · iexact HQS
  isplitl [HRS]; · iexact HRS
  isplitl [Hown]; · iexact Hown
  isplitl [Hf]; · iexact Hf
  isplitl [Hw]; · iexact Hw
  isplitl [Ht]; · iexact Ht
  iexact HR

end Cert.KernelIdeal.Ag
end
-- ==== Proof.Prelude.lean ====
module

public import proofs.«01_k».proof.Proof.Rows

@[expose] public section

set_option maxRecDepth 16384

/-!
  The start of the body: the device's own block is stored, the neighbours are told that the gathered array may be written, and
  theirs is waited for.
-/

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The table of the devices' places. -/
def posT : (cc0_stg5_0 : Ref sig .tc).ty.Contents (Elt F) := fun i => lit1 (S32.rowMajor i)

/-- The one index of a scalar's window. -/
def ix1 : S1.Idx := fun a => ⟨0, by revert a; decide⟩

variable (xs : Dev nD → (cc0_stg0_0 : Ref sig .tc).ty.Contents (Elt F)) (ws : Dev nD → (cc0_stg1_0 : Ref sig .tc).ty.Contents (Elt F))
variable (sx : Dev nD → (cc0_stg2_0 : Ref sig .tc).ty.Contents (Elt F)) (sw : Dev nD → (cc0_stg3_0 : Ref sig .tc).ty.Contents (Elt F))
variable (K : GSem nD τ sig → ℕ) (c : Dev nD)

/-- The block each device gathers, its columns and its scale, from what its windows hold. -/
def Xof (c : Dev nD) : Vec F S128x4096 .fp8e4m3 := Gen.k0_pay1 (xs c)
def Wof (c : Dev nD) : Vec F S4096x64 .fp8e4m3 := Gen.k0_pay2 (ws c)
def scof (c : Dev nD) : F .f32 := Gen.k0_pay3 (sx c ix1) (sw c ix1)

/-- What the body only reads, and its windows beside. -/
def readOnly : sProp 𝕄 :=
  iprop((((c : Thread nD τ).loc cc0_stg0_0) ↦{fullShare} (xs c)) ∗ (((c : Thread nD τ).loc cc0_stg1_0) ↦{fullShare} (ws c))
    ∗ (((c : Thread nD τ).loc cc0_stg2_0) ↦{fullShare} (sx c)) ∗ (((c : Thread nD τ).loc cc0_stg3_0) ↦{fullShare} (sw c))
    ∗ (((c : Thread nD τ).loc cc0_stg5_0) ↦{fullShare} (posT (F := F))))

/-- What is beside the transfers once the barrier is passed. -/
def Rest : sProp 𝕄 := iprop(readOnly xs ws sx sw c ∗ atPos ER (barCell c) 1 ∅ 0)

/-- The cells of a transfer, before the receiver is known to be ready. -/
def slotInv0 (s : Slot) : sProp 𝕄 :=
  iprop(cellInv ER (sdl (Xof xs)) (K (sCell c s)) (sCell c s) ∗ cellInv ER (sdl (Xof xs)) (K (rCell c s)) (rCell c s)
    ∗ cellInv ER (sdl (Xof xs)) (K (rCell (peer s.1 c) s)) (rCell (peer s.1 c) s)
    ∗ reached ER (sCell c s) 0 ∗ reached ER (rCell c s) 0)
instance slotInv0_persistent (s : Slot) : BI.Persistent (slotInv0 (F := F) xs K c s) := by unfold slotInv0; infer_instance

def Inv0 : sProp 𝕄 :=
  iprop(bigSep US (slotInv0 xs K c) ∗ levAts L lv ∗ cellInv ER (sdl (Xof xs)) (K (barCell c)) (barCell c)
    ∗ cellInv ER (sdl (Xof xs)) (K (barCell (prv c))) (barCell (prv c)) ∗ cellInv ER (sdl (Xof xs)) (K (barCell (nxt c))) (barCell (nxt c))
    ∗ reached ER (barCell (prv c)) 0 ∗ reached ER (barCell (nxt c)) 0)
instance Inv0_persistent : BI.Persistent (Inv0 (F := F) xs K c) := by unfold Inv0; infer_instance

/-- The sending and the receiving side of a transfer at the start. -/
def SS0 (s : Slot) : sProp 𝕄 := iprop(dutyTok ER (sCell c s) 0 true ∗ dutyTok ER (rCell (peer s.1 c) s) 0 true ∗ atPos ER (sCell c s) 0 ∅ 0)
def RS0 (s : Slot) : sProp 𝕄 := iprop(cred (tallyAt (rCell c s) () N) ∗ atPos ER (rCell c s) 0 ∅ 0)

/-- What the body starts with. -/
def Pre0 : sProp 𝕄 :=
  iprop(Inv0 xs K c ∗ (∃ W, owes (c : Thread nD τ) (dues c 0 + tallyAt (barCell (nxt c)) () 1 + tallyAt (barCell (prv c)) () 1) W)
    ∗ bigSep US (SS0 c) ∗ bigSep US (RS0 c) ∗ dutyTok ER (barCell (prv c)) 0 true ∗ dutyTok ER (barCell (nxt c)) 0 false
    ∗ cred (tallyAt (barCell c) () 2) ∗ atPos ER (barCell c) 0 ∅ 0
    ∗ (∃ f, ((c : Thread nD τ).loc cc0_scratch0) ↦{fullShare} f) ∗ (∃ f, ((c : Thread nD τ).loc cc0_scratch1) ↦{fullShare} f)
    ∗ (∃ f, ((c : Thread nD τ).loc cc0_stg6_0) ↦{fullShare} f)
    ∗ (((c : Thread nD τ).loc cc0_stg4_0) ↦{fullShare} (cycT (F := F))) ∗ readOnly xs ws sx sw c)

/-- What it has once it has told its neighbours. -/
def Pre1 : sProp 𝕄 :=
  iprop(Inv0 xs K c ∗ (∃ W, owes (c : Thread nD τ) (dues c 0) W)
    ∗ bigSep US (SS0 c) ∗ bigSep US (RS0 c) ∗ cred (tallyAt (barCell c) () 2) ∗ atPos ER (barCell c) 0 ∅ 0
    ∗ pcs c c 0 fullShare (G (Xof xs)) ∗ pcs c c 1 fullShare (G (Xof xs))
    ∗ (((c : Thread nD τ).loc cc0_scratch1) ↦{fullShare} (Wof ws c))
    ∗ (∃ f, ((c : Thread nD τ).loc cc0_stg6_0) ↦{fullShare} f)
    ∗ (((c : Thread nD τ).loc cc0_stg4_0) ↦{fullShare} (cycT (F := F))) ∗ readOnly xs ws sx sw c)

/-! ## The gathered array in half blocks -/

theorem bigSep_image {I J : Type} [DecidableEq I] [DecidableEq J] (s : Finset I) (f : I → J) (Φ : J → sProp 𝕄) (h : ∀ a ∈ s, ∀ b ∈ s, f a = f b → a = b) :
    bigSep (s.image f) Φ = bigSep s fun a => Φ (f a) := by
  induction s using Finset.induction_on with
  | empty => rfl
  | insert a s ha ih =>
    have hn : f a ∉ s.image f := fun hx => by
      obtain ⟨b, hb, e⟩ := Finset.mem_image.mp hx
      exact ha (h b (Finset.mem_insert_of_mem hb) a (Finset.mem_insert_self ..) e ▸ hb)
    rw [Finset.image_insert, bigSep_insert hn, bigSep_insert ha,
      ih fun a ha b hb => h a (Finset.mem_insert_of_mem ha) b (Finset.mem_insert_of_mem hb)]

/-- The whole array is the device's own two half blocks and the ones its transfers bring. -/
theorem whole_pieces (q : PosShare TreeShare) (f : (cc0_scratch0 : Ref sig .tc).ty.Contents (Elt F)) :
    ((((c : Thread nD τ).loc cc0_scratch0) ↦{q} f : sProp 𝕄))
      = iprop((pcs c c 0 q f ∗ pcs c c 1 q f) ∗ bigSep US fun s => pcs c (org c (kR s)) s.2.2 q f) := by
  have h1 : ((((c : Thread nD τ).loc cc0_scratch0) ↦{q} f : sProp 𝕄)) = bigSep (Finset.univ : Finset (Dev nD × Fin 2)) fun p => pcs c p.1 p.2 q f := by
    have hc : (Finset.univ : Finset (Idx ((c : Thread nD τ).loc cc0_scratch0)))
        = (Finset.univ : Finset (Dev nD × Fin 2)).biUnion (fun p => (P p.1 p.2 : Finset (Idx ((c : Thread nD τ).loc cc0_scratch0)))) := by
      ext i
      have hi : i ∈ (Finset.univ : Finset (Dev nD × Fin 2)).biUnion (fun p => P p.1 p.2) := P_cover ▸ Finset.mem_univ i
      obtain ⟨p, hp, hi⟩ := Finset.mem_biUnion.mp hi
      exact iff_of_true (Finset.mem_univ i) (Finset.mem_biUnion.mpr ⟨p, hp, hi⟩)
    have hj : ∀ p ∈ (Finset.univ : Finset (Dev nD × Fin 2)), ∀ p' ∈ (Finset.univ : Finset (Dev nD × Fin 2)), p ≠ p' →
        Disjoint (P p.1 p.2 : Finset (Idx ((c : Thread nD τ).loc cc0_scratch0))) (P p'.1 p'.2) := fun p _ p' _ h => P_disj (o := p.1) (j := p.2) (o' := p'.1) (j' := p'.2) h
    have hb : ((((c : Thread nD τ).loc cc0_scratch0) ↦[(Finset.univ : Finset (Dev nD × Fin 2)).biUnion (fun p => (P p.1 p.2 : Finset (Idx ((c : Thread nD τ).loc cc0_scratch0))))]{q} f : sProp 𝕄))
        = bigSep (Finset.univ : Finset (Dev nD × Fin 2)) fun p => (((c : Thread nD τ).loc cc0_scratch0) ↦[P p.1 p.2]{q} f) := pointsTo_biUnion _ _ hj
    rw [hc]
    exact hb
  have hd : Disjoint ({(c, 0), (c, 1)} : Finset (Dev nD × Fin 2)) (US.image fun s => (org c (kR s), s.2.2)) := by
    rw [Finset.disjoint_left]
    intro p hp hp'
    obtain ⟨s, hs, e⟩ := Finset.mem_image.mp hp'
    have e1 : p.1 = c := by
      rcases Finset.mem_insert.mp hp with h | h
      · rw [h]
      · rw [Finset.mem_singleton.mp h]
    rw [← e] at e1
    exact kR_ne s hs (org_inj c (e1.trans (org_zero c).symm))
  refine (h1.trans (congrArg (fun S => bigSep S fun p : Dev nD × Fin 2 => pcs c p.1 p.2 q f) (pieces c))).trans ?_
  rw [bigSep_union hd, bigSep_insert (by rw [Finset.mem_singleton]; exact fun e => absurd (Prod.mk.inj e).2 (by decide)), bigSep_singleton]
  rw [bigSep_image US _ _ fun s hs s' hs' e => pieces_inj s hs s' hs' (Prod.ext (org_inj c (Prod.mk.inj e).1) (Prod.mk.inj e).2)]
  rfl

/-- The places where a device's transfers land, at any contents. -/
def Land : sProp 𝕄 := bigSep US fun s => iprop(∃ f, pcs c (org c (kR s)) s.2.2 fullShare f)

theorem split_scratch (f : (cc0_scratch0 : Ref sig .tc).ty.Contents (Elt F)) :
    ((((c : Thread nD τ).loc cc0_scratch0) ↦{fullShare} f : sProp 𝕄)) ⊢ iprop(chunk c c fullShare f ∗ Land c) := by
  rw [whole_pieces]
  iintro ⟨H, HL⟩
  isplitl [H]
  · iapply (chunk_split c c fullShare f).2; iexact H
  · unfold Land
    iapply (show bigSep US (fun s => pcs c (org c (kR s)) s.2.2 fullShare f) ⊢ bigSep US fun s => iprop(∃ f, pcs c (org c (kR s)) s.2.2 fullShare f) from
      bigSep_mono fun s _ => exists_intro (Φ := fun f => pcs c (org c (kR s)) s.2.2 fullShare f) f) $$ HL

/-- What the barrier hands over, from the neighbour that hands it. -/
theorem barPay_prv : barPay (F := F) (prv c) true
    = bigSep (US.filter fun s => s.1 = true) fun s => iprop((∃ f, pcs c (org c (kR s)) s.2.2 fullShare f) ∗ reached ER (rCell c s) 0) := by
  unfold barPay; rw [show peer true (prv c) = c from peer_peer true c]
theorem barPay_nxt : barPay (F := F) (nxt c) false
    = bigSep (US.filter fun s => s.1 = false) fun s => iprop((∃ f, pcs c (org c (kR s)) s.2.2 fullShare f) ∗ reached ER (rCell c s) 0) := by
  unfold barPay; rw [show peer false (nxt c) = c from peer_peer false c]

theorem ways : US = (US.filter fun s => s.1 = true) ∪ US.filter fun s => s.1 = false := by decide +kernel
theorem ways_disj : Disjoint (US.filter fun s => s.1 = true) (US.filter fun s => s.1 = false) := by decide +kernel

theorem bigSep_merge {I : Type} (S : Finset I) {Φ Ψ χ : I → sProp 𝕄} (h : ∀ s ∈ S, iprop(Φ s ∗ Ψ s) ⊢ χ s) : iprop(bigSep S Φ ∗ bigSep S Ψ) ⊢ bigSep S χ :=
  (Entails.of_eq (bigSep_sep S Φ Ψ).symm).trans (bigSep_mono h)

theorem bigSep_ways (Φ : Slot → sProp 𝕄) : bigSep US Φ = iprop(bigSep (US.filter fun s => s.1 = true) Φ ∗ bigSep (US.filter fun s => s.1 = false) Φ) := by
  conv_lhs => rw [ways]
  rw [bigSep_union ways_disj]; rfl

theorem land_pays : iprop(Land c ∗ bigSep US (fun s => reached ER (rCell c s) 0)) ⊢ iprop(barPay (F := F) (prv c) true ∗ barPay (nxt c) false) := by
  rw [barPay_prv, barPay_nxt, ← bigSep_ways]
  unfold Land
  exact Entails.of_eq (bigSep_sep US _ _).symm

/-! ## One operation, over any state that has what it needs -/

theorem gen_load {P : sProp 𝕄} {sp : CoreSpace} {s : Shape} {e : EltTy} {m : Memref sig .tc sp s e} {r : Rect s} {hl}
    {S : Finset (Idx ((m.access r).loc (c : Thread nD τ)))} {q : PosShare TreeShare} {f : Buf (Elt F) ((m.access r).loc (c : Thread nD τ))}
    {Q : (r.shape.Idx → Elt F e) → sProp 𝕄} (hS : (m.access r).set ⊆ S)
    (hP : P ⊢ iprop((((m.access r).loc (c : Thread nD τ)) ↦[S]{q} f) ∗ ((((m.access r).loc (c : Thread nD τ)) ↦[S]{q} f) -∗ P)))
    (hQ : P ⊢ Q ((m.access r).read (Elt F) f)) :
    P ⊢ WP c (Prog.lift (.load m r.toLoadRect hl)) Q := by
  refine wp_lift c (hP.trans ?_)
  iintro ⟨H, HB⟩
  iapply (wp_load_rect 𝒱₀ (c : Thread nD τ) none Set.univ (m := m) (r := r) (hl := hl) (S := S) (q := q) (f := f) hS) $$ H
  iintro H
  iapply (ret_of c hQ)
  iapply HB
  iexact H

theorem gen_smem {P : sProp 𝕄} {s : Shape} {e : EltTy} {m : Memref sig .tc .smem s e} {r : Rect s} {hnum : r.shape.numel = 1} {hp}
    {q : PosShare TreeShare} {f : Buf (Elt F) ((m.access r).loc (c : Thread nD τ))}
    {Q : Elt F e → sProp 𝕄} {v : Elt F e}
    (hP : P ⊢ iprop((((m.access r).loc (c : Thread nD τ)) ↦{q} f) ∗ ((((m.access r).loc (c : Thread nD τ)) ↦{q} f) -∗ P)))
    (hv : ∀ x, (m.access r).read (Elt F) f x = v) (hQ : P ⊢ Q v) :
    P ⊢ WP c (smemLoad m r hnum hp) Q := by
  unfold smemLoad
  have hQ' : ∀ x, P ⊢ Q ((m.access r).read (Elt F) f x) := fun x => by rw [hv x]; exact hQ
  refine hP.trans ?_
  iintro ⟨H, HB⟩
  iapply (wp_smemLoadElt 𝒱₀ (c : Thread nD τ) none Set.univ (m := m) (r := r) (S := Finset.univ) (q := q) (f := f) (Finset.subset_univ _)) $$ H
  iintro H
  iapply (ret_of c (hQ' _))
  iapply HB
  iexact H

/-- What the body reads only, with the table of the ring's order, beside anything. -/
def Stg (D : sProp 𝕄) : sProp 𝕄 := iprop(readOnly xs ws sx sw c ∗ (((c : Thread nD τ).loc cc0_stg4_0) ↦{fullShare} (cycT (F := F))) ∗ D)

theorem stg_x (D : sProp 𝕄) : Stg xs ws sx sw c D ⊢ iprop((((c : Thread nD τ).loc cc0_stg0_0) ↦{fullShare} (xs c))
    ∗ ((((c : Thread nD τ).loc cc0_stg0_0) ↦{fullShare} (xs c)) -∗ Stg xs ws sx sw c D)) := by
  unfold Stg readOnly
  iintro ⟨⟨H0, H1⟩, H2⟩
  isplitl [H0]; · iexact H0
  iintro H0
  isplitl [H0 H1]
  · isplitl [H0]; · iexact H0
    iexact H1
  iexact H2

theorem stg_w (D : sProp 𝕄) : Stg xs ws sx sw c D ⊢ iprop((((c : Thread nD τ).loc cc0_stg1_0) ↦{fullShare} (ws c))
    ∗ ((((c : Thread nD τ).loc cc0_stg1_0) ↦{fullShare} (ws c)) -∗ Stg xs ws sx sw c D)) := by
  unfold Stg readOnly
  iintro ⟨⟨H0, H1, H3⟩, H2⟩
  isplitl [H1]; · iexact H1
  iintro H1
  isplitl [H0 H1 H3]
  · isplitl [H0]; · iexact H0
    isplitl [H1]; · iexact H1
    iexact H3
  iexact H2

theorem stg_p (D : sProp 𝕄) : Stg xs ws sx sw c D ⊢ iprop((((c : Thread nD τ).loc cc0_stg5_0) ↦{fullShare} (posT (F := F)))
    ∗ ((((c : Thread nD τ).loc cc0_stg5_0) ↦{fullShare} (posT (F := F))) -∗ Stg xs ws sx sw c D)) := by
  unfold Stg readOnly
  iintro ⟨⟨H0, H1, H3, H4, H5⟩, H2⟩
  isplitl [H5]; · iexact H5
  iintro H5
  isplitl [H0 H1 H3 H4 H5]
  · isplitl [H0]; · iexact H0
    isplitl [H1]; · iexact H1
    isplitl [H3]; · iexact H3
    isplitl [H4]; · iexact H4
    iexact H5
  iexact H2

theorem stg_c (D : sProp 𝕄) : Stg xs ws sx sw c D ⊢ iprop((((c : Thread nD τ).loc cc0_stg4_0) ↦{fullShare} (cycT (F := F)))
    ∗ ((((c : Thread nD τ).loc cc0_stg4_0) ↦{fullShare} (cycT (F := F))) -∗ Stg xs ws sx sw c D)) := by
  unfold Stg
  iintro ⟨H0, H1, H2⟩
  isplitl [H1]; · iexact H1
  iintro H1
  isplitl [H0]; · iexact H0
  isplitl [H1]; · iexact H1
  iexact H2

theorem st_s0 (n : ℕ) : St (Xof xs) (Wof ws) (scof sx sw) (Rest xs ws sx sw c) K c n ⊢ iprop((((c : Thread nD τ).loc cc0_stg2_0) ↦{fullShare} (sx c))
    ∗ ((((c : Thread nD τ).loc cc0_stg2_0) ↦{fullShare} (sx c)) -∗ St (Xof xs) (Wof ws) (scof sx sw) (Rest xs ws sx sw c) K c n)) := by
  unfold St Rest readOnly
  iintro ⟨#HI, HO, HSS, HQS, HRS, Hown, Hf, Hw, Ht, ⟨H0, H1, H2, H3⟩, Hb⟩
  isplitl [H2]; · iexact H2
  iintro H2
  isplitr; · iexact HI
  isplitl [HO]; · iexact HO
  isplitl [HSS]; · iexact HSS
  isplitl [HQS]; · iexact HQS
  isplitl [HRS]; · iexact HRS
  isplitl [Hown]; · iexact Hown
  isplitl [Hf]; · iexact Hf
  isplitl [Hw]; · iexact Hw
  isplitl [Ht]; · iexact Ht
  isplitl [H0 H1 H2 H3]
  · isplitl [H0]; · iexact H0
    isplitl [H1]; · iexact H1
    isplitl [H2]; · iexact H2
    iexact H3
  iexact Hb

theorem st_s1 (n : ℕ) : St (Xof xs) (Wof ws) (scof sx sw) (Rest xs ws sx sw c) K c n ⊢ iprop((((c : Thread nD τ).loc cc0_stg3_0) ↦{fullShare} (sw c))
    ∗ ((((c : Thread nD τ).loc cc0_stg3_0) ↦{fullShare} (sw c)) -∗ St (Xof xs) (Wof ws) (scof sx sw) (Rest xs ws sx sw c) K c n)) := by
  unfold St Rest readOnly
  iintro ⟨#HI, HO, HSS, HQS, HRS, Hown, Hf, Hw, Ht, ⟨H0, H1, H2, H3, H4⟩, Hb⟩
  isplitl [H3]; · iexact H3
  iintro H3
  isplitr; · iexact HI
  isplitl [HO]; · iexact HO
  isplitl [HSS]; · iexact HSS
  isplitl [HQS]; · iexact HQS
  isplitl [HRS]; · iexact HRS
  isplitl [Hown]; · iexact Hown
  isplitl [Hf]; · iexact Hf
  isplitl [Hw]; · iexact Hw
  isplitl [Ht]; · iexact Ht
  isplitl [H0 H1 H2 H3 H4]
  · isplitl [H0]; · iexact H0
    isplitl [H1]; · iexact H1
    isplitl [H2]; · iexact H2
    isplitl [H3]; · iexact H3
    iexact H4
  iexact Hb

theorem one_place (x : S1.Idx) : x = ix1 := by
  funext a
  match a with
  | 0 => exact Fin.ext (by have h : (x 0).val < 1 := (x 0).isLt; have h' : ((ix1 : S1.Idx) 0).val < 1 := (ix1 0).isLt; omega)

theorem step_sx {n : ℕ} {i : ∀ a, (![0] : Fin 1 → ℕ) a + S1.size a ≤ S1.size a} {hnum : S1.numel = 1} {hp} {Q : Elt F .f32 → sProp 𝕄}
    (hQ : St (Xof xs) (Wof ws) (scof sx sw) (Rest xs ws sx sw c) K c n ⊢ Q (sx c ix1)) :
    St (Xof xs) (Wof ws) (scof sx sw) (Rest xs ws sx sw c) K c n ⊢ WP c (smemLoad (Memref.whole cc0_stg2_0 : Memref sig .tc .smem S1 .f32) (Rect.unit (s := S1) ![0] S1.size i) hnum hp) Q :=
  gen_smem c (m := (Memref.whole cc0_stg2_0 : Memref sig .tc .smem S1 .f32)) (r := Rect.unit (s := S1) ![0] S1.size i) (q := fullShare) (f := sx c)
    (st_s0 xs ws sx sw K c n) (fun x => by rw [View.read_apply]; exact congrArg (sx c) (one_place _)) hQ

theorem step_sw {n : ℕ} {i : ∀ a, (![0] : Fin 1 → ℕ) a + S1.size a ≤ S1.size a} {hnum : S1.numel = 1} {hp} {Q : Elt F .f32 → sProp 𝕄}
    (hQ : St (Xof xs) (Wof ws) (scof sx sw) (Rest xs ws sx sw c) K c n ⊢ Q (sw c ix1)) :
    St (Xof xs) (Wof ws) (scof sx sw) (Rest xs ws sx sw c) K c n ⊢ WP c (smemLoad (Memref.whole cc0_stg3_0 : Memref sig .tc .smem S1 .f32) (Rect.unit (s := S1) ![0] S1.size i) hnum hp) Q :=
  gen_smem c (m := (Memref.whole cc0_stg3_0 : Memref sig .tc .smem S1 .f32)) (r := Rect.unit (s := S1) ![0] S1.size i) (q := fullShare) (f := sw c)
    (st_s1 xs ws sx sw K c n) (fun x => by rw [View.read_apply]; exact congrArg (sw c) (one_place _)) hQ

/-! ## The tables, and the two inputs' loads and stores -/

theorem pos_word : ∀ p : Fin 32, lit1 p = BitVec.ofNat 32 (pos p).val := by decide +kernel
theorem at_d : ∀ d : Dev nD, k0_off1 d = ![d.val] := by decide +kernel
theorem at_next : ∀ p : Fin 32, k0_off2 (BitVec.ofNat 32 p.val) = ![(p - (-1 : Fin 32)).val] := by decide +kernel
theorem at_prev : ∀ p : Fin 32, k0_off3 (BitVec.ofNat 32 p.val) = ![(p - (1 : Fin 32)).val] := by decide +kernel
theorem own_rows : ∀ d : Dev nD, k0_off4 d = ![128 * d.val, 0] := by decide +kernel
theorem chk_p : ∀ p : Fin 32, k0_chk1 (BitVec.ofNat 32 p.val) := by decide +kernel
theorem chk_n : ∀ d : Dev nD, k0_chk3 (Dev.word d) := by decide +kernel
theorem chk_v : ∀ d : Dev nD, k0_chk2 (Dev.word d) := by decide +kernel
theorem to_v : ∀ d : Dev nD, k0_dev1 (Dev.word d) = d.val := by decide +kernel
theorem to_n : ∀ d : Dev nD, k0_dev2 (Dev.word d) = d.val := by decide +kernel

theorem step_pos {D : sProp 𝕄} {off : Fin 1 → ℕ} {i : ∀ a, off a + S1.size a ≤ S32.size a} {hnum : S1.numel = 1} {hp}
    {Q : Elt F .i32 → sProp 𝕄} (ho : off = ![c.val]) (hQ : Stg xs ws sx sw c D ⊢ Q (BitVec.ofNat 32 (pos c).val)) :
    Stg xs ws sx sw c D ⊢ WP c (smemLoad (Memref.whole cc0_stg5_0 : Memref sig .tc .smem S32 .i32) (Rect.unit (s := S32) off S1.size i) hnum hp) Q := by
  subst ho
  refine gen_smem c (m := (Memref.whole cc0_stg5_0 : Memref sig .tc .smem S32 .i32)) (r := Rect.unit (s := S32) ![c.val] S1.size i) (q := fullShare) (f := posT (F := F))
    (stg_p xs ws sx sw c D) (fun x => ?_) hQ
  rw [View.read_apply]
  show lit1 _ = _
  rw [← pos_word]
  congr 1
  apply Fin.ext
  refine (Shape.rowMajor_val_one (d := ![32]) _).trans ?_
  have h : (x 0).val < 1 := (x 0).isLt
  show c.val + 1 * (x 0).val = c.val
  omega

theorem step_tab {D : sProp 𝕄} {off : Fin 1 → ℕ} {i : ∀ a, off a + S1.size a ≤ S32.size a} {hnum : S1.numel = 1} {hp}
    {Q : Elt F .i32 → sProp 𝕄} (p : Fin 32) (ho : off = ![p.val]) (hQ : Stg xs ws sx sw c D ⊢ Q (Dev.word (cyc p))) :
    Stg xs ws sx sw c D ⊢ WP c (smemLoad (Memref.whole cc0_stg4_0 : Memref sig .tc .smem S32 .i32) (Rect.unit (s := S32) off S1.size i) hnum hp) Q := by
  subst ho
  exact gen_smem c (m := (Memref.whole cc0_stg4_0 : Memref sig .tc .smem S32 .i32)) (r := Rect.unit (s := S32) ![p.val] S1.size i) (q := fullShare) (f := cycT (F := F))
    (stg_c xs ws sx sw c D) (fun x => read_table i x) hQ

theorem step_x {D : sProp 𝕄} {i : ∀ a, (![0, 0] : Fin 2 → ℕ) a + S128x4096.size a ≤ S128x4096.size a} {hl}
    {Q : Vec F S128x4096 .fp8e4m3 → sProp 𝕄} (hQ : Stg xs ws sx sw c D ⊢ Q (xs c)) :
    Stg xs ws sx sw c D ⊢ WP c (Prog.lift (.load (Memref.whole cc0_stg0_0) (Rect.unit (s := S128x4096) ![0, 0] S128x4096.size i).toLoadRect hl)) Q := by
  refine gen_load c (m := (Memref.whole cc0_stg0_0 : Memref sig .tc .vmem S128x4096 .fp8e4m3)) (r := Rect.unit (s := S128x4096) ![0, 0] S128x4096.size i) (q := fullShare) (f := xs c)
    (Finset.subset_univ _) (stg_x xs ws sx sw c D) ?_
  have e : ((Memref.whole cc0_stg0_0 : Memref sig .tc .vmem S128x4096 .fp8e4m3).access (Rect.unit (s := S128x4096) ![0, 0] S128x4096.size i)).read (Elt F) (xs c) = xs c := by
    funext x
    rw [View.read_apply]
    show xs c _ = xs c x
    congr 1
    funext a
    match a with
    | 0 => apply Fin.ext; show 0 + 1 * (x 0).val = (x 0).val; omega
    | 1 => apply Fin.ext; show 0 + 1 * (x 1).val = (x 1).val; omega
  rw [e]; exact hQ

theorem step_w {D : sProp 𝕄} {i : ∀ a, (![0, 0] : Fin 2 → ℕ) a + S4096x64.size a ≤ S4096x64.size a} {hl}
    {Q : Vec F S4096x64 .fp8e4m3 → sProp 𝕄} (hQ : Stg xs ws sx sw c D ⊢ Q (ws c)) :
    Stg xs ws sx sw c D ⊢ WP c (Prog.lift (.load (Memref.whole cc0_stg1_0) (Rect.unit (s := S4096x64) ![0, 0] S4096x64.size i).toLoadRect hl)) Q := by
  refine gen_load c (m := (Memref.whole cc0_stg1_0 : Memref sig .tc .vmem S4096x64 .fp8e4m3)) (r := Rect.unit (s := S4096x64) ![0, 0] S4096x64.size i) (q := fullShare) (f := ws c)
    (Finset.subset_univ _) (stg_w xs ws sx sw c D) ?_
  have e : ((Memref.whole cc0_stg1_0 : Memref sig .tc .vmem S4096x64 .fp8e4m3).access (Rect.unit (s := S4096x64) ![0, 0] S4096x64.size i)).read (Elt F) (ws c) = ws c := by
    funext x
    rw [View.read_apply]
    show ws c _ = ws c x
    congr 1
    funext a
    match a with
    | 0 => apply Fin.ext; show 0 + 1 * (x 0).val = (x 0).val; omega
    | 1 => apply Fin.ext; show 0 + 1 * (x 1).val = (x 1).val; omega
  rw [e]; exact hQ

/-- Loading the device's own rows of the gathered array before they are written: the value is not used. -/
theorem step_mine {D : sProp 𝕄} {off : Fin 2 → ℕ} {i : ∀ a, off a + S128x4096.size a ≤ S4096x4096.size a} {hl}
    {Q : Vec F S128x4096 .fp8e4m3 → sProp 𝕄} (ho : off = ![128 * c.val, 0])
    (hQ : ∀ v, Stg xs ws sx sw c iprop((∃ f, chunk c c fullShare f) ∗ D) ⊢ Q v) :
    Stg xs ws sx sw c iprop((∃ f, chunk c c fullShare f) ∗ D) ⊢ WP c (Prog.lift (.load gM (Rect.unit (s := S4096x4096) off S128x4096.size i).toLoadRect hl)) Q := by
  refine wp_lift c ?_
  unfold Stg chunk at hQ ⊢
  iintro ⟨HR, HT, ⟨%f, Hf⟩, HD⟩
  iapply (wp_load_rect 𝒱₀ (c : Thread nD τ) none Set.univ (m := gM) (r := Rect.unit (s := S4096x4096) off S128x4096.size i) (hl := hl) (S := chunkSet c) (q := fullShare) (f := f)
    (chunk_access c ho).le) $$ Hf
  iintro Hf
  iapply (ret_of c (hQ _))
  isplitl [HR]; · iexact HR
  isplitl [HT]; · iexact HT
  isplitl [Hf]; · iexists f; iexact Hf
  iexact HD

/-- Storing the device's own rows there. -/
theorem step_fill {D : sProp 𝕄} {off : Fin 2 → ℕ} {i : ∀ a, off a + S128x4096.size a ≤ S4096x4096.size a} {hx hm}
    {v : Vec F S128x4096 .fp8e4m3} {Q : PUnit → sProp 𝕄} (ho : off = ![128 * c.val, 0]) (hv : v = Xof xs c)
    (hQ : Stg xs ws sx sw c iprop(chunk c c fullShare (G (Xof xs)) ∗ D) ⊢ Q ⟨⟩) :
    Stg xs ws sx sw c iprop((∃ f, chunk c c fullShare f) ∗ D) ⊢ WP c (Prog.lift (.store gM (Rect.unit (s := S4096x4096) off S128x4096.size i) v Finset.univ hx hm)) Q := by
  subst hv
  refine wp_lift c ?_
  unfold Stg chunk at hQ ⊢
  iintro ⟨HR, HT, ⟨%f, Hf⟩, HD⟩
  have e : ((((c : Thread nD τ).loc cc0_scratch0) ↦[chunkSet c]{fullShare} ((gM.access (Rect.unit (s := S4096x4096) off S128x4096.size i)).write (Elt F) f (Xof xs c) Finset.univ) : sProp 𝕄)) = (((c : Thread nD τ).loc cc0_scratch0) ↦[chunkSet c]{fullShare} (G (Xof xs))) := by
    refine pointsTo_congr fun k hk => ?_
    rw [← chunk_access (i := i) c ho] at hk
    obtain ⟨k, -, rfl⟩ := Finset.mem_map.mp hk
    rw [View.write_emb, if_pos (Finset.mem_univ _)]
    exact (congrFun (read_chunk (i := i) (Xof xs) c ho) k).symm
  iapply (wp_store 𝒱₀ (c : Thread nD τ) none Set.univ (m := gM) (r := Rect.unit (s := S4096x4096) off S128x4096.size i) (Mk := Finset.univ) (w := Xof xs c) (hx := hx) (hm := hm) (S := chunkSet c) (f := f)
    (chunk_access c ho).le) $$ Hf
  iintro Hf
  ihave Hf := (Entails.of_eq e) $$ Hf
  iapply (ret_of c hQ)
  isplitl [HR]; · iexact HR
  isplitl [HT]; · iexact HT
  isplitl [Hf]; · iexact Hf
  iexact HD

theorem step_was {A D : sProp 𝕄} {i : ∀ a, (![0, 0] : Fin 2 → ℕ) a + S4096x64.size a ≤ S4096x64.size a} {hl}
    {Q : Vec F S4096x64 .fp8e4m3 → sProp 𝕄}
    (hQ : ∀ v, Stg xs ws sx sw c iprop(A ∗ (∃ f, ((c : Thread nD τ).loc cc0_scratch1) ↦{fullShare} f) ∗ D) ⊢ Q v) :
    Stg xs ws sx sw c iprop(A ∗ (∃ f, ((c : Thread nD τ).loc cc0_scratch1) ↦{fullShare} f) ∗ D)
      ⊢ WP c (Prog.lift (.load (Memref.whole cc0_scratch1) (Rect.unit (s := S4096x64) ![0, 0] S4096x64.size i).toLoadRect hl)) Q := by
  refine wp_lift c ?_
  unfold Stg at hQ ⊢
  iintro ⟨HR, HT, HA, ⟨%f, Hf⟩, HD⟩
  iapply (wp_load_rect 𝒱₀ (c : Thread nD τ) none Set.univ (m := (Memref.whole cc0_scratch1 : Memref sig .tc .vmem S4096x64 .fp8e4m3)) (r := Rect.unit (s := S4096x64) ![0, 0] S4096x64.size i)
    (hl := hl) (S := Finset.univ) (q := fullShare) (f := f) (Finset.subset_univ _)) $$ Hf
  iintro Hf
  iapply (ret_of c (hQ _))
  isplitl [HR]; · iexact HR
  isplitl [HT]; · iexact HT
  isplitl [HA]; · iexact HA
  isplitl [Hf]; · iexists f; iexact Hf
  iexact HD

theorem step_keep {A D : sProp 𝕄} {i : ∀ a, (![0, 0] : Fin 2 → ℕ) a + S4096x64.size a ≤ S4096x64.size a} {hx hm}
    {v : Vec F S4096x64 .fp8e4m3} {Q : PUnit → sProp 𝕄} (hv : v = Wof ws c)
    (hQ : Stg xs ws sx sw c iprop(A ∗ (((c : Thread nD τ).loc cc0_scratch1) ↦{fullShare} (Wof ws c)) ∗ D) ⊢ Q ⟨⟩) :
    Stg xs ws sx sw c iprop(A ∗ (∃ f, ((c : Thread nD τ).loc cc0_scratch1) ↦{fullShare} f) ∗ D)
      ⊢ WP c (Prog.lift (.store (Memref.whole cc0_scratch1) (Rect.unit (s := S4096x64) ![0, 0] S4096x64.size i) v Finset.univ hx hm)) Q := by
  subst hv
  refine wp_lift c ?_
  unfold Stg at hQ ⊢
  iintro ⟨HR, HT, HA, ⟨%f, Hf⟩, HD⟩
  have e : ((Memref.whole cc0_scratch1 : Memref sig .tc .vmem S4096x64 .fp8e4m3).access (Rect.unit (s := S4096x64) ![0, 0] S4096x64.size i)).write (Elt F) f (Wof ws c) Finset.univ = Wof ws c := by
    funext x
    have hx : ((Memref.whole cc0_scratch1 : Memref sig .tc .vmem S4096x64 .fp8e4m3).access (Rect.unit (s := S4096x64) ![0, 0] S4096x64.size i)).emb x = x := by
      funext a
      match a with
      | 0 => apply Fin.ext; show 0 + 1 * (x 0).val = (x 0).val; omega
      | 1 => apply Fin.ext; show 0 + 1 * (x 1).val = (x 1).val; omega
    conv_lhs => rw [← hx]
    rw [View.write_emb, if_pos (Finset.mem_univ _)]
    rfl
  iapply (wp_store 𝒱₀ (c : Thread nD τ) none Set.univ (m := (Memref.whole cc0_scratch1 : Memref sig .tc .vmem S4096x64 .fp8e4m3)) (r := Rect.unit (s := S4096x64) ![0, 0] S4096x64.size i)
    (Mk := Finset.univ) (w := Wof ws c) (hx := hx) (hm := hm) (S := Finset.univ) (f := f) (Finset.subset_univ _)) $$ Hf
  iintro Hf
  ihave Hf := (Entails.of_eq (congrArg (fun f => ((((c : Thread nD τ).loc cc0_scratch1) ↦{fullShare} f : sProp 𝕄))) e)) $$ Hf
  iapply (ret_of c hQ)
  isplitl [HR]; · iexact HR
  isplitl [HT]; · iexact HT
  isplitl [HA]; · iexact HA
  isplitl [Hf]; · iexact Hf
  iexact HD

/-- Telling a neighbour that its transfers may land here. -/
theorem step_signal {R : sProp 𝕄} {O : CellTallies nD τ sig Unit} {t : Dev nD} {d : Bool} {dv : Dev nD} {S : Sem sig} {Q : PUnit → sProp 𝕄}
    (hS : S = barrier0) (hd : dv = t) (hQ : iprop((∃ W, owes (c : Thread nD τ) O W) ∗ R) ⊢ Q ⟨⟩) :
    iprop(cellInv ER (sdl (Xof xs)) (K (barCell t)) (barCell t) ∗ reached ER (barCell t) 0
      ∗ (∃ W, owes (c : Thread nD τ) (O + tallyAt (barCell t) () 1) W) ∗ dutyTok ER (barCell t) 0 d ∗ barPay t d ∗ R)
      ⊢ WP c (semSignalWord dv S 1#32) Q := by
  subst hS hd
  unfold semSignalWord
  iintro ⟨#HI, #Hr, ⟨%W, HO⟩, Hd, Hp, HR⟩
  iapply (Rounds.wp_signal 𝒱₀ ER (sdl (Xof xs)) (c : Thread nD τ) none (dst := (dv : Thread nD τ)) (sem := barrier0) (r := 0) (d := d) (κ := K (barCell dv)) (W := W) (Es := Set.univ)
    (by rw [duties_bar (Xof xs) dv]; cases d <;> decide) (amount_bar (Xof xs) dv 0 d) () O rfl) $$ [HO Hd Hp]
  · isplitr; · iexact HI
    isplitl [HO]; · iexact HO
    isplitl [Hd]; · iexact Hd
    isplitl [Hp]
    · iapply (Entails.of_eq (payload_bar (Xof xs) dv d).symm) $$ Hp
    iexact Hr
  iintro HO
  iapply (ret_of c hQ)
  isplitl [HO]; · iexists W; iexact HO
  iexact HR

/-! ## Up to the barrier -/

/-- What the loads and stores before the barrier leave alone. -/
def Side : sProp 𝕄 :=
  iprop(Inv0 xs K c ∗ (∃ W, owes (c : Thread nD τ) (dues c 0 + tallyAt (barCell (nxt c)) () 1 + tallyAt (barCell (prv c)) () 1) W)
    ∗ bigSep US (SS0 c) ∗ bigSep US (RS0 c) ∗ dutyTok ER (barCell (prv c)) 0 true ∗ dutyTok ER (barCell (nxt c)) 0 false
    ∗ cred (tallyAt (barCell c) () 2) ∗ atPos ER (barCell c) 0 ∅ 0 ∗ Land c ∗ (∃ f, ((c : Thread nD τ).loc cc0_stg6_0) ↦{fullShare} f))

theorem pre_stg : Pre0 xs ws sx sw K c ⊢ Stg xs ws sx sw c iprop((∃ f, chunk c c fullShare f) ∗ (∃ f, ((c : Thread nD τ).loc cc0_scratch1) ↦{fullShare} f) ∗ Side xs K c) := by
  unfold Pre0 Stg Side
  iintro ⟨#HI, HO, HSS, HRS, Hp, Hn, Hc, Ha, ⟨%f, Hg⟩, Hw, Hf, Ht, HR⟩
  ihave Hg := (split_scratch c f) $$ Hg
  icases Hg with ⟨Hm, HL⟩
  isplitl [HR]; · iexact HR
  isplitl [Ht]; · iexact Ht
  isplitl [Hm]; · iexists f; iexact Hm
  isplitl [Hw]; · iexact Hw
  isplitr; · iexact HI
  isplitl [HO]; · iexact HO
  isplitl [HSS]; · iexact HSS
  isplitl [HRS]; · iexact HRS
  isplitl [Hp]; · iexact Hp
  isplitl [Hn]; · iexact Hn
  isplitl [Hc]; · iexact Hc
  isplitl [Ha]; · iexact Ha
  isplitl [HL]; · iexact HL
  iexact Hf

theorem slotInv0_reached (s : Slot) : slotInv0 xs K c s ⊢ (reached ER (rCell c s) 0 : sProp 𝕄) := by
  unfold slotInv0
  iintro ⟨-, -, -, -, H⟩
  iexact H

theorem inv0_reached : Inv0 xs K c ⊢ bigSep US fun s => (reached ER (rCell c s) 0 : sProp 𝕄) := by
  unfold Inv0
  refine sep_elim_left.trans (bigSep_mono fun s _ => slotInv0_reached xs K c s)

theorem inv0_bars : Inv0 xs K c ⊢ iprop(levAts L lv ∗ cellInv ER (sdl (Xof xs)) (K (barCell c)) (barCell c)
    ∗ cellInv ER (sdl (Xof xs)) (K (barCell (prv c))) (barCell (prv c)) ∗ cellInv ER (sdl (Xof xs)) (K (barCell (nxt c))) (barCell (nxt c))
    ∗ reached ER (barCell (prv c)) 0 ∗ reached ER (barCell (nxt c)) 0) := by
  unfold Inv0
  iintro ⟨-, H⟩
  iexact H

/-- What the two signals are given. -/
def Tail : sProp 𝕄 :=
  iprop(Inv0 xs K c ∗ bigSep US (SS0 c) ∗ bigSep US (RS0 c) ∗ cred (tallyAt (barCell c) () 2) ∗ atPos ER (barCell c) 0 ∅ 0
    ∗ chunk c c fullShare (G (Xof xs)) ∗ (((c : Thread nD τ).loc cc0_scratch1) ↦{fullShare} (Wof ws c))
    ∗ (∃ f, ((c : Thread nD τ).loc cc0_stg6_0) ↦{fullShare} f) ∗ (((c : Thread nD τ).loc cc0_stg4_0) ↦{fullShare} (cycT (F := F)))
    ∗ readOnly xs ws sx sw c)

def Sig1 : sProp 𝕄 :=
  iprop(cellInv ER (sdl (Xof xs)) (K (barCell (nxt c))) (barCell (nxt c)) ∗ reached ER (barCell (nxt c)) 0
      ∗ dutyTok ER (barCell (nxt c)) 0 false ∗ barPay (nxt c) false ∗ Tail xs ws sx sw K c)

theorem stg_sig : Stg xs ws sx sw c iprop(chunk c c fullShare (G (Xof xs)) ∗ (((c : Thread nD τ).loc cc0_scratch1) ↦{fullShare} (Wof ws c)) ∗ Side xs K c)
    ⊢ iprop(cellInv ER (sdl (Xof xs)) (K (barCell (prv c))) (barCell (prv c)) ∗ reached ER (barCell (prv c)) 0
      ∗ (∃ W, owes (c : Thread nD τ) (dues c 0 + tallyAt (barCell (nxt c)) () 1 + tallyAt (barCell (prv c)) () 1) W)
      ∗ dutyTok ER (barCell (prv c)) 0 true ∗ barPay (prv c) true ∗ Sig1 xs ws sx sw K c) := by
  unfold Stg Side Sig1 Tail
  iintro ⟨HR, Ht, Hm, Hw, #HI, HO, HSS, HRS, Hp, Hn, Hc, Ha, HL, Hf⟩
  ihave #Hre := (inv0_reached xs K c) $$ HI
  ihave Hpay := (land_pays (F := F) c) $$ [HL]
  · isplitl [HL]; · iexact HL
    iexact Hre
  icases Hpay with ⟨Hp1, Hp2⟩
  ihave #HI' := (inv0_bars xs K c) $$ HI
  icases HI' with ⟨-, -, #Hip, #Hin, #Hrp, #Hrn⟩
  isplitr; · iexact Hip
  isplitr; · iexact Hrp
  isplitl [HO]; · iexact HO
  isplitl [Hp]; · iexact Hp
  isplitl [Hp1]; · iexact Hp1
  isplitr; · iexact Hin
  isplitr; · iexact Hrn
  isplitl [Hn]; · iexact Hn
  isplitl [Hp2]; · iexact Hp2
  isplitr; · iexact HI
  isplitl [HSS]; · iexact HSS
  isplitl [HRS]; · iexact HRS
  isplitl [Hc]; · iexact Hc
  isplitl [Ha]; · iexact Ha
  isplitl [Hm]; · iexact Hm
  isplitl [Hw]; · iexact Hw
  isplitl [Hf]; · iexact Hf
  isplitl [Ht]; · iexact Ht
  iexact HR

theorem sig_sig : iprop((∃ W, owes (c : Thread nD τ) (dues c 0 + tallyAt (barCell (nxt c)) () 1) W) ∗ Sig1 xs ws sx sw K c)
    ⊢ iprop(cellInv ER (sdl (Xof xs)) (K (barCell (nxt c))) (barCell (nxt c)) ∗ reached ER (barCell (nxt c)) 0
      ∗ (∃ W, owes (c : Thread nD τ) (dues c 0 + tallyAt (barCell (nxt c)) () 1) W)
      ∗ dutyTok ER (barCell (nxt c)) 0 false ∗ barPay (nxt c) false ∗ Tail xs ws sx sw K c) := by
  unfold Sig1
  iintro ⟨HO, Hi, Hr, Hd, Hp, HT⟩
  isplitl [Hi]; · iexact Hi
  isplitl [Hr]; · iexact Hr
  isplitl [HO]; · iexact HO
  isplitl [Hd]; · iexact Hd
  isplitl [Hp]; · iexact Hp
  iexact HT

theorem sig_pre : iprop((∃ W, owes (c : Thread nD τ) (dues c 0) W) ∗ Tail xs ws sx sw K c) ⊢ Pre1 xs ws sx sw K c := by
  unfold Tail Pre1
  iintro ⟨HO, #HI, HSS, HRS, Hc, Ha, Hm, Hw, Hf, Ht, HR⟩
  ihave Hm := (chunk_split c c fullShare (G (Xof xs))).1 $$ Hm
  icases Hm with ⟨H0, H1⟩
  isplitr; · iexact HI
  isplitl [HO]; · iexact HO
  isplitl [HSS]; · iexact HSS
  isplitl [HRS]; · iexact HRS
  isplitl [Hc]; · iexact Hc
  isplitl [Ha]; · iexact Ha
  isplitl [H0]; · iexact H0
  isplitl [H1]; · iexact H1
  isplitl [Hw]; · iexact Hw
  isplitl [Hf]; · iexact Hf
  isplitl [Ht]; · iexact Ht
  iexact HR

/-- The first part: the tables' three words, the two inputs, the two signals. -/
theorem step_part1 {h0 h1 h2 h3 h4 h5 h6 h7 h8} {Q : _ → sProp 𝕄}
    (hQ : ∀ v2 hw1 hw3 hw2, Pre1 xs ws sx sw K c ⊢ Q ⟨c, v2, BitVec.ofNat 32 (pos c).val, hw1, Dev.word (nxt c), hw3, Dev.word (prv c), hw2, SemArray.scalar (sig.barrier 0 rfl)⟩) :
    Pre0 xs ws sx sw K c ⊢ WP c (k0_part1 (Memref.whole cc0_stg0_0) h0 (Memref.whole cc0_stg1_0) h1 (Memref.whole cc0_stg2_0) h2 (Memref.whole cc0_stg3_0) h3
      (Memref.whole cc0_stg4_0) h4 (Memref.whole cc0_stg5_0) h5 (Memref.whole cc0_stg6_0) h6 (Memref.whole cc0_scratch0) h7 (Memref.whole cc0_scratch1) h8
      cc0_scratch2 cc0_scratch3 cc0_scratch4 cc0_scratch5 cc0_scratch6) Q := by
  rw [Gen.k0_part1_eq_skeleton]
  unfold Gen.k0_part1_skel
  refine (pre_stg xs ws sx sw K c).trans ?_
  refine wp_seq c ?_
  refine wp_lift c ((ret_of c (x := c) ?_).trans (Entails.of_eq (wp_deviceId (c := (c : Thread nD τ)) ..).symm))
  dsimp only
  refine wp_seq c (step_pos xs ws sx sw c (at_d c) ?_)
  refine wp_seq c (step_assume c (chk_p (pos c)) ?_)
  refine wp_seq c (step_tab xs ws sx sw c (pos c - (-1 : Fin 32)) (at_next (pos c)) ?_)
  refine wp_seq c (step_assume c (chk_n _) ?_)
  refine wp_seq c (step_tab xs ws sx sw c (pos c - (1 : Fin 32)) (at_prev (pos c)) ?_)
  refine wp_seq c (step_assume c (chk_v _) ?_)
  refine wp_seq c (step_x xs ws sx sw c ?_)
  refine wp_seq c (step_mine xs ws sx sw c (own_rows c) fun _ => ?_)
  refine wp_seq c (step_fill xs ws sx sw c (own_rows c) rfl ?_)
  refine wp_seq c (step_w xs ws sx sw c ?_)
  refine wp_seq c (step_was xs ws sx sw c fun _ => ?_)
  refine wp_seq c (step_keep xs ws sx sw c rfl ?_)
  refine wp_seq c ((stg_sig xs ws sx sw K c).trans (step_signal xs K c (t := prv c) (d := true) rfl (Fin.ext (to_v _)) ?_))
  refine wp_seq c ((sig_sig xs ws sx sw K c).trans (step_signal xs K c (t := nxt c) (d := false) rfl (Fin.ext (to_n _)) ?_))
  exact wp_done c ((sig_pre xs ws sx sw K c).trans (hQ _ _ _ _))

/-! ## The barrier -/

/-- The parts of a device's own block that its first four transfers read. -/
theorem first_four (X : Dev nD → Vec F S128x4096 .fp8e4m3) : (bigSep (US.filter fun s => s.2.1 = 0) fun s => pcs c (org c (kS s)) s.2.2 (qS s) (G X))
    = iprop(pcs c c 0 fullShare.left (G X) ∗ pcs c c 0 fullShare.right.left (G X) ∗ pcs c c 1 fullShare.left (G X) ∗ pcs c c 1 fullShare.right.left (G X)) := by
  rw [show (US.filter fun s => s.2.1 = 0) = {(true, 0, 0), (false, 0, 0), (true, 0, 1), (false, 0, 1)} from by decide +kernel,
    bigSep_insert (by decide), bigSep_insert (by decide), bigSep_insert (by decide), bigSep_singleton]
  have e : ∀ (b : Bool) (j : Fin 2), org c (kS (b, 0, j)) = c := fun b j => by
    rw [show kS (b, 0, j) = 0 from by revert b j; decide +kernel, org_zero]
  rw [e, e, e, e]
  rfl

theorem own_split (X : Dev nD → Vec F S128x4096 .fp8e4m3) : iprop(pcs c c 0 fullShare (G X) ∗ pcs c c 1 fullShare (G X))
    ⊢ iprop(own X c ∗ bigSep (US.filter fun s => s.2.1 = 0) fun s => pcs c (org c (kS s)) s.2.2 (qS s) (G X)) := by
  rw [first_four]
  unfold own
  iintro ⟨H0, H1⟩
  ihave H0 := (pcs_halve X c c 0 fullShare) $$ H0
  ihave H1 := (pcs_halve X c c 1 fullShare) $$ H1
  icases H0 with ⟨A0, H0⟩
  icases H1 with ⟨A1, H1⟩
  ihave H0 := (pcs_halve X c c 0 fullShare.right) $$ H0
  ihave H1 := (pcs_halve X c c 1 fullShare.right) $$ H1
  icases H0 with ⟨B0, H0⟩
  icases H1 with ⟨B1, H1⟩
  isplitl [H0 H1]
  · isplitl [H0]; · iexact H0
    iexact H1
  isplitl [A0]; · iexact A0
  isplitl [B0]; · iexact B0
  isplitl [A1]; · iexact A1
  iexact B1

theorem own_join (X : Dev nD → Vec F S128x4096 .fp8e4m3) : iprop(own X c ∗ bigSep (US.filter fun s => s.2.1 = 0) fun s => pcs c (org c (kS s)) s.2.2 (qS s) (G X))
    ⊢ iprop(pcs c c 0 fullShare (G X) ∗ pcs c c 1 fullShare (G X)) := by
  rw [first_four]
  unfold own
  iintro ⟨⟨H0, H1⟩, A0, B0, A1, B1⟩
  ihave H0 := (pcs_whole X c c 0 fullShare.right) $$ [B0 H0]
  · isplitl [B0]; · iexact B0
    iexact H0
  ihave H1 := (pcs_whole X c c 1 fullShare.right) $$ [B1 H1]
  · isplitl [B1]; · iexact B1
    iexact H1
  isplitl [A0 H0]
  · iapply (pcs_whole X c c 0 fullShare)
    isplitl [A0]; · iexact A0
    iexact H0
  iapply (pcs_whole X c c 1 fullShare)
  isplitl [A1]; · iexact A1
  iexact H1

theorem dn_zero (a : Act) : dn 0 a = false := decide_eq_false (by unfold done; exact List.not_mem_nil)

theorem QS_zero (X : Dev nD → Vec F S128x4096 .fp8e4m3) :
    bigSep US (QS X c 0) = bigSep (US.filter fun s => s.2.1 = 0) fun s => pcs c (org c (kS s)) s.2.2 (qS s) (G X) := by
  rw [bigSep_filter]
  refine bigSep_congr fun s _ => ?_
  unfold QS inhand
  rw [dn_zero, dn_zero]
  by_cases h : s.2.1 = 0
  · rw [if_pos h, decide_eq_true h]; rfl
  · rw [if_neg h, decide_eq_false h]; rfl

/-- The places at a neighbour, and that it is ready there. -/
theorem bar_pays : iprop(barPay c true ∗ barPay (F := F) c false)
    = iprop((bigSep US fun s => iprop(∃ f, pcs (peer s.1 c) (org c (kS s)) s.2.2 fullShare f)) ∗ bigSep US fun s => reached ER (rCell (peer s.1 c) s) 0) := by
  refine Eq.trans ?_ (bigSep_sep US _ _)
  rw [bigSep_ways]
  refine congrArg₂ (fun a b => iprop(a ∗ b)) ?_ ?_
  · unfold barPay
    refine bigSep_congr fun s hs => ?_
    have e : s.1 = true := (Finset.mem_filter.mp hs).2
    rw [← org_peer c s, e]
    rfl
  · unfold barPay
    refine bigSep_congr fun s hs => ?_
    have e : s.1 = false := (Finset.mem_filter.mp hs).2
    rw [← org_peer c s, e]
    rfl

theorem inv_of : iprop(Inv0 xs K c ∗ bigSep US (fun s => reached ER (rCell (peer s.1 c) s) 0)) ⊢ Inv (Xof xs) K c := by
  unfold Inv0 Inv
  iintro ⟨⟨#H, #HL, -⟩, #Hr⟩
  isplitr
  · iapply (show iprop(bigSep US (slotInv0 xs K c) ∗ bigSep US (fun s => reached ER (rCell (peer s.1 c) s) 0)) ⊢ bigSep US (slotInv (Xof xs) K c) from
      bigSep_merge US (fun s _ => by
        unfold slotInv0 slotInv
        iintro ⟨⟨A, B, C, D, -⟩, E⟩
        isplitl [A]; · iexact A
        isplitl [B]; · iexact B
        isplitl [C]; · iexact C
        isplitl [D]; · iexact D
        iexact E))
    isplitr; · iexact H
    iexact Hr
  iexact HL

theorem SS_zero : iprop(bigSep US (SS0 c) ∗ bigSep US fun s => iprop(∃ f, pcs (F := F) (peer s.1 c) (org c (kS s)) s.2.2 fullShare f)) ⊢ bigSep US (SS c 0) :=
  bigSep_merge US (fun s _ => by
    unfold SS
    rw [dn_zero, SSb_f]
    unfold SS0
    iintro ⟨⟨A, B, C⟩, D⟩
    isplitl [A]; · iexact A
    isplitl [B]; · iexact B
    isplitl [C]; · iexact C
    iexact D)

theorem RS_zero (X : Dev nD → Vec F S128x4096 .fp8e4m3) : bigSep US (RS0 c) = bigSep US (RS X c 0) :=
  bigSep_congr fun s _ => by unfold RS; rw [dn_zero]; rfl

/-- The wait at the barrier: the neighbours' places are then the device's to write. -/
theorem step_bar {S : Sem sig} {Q : PUnit → sProp 𝕄} (hS : S = barrier0)
    (hQ : St (Xof xs) (Wof ws) (scof sx sw) (Rest xs ws sx sw c) K c 0 ⊢ Q ⟨⟩) :
    Pre1 xs ws sx sw K c ⊢ WP c (semWaitWord S 2#32) Q := by
  subst hS
  unfold semWaitWord
  unfold St Rest at hQ
  unfold Pre1
  iintro ⟨#HI, ⟨%W, HO⟩, HSS, HRS, Hc, Ha, H0, H1, Hw, Hf, Ht, HR⟩
  ihave #HI' := (inv0_bars xs K c) $$ HI
  icases HI' with ⟨#HL, #Hib, -⟩
  iapply (Rounds.wp_wait_rest_token 𝒱₀ ER (sdl (Xof xs)) (c : Thread nD τ) none (κ := K (barCell c))
      (wpE_semWait_eq 𝒱₀ (c : Thread nD τ) none Set.univ) (Set.mem_univ _) () (O := dues c 0) (W := W) (R := 0) (m := 0) (T := ∅)
      ((Nat.zero_add _).trans (expect_bar (Xof xs) c).symm)) $$ [Hc HO Ha]
  · isplitr; · iexact Hib
    isplitl [Hc]; · iexact Hc
    isplitl [HO]; · iexact HO
    isplitr
    · iapply (mayWait c (.reg barrier0) (script.drop 0) 1 (le_of_eq rfl) (fun s _ => by omega))
      iexact HL
    iexact Ha
  iintro ⟨HO, Ha, -, Hpay⟩
  ihave Hpay := (Entails.of_eq ((rest_bar (Xof xs) c).trans (bar_pays c))) $$ Hpay
  icases Hpay with ⟨HP, #HRe⟩
  iapply (ret_of c hQ)
  isplitr
  · iapply (inv_of xs K c)
    isplitr; · iexact HI
    iexact HRe
  isplitl [HO]; · iexists _; iexact HO
  isplitl [HSS HP]
  · iapply (SS_zero c)
    isplitl [HSS]; · iexact HSS
    iexact HP
  ihave Hown := (own_split c (Xof xs)) $$ [H0 H1]
  · isplitl [H0]; · iexact H0
    iexact H1
  icases Hown with ⟨Hown, HQ⟩
  isplitl [HQ]
  · iapply (Entails.of_eq (QS_zero c (Xof xs)).symm) $$ HQ
  isplitl [HRS]
  · iapply (Entails.of_eq (RS_zero c (Xof xs))) $$ HRS
  isplitl [Hown]; · iexact Hown
  isplitl [Hf]
  · icases Hf with ⟨%f, Hf⟩
    iexists f
    isplitl [Hf]; · iexact Hf
    ipureintro
    intro k hk
    rw [dn_zero] at hk
    exact absurd hk (by decide)
  isplitl [Hw]; · iexact Hw
  isplitl [Ht]; · iexact Ht
  isplitl [HR]; · iexact HR
  iexact Ha

end Cert.KernelIdeal.Ag
end
-- ==== Proof.Body.lean ====
module

public import proofs.«01_k».proof.Proof.Prelude

@[expose] public section

set_option maxRecDepth 16384

/-!
  The whole body of the kernel on one device.
-/

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The words and offsets the program computes -/

variable (c : Dev nD)

theorem off_w1 {f : BitVec 32 → Fin 2 → ℕ} {k k' : Fin 32} {m : ℕ} (h : ∀ d : Dev nD, f (Dev.word d) = ![128 * d.val + m, 0]) (hk : k = k') :
    f (Dev.word (org c k)) = ![128 * (org c k').val + m, 0] := by rw [h, hk]
theorem off_w2 {f : BitVec 32 → BitVec 32 → Fin 2 → ℕ} {a : BitVec 32} {k k' : Fin 32} {m : ℕ} (h : ∀ d : Dev nD, f (Dev.word d) a = ![128 * d.val + m, 0]) (hk : k = k') :
    f (Dev.word (org c k)) a = ![128 * (org c k').val + m, 0] := by rw [h, hk]
theorem off_d2 {f : Dev nD → BitVec 32 → Fin 2 → ℕ} {a : BitVec 32} {k : Fin 32} {m : ℕ} (h : ∀ d : Dev nD, f d a = ![128 * d.val + m, 0]) (hk : k = 0) :
    f c a = ![128 * (org c k).val + m, 0] := by rw [h, hk, org_zero]
theorem row_w {f : BitVec 32 → Fin 2 → ℕ} {k : Fin 32} (h : ∀ d : Dev nD, f (Dev.word d) = ![128 * d.val, 0]) :
    f (Dev.word (org c k)) = ![128 * (org c k).val, 0] := h _
theorem row_d {f : Dev nD → Fin 2 → ℕ} (h : ∀ d : Dev nD, f d = ![128 * d.val, 0]) :
    f c = ![128 * (org c 0).val, 0] := by rw [h, org_zero]
theorem tab_w {f : BitVec 32 → Fin 1 → ℕ} (h : ∀ p : Fin 32, f (BitVec.ofNat 32 p.val) = ![(p - kOf f).val]) :
    f (BitVec.ofNat 32 (pos c).val) = ![(pos c - kOf f).val] := h _
theorem dev_n {f : BitVec 32 → ℕ} {s : Slot} (h : ∀ d : Dev nD, f (Dev.word d) = d.val) (hs : s.1 = true) :
    f (Dev.word (nxt c)) = (peer s.1 c).val := by rw [h, hs]; rfl
theorem dev_p {f : BitVec 32 → ℕ} {s : Slot} (h : ∀ d : Dev nD, f (Dev.word d) = d.val) (hs : s.1 = false) :
    f (Dev.word (prv c)) = (peer s.1 c).val := by rw [h, hs]; rfl
theorem chk_w {p : BitVec 32 → Prop} {d : Dev nD} (h : ∀ d : Dev nD, p (Dev.word d)) : p (Dev.word d) := h d

variable (xs : Dev nD → (cc0_stg0_0 : Ref sig .tc).ty.Contents (Elt F)) (ws : Dev nD → (cc0_stg1_0 : Ref sig .tc).ty.Contents (Elt F))
variable (sx : Dev nD → (cc0_stg2_0 : Ref sig .tc).ty.Contents (Elt F)) (sw : Dev nD → (cc0_stg3_0 : Ref sig .tc).ty.Contents (Elt F))
variable (K : GSem nD τ sig → ℕ)

seal wp

set_option maxHeartbeats 0 in
/-- The first sixty pieces of the body. -/
theorem first_run {h0 h1 h2 h3 h4 h5 h6 h7 h8} {Q : _ → sProp 𝕄}
    (hQ : ∀ w1 w2 w3 w4 w5 w6, St (Xof xs) (Wof ws) (scof sx sw) (Rest xs ws sx sw c) K c 174 ⊢
      Q ⟨BitVec.ofNat 32 (pos c).val, w1, Dev.word (nxt c), w2, Dev.word (prv c), w3, Gen.k0_pay3 (sx c ix1) (sw c ix1),
        Dev.word (org c (kOf k0_off118)), w4, Dev.word (org c (kOf k0_off121)), w5, Dev.word (org c (kOf k0_off128)), w6⟩) :
    Pre0 xs ws sx sw K c ⊢ WP c (k0_part75 (Memref.whole cc0_stg0_0) h0 (Memref.whole cc0_stg1_0) h1 (Memref.whole cc0_stg2_0) h2 (Memref.whole cc0_stg3_0) h3
      (Memref.whole cc0_stg4_0) h4 (Memref.whole cc0_stg5_0) h5 (Memref.whole cc0_stg6_0) h6 (Memref.whole cc0_scratch0) h7 (Memref.whole cc0_scratch1) h8
      cc0_scratch2 cc0_scratch3 cc0_scratch4 cc0_scratch5 cc0_scratch6) Q := by
  rw [Gen.k0_part75_eq_skeleton]
  unfold Gen.k0_part75_skel
  simp only [Gen.k0_part2_eq_skeleton, Gen.k0_part3_eq_skeleton, Gen.k0_part4_eq_skeleton, Gen.k0_part5_eq_skeleton, Gen.k0_part6_eq_skeleton,
    Gen.k0_part7_eq_skeleton, Gen.k0_part8_eq_skeleton, Gen.k0_part9_eq_skeleton, Gen.k0_part10_eq_skeleton, Gen.k0_part11_eq_skeleton,
    Gen.k0_part12_eq_skeleton, Gen.k0_part13_eq_skeleton, Gen.k0_part14_eq_skeleton, Gen.k0_part15_eq_skeleton, Gen.k0_part16_eq_skeleton,
    Gen.k0_part17_eq_skeleton, Gen.k0_part18_eq_skeleton, Gen.k0_part19_eq_skeleton, Gen.k0_part20_eq_skeleton, Gen.k0_part21_eq_skeleton,
    Gen.k0_part22_eq_skeleton, Gen.k0_part23_eq_skeleton, Gen.k0_part24_eq_skeleton, Gen.k0_part25_eq_skeleton, Gen.k0_part26_eq_skeleton,
    Gen.k0_part27_eq_skeleton, Gen.k0_part28_eq_skeleton, Gen.k0_part29_eq_skeleton, Gen.k0_part30_eq_skeleton, Gen.k0_part31_eq_skeleton,
    Gen.k0_part32_eq_skeleton, Gen.k0_part33_eq_skeleton, Gen.k0_part34_eq_skeleton, Gen.k0_part35_eq_skeleton, Gen.k0_part36_eq_skeleton,
    Gen.k0_part37_eq_skeleton, Gen.k0_part38_eq_skeleton, Gen.k0_part39_eq_skeleton, Gen.k0_part40_eq_skeleton, Gen.k0_part41_eq_skeleton,
    Gen.k0_part42_eq_skeleton, Gen.k0_part43_eq_skeleton, Gen.k0_part44_eq_skeleton, Gen.k0_part45_eq_skeleton, Gen.k0_part46_eq_skeleton,
    Gen.k0_part47_eq_skeleton, Gen.k0_part48_eq_skeleton, Gen.k0_part49_eq_skeleton, Gen.k0_part50_eq_skeleton, Gen.k0_part51_eq_skeleton,
    Gen.k0_part52_eq_skeleton, Gen.k0_part53_eq_skeleton, Gen.k0_part54_eq_skeleton, Gen.k0_part55_eq_skeleton, Gen.k0_part56_eq_skeleton,
    Gen.k0_part57_eq_skeleton, Gen.k0_part58_eq_skeleton, Gen.k0_part59_eq_skeleton, Gen.k0_part60_eq_skeleton]
  refine wp_seq c (step_part1 xs ws sx sw K c fun v2 hw1 hw3 hw2 => ?_)
  refine wp_seq c ?_
  dsimp only
  refine wp_seq c (step_bar xs ws sx sw K c rfl ?_)
  refine wp_seq c (step_sx xs ws sx sw K c ?_)
  refine wp_seq c (step_sw xs ws sx sw K c ?_)
  repeat (first
    | refine wp_seq (F := F) c ?_
    | (refine wp_done (F := F) c ?_; try dsimp only)
    | refine step_table (F := F) _ _ _ _ K c _ (tab_w c (by decide +kernel)) ?_
    | refine step_assume (F := F) c (chk_w (by decide +kernel)) ?_
    | refine step_cols (F := F) _ _ _ _ K c ?_
    | refine step_old (F := F) _ _ _ _ K c fun _ => ?_
    | refine step_rows (F := F) _ _ _ _ K c _ (by decide +kernel) (row_w c (by decide +kernel)) ?_
    | refine step_rows (F := F) _ _ _ _ K c _ (by decide +kernel) (row_d c (by decide +kernel)) ?_
    | refine step_store (F := F) _ _ _ _ K c _ (by decide +kernel) (row_w c (by decide +kernel)) rfl ?_
    | refine step_store (F := F) _ _ _ _ K c _ (by decide +kernel) (row_d c (by decide +kernel)) rfl ?_
    | refine step_recv (F := F) _ _ _ _ K c rfl (by decide +kernel) (by decide +kernel) ?_
    | refine step_swait (F := F) _ _ _ _ K c rfl (by decide +kernel) (by decide +kernel) ?_
    | refine step_send (F := F) _ _ _ _ K c rfl (by decide +kernel) (by decide +kernel) (by decide +kernel) (dev_n c (by decide +kernel) (by decide +kernel))
        (off_d2 c (by decide +kernel) (by decide +kernel)) (off_d2 c (by decide +kernel) (by decide +kernel)) ?_
    | refine step_send (F := F) _ _ _ _ K c rfl (by decide +kernel) (by decide +kernel) (by decide +kernel) (dev_p c (by decide +kernel) (by decide +kernel))
        (off_d2 c (by decide +kernel) (by decide +kernel)) (off_d2 c (by decide +kernel) (by decide +kernel)) ?_
    | refine step_send (F := F) _ _ _ _ K c rfl (by decide +kernel) (by decide +kernel) (by decide +kernel) (dev_n c (by decide +kernel) (by decide +kernel))
        (off_w2 c (by decide +kernel) (by decide +kernel)) (off_w2 c (by decide +kernel) (by decide +kernel)) ?_
    | refine step_send (F := F) _ _ _ _ K c rfl (by decide +kernel) (by decide +kernel) (by decide +kernel) (dev_p c (by decide +kernel) (by decide +kernel))
        (off_w2 c (by decide +kernel) (by decide +kernel)) (off_w2 c (by decide +kernel) (by decide +kernel)) ?_
    | refine step_send (F := F) _ _ _ _ K c rfl (by decide +kernel) (by decide +kernel) (by decide +kernel) (dev_n c (by decide +kernel) (by decide +kernel))
        (off_w1 c (by decide +kernel) (by decide +kernel)) (off_w1 c (by decide +kernel) (by decide +kernel)) ?_
    | refine step_send (F := F) _ _ _ _ K c rfl (by decide +kernel) (by decide +kernel) (by decide +kernel) (dev_p c (by decide +kernel) (by decide +kernel))
        (off_w1 c (by decide +kernel) (by decide +kernel)) (off_w1 c (by decide +kernel) (by decide +kernel)) ?_)
  exact hQ _ _ _ _ _ _

set_option maxHeartbeats 0 in
/-- The body, on what its windows hold, leaves the result of every block in the result window. -/
theorem body_run {h0 h1 h2 h3 h4 h5 h6 h7 h8} {Q : PUnit → sProp 𝕄}
    (hQ : St (Xof xs) (Wof ws) (scof sx sw) (Rest xs ws sx sw c) K c script.length ⊢ Q ⟨⟩) :
    Pre0 xs ws sx sw K c ⊢ WP c (cc0_body (Memref.whole cc0_stg0_0) h0 (Memref.whole cc0_stg1_0) h1 (Memref.whole cc0_stg2_0) h2 (Memref.whole cc0_stg3_0) h3
      (Memref.whole cc0_stg4_0) h4 (Memref.whole cc0_stg5_0) h5 (Memref.whole cc0_stg6_0) h6 (Memref.whole cc0_scratch0) h7 (Memref.whole cc0_scratch1) h8
      cc0_scratch2 cc0_scratch3 cc0_scratch4 cc0_scratch5 cc0_scratch6) Q := by
  have e : script.length = 218 := by decide +kernel
  rw [e] at hQ
  rw [Gen.cc0_body_eq_skeleton]
  unfold Gen.cc0_body_skel
  simp only [Gen.k0_part61_eq_skeleton, Gen.k0_part62_eq_skeleton, Gen.k0_part63_eq_skeleton, Gen.k0_part64_eq_skeleton, Gen.k0_part65_eq_skeleton,
    Gen.k0_part66_eq_skeleton, Gen.k0_part67_eq_skeleton, Gen.k0_part68_eq_skeleton, Gen.k0_part69_eq_skeleton, Gen.k0_part70_eq_skeleton,
    Gen.k0_part71_eq_skeleton, Gen.k0_part72_eq_skeleton, Gen.k0_part73_eq_skeleton, Gen.k0_part74_eq_skeleton]
  refine wp_seq c (first_run c xs ws sx sw K fun w1 w2 w3 w4 w5 w6 => ?_)
  dsimp only
  repeat (first
    | refine wp_seq (F := F) c ?_
    | (refine wp_done (F := F) c ?_; try dsimp only)
    | refine step_table (F := F) _ _ _ _ K c _ (tab_w c (by decide +kernel)) ?_
    | refine step_assume (F := F) c (chk_w (by decide +kernel)) ?_
    | refine step_cols (F := F) _ _ _ _ K c ?_
    | refine step_old (F := F) _ _ _ _ K c fun _ => ?_
    | refine step_rows (F := F) _ _ _ _ K c _ (by decide +kernel) (row_w c (by decide +kernel)) ?_
    | refine step_rows (F := F) _ _ _ _ K c _ (by decide +kernel) (row_d c (by decide +kernel)) ?_
    | refine step_store (F := F) _ _ _ _ K c _ (by decide +kernel) (row_w c (by decide +kernel)) rfl ?_
    | refine step_store (F := F) _ _ _ _ K c _ (by decide +kernel) (row_d c (by decide +kernel)) rfl ?_
    | refine step_recv (F := F) _ _ _ _ K c rfl (by decide +kernel) (by decide +kernel) ?_
    | refine step_swait (F := F) _ _ _ _ K c rfl (by decide +kernel) (by decide +kernel) ?_
    | refine step_send (F := F) _ _ _ _ K c rfl (by decide +kernel) (by decide +kernel) (by decide +kernel) (dev_n c (by decide +kernel) (by decide +kernel))
        (off_d2 c (by decide +kernel) (by decide +kernel)) (off_d2 c (by decide +kernel) (by decide +kernel)) ?_
    | refine step_send (F := F) _ _ _ _ K c rfl (by decide +kernel) (by decide +kernel) (by decide +kernel) (dev_p c (by decide +kernel) (by decide +kernel))
        (off_d2 c (by decide +kernel) (by decide +kernel)) (off_d2 c (by decide +kernel) (by decide +kernel)) ?_
    | refine step_send (F := F) _ _ _ _ K c rfl (by decide +kernel) (by decide +kernel) (by decide +kernel) (dev_n c (by decide +kernel) (by decide +kernel))
        (off_w2 c (by decide +kernel) (by decide +kernel)) (off_w2 c (by decide +kernel) (by decide +kernel)) ?_
    | refine step_send (F := F) _ _ _ _ K c rfl (by decide +kernel) (by decide +kernel) (by decide +kernel) (dev_p c (by decide +kernel) (by decide +kernel))
        (off_w2 c (by decide +kernel) (by decide +kernel)) (off_w2 c (by decide +kernel) (by decide +kernel)) ?_
    | refine step_send (F := F) _ _ _ _ K c rfl (by decide +kernel) (by decide +kernel) (by decide +kernel) (dev_n c (by decide +kernel) (by decide +kernel))
        (off_w1 c (by decide +kernel) (by decide +kernel)) (off_w1 c (by decide +kernel) (by decide +kernel)) ?_
    | refine step_send (F := F) _ _ _ _ K c rfl (by decide +kernel) (by decide +kernel) (by decide +kernel) (dev_p c (by decide +kernel) (by decide +kernel))
        (off_w1 c (by decide +kernel) (by decide +kernel)) (off_w1 c (by decide +kernel) (by decide +kernel)) ?_)
  exact hQ

end Cert.KernelIdeal.Ag
end
-- ==== Proof.Finish.lean ====
module

public import proofs.«01_k».proof.Proof.Body
public import Idealize.SL.ProofMode.BigOp

@[expose] public section

set_option maxRecDepth 16384

/-!
  The end of the body: the gathered array is put together again, the result is read off, and the cells are closed.
-/

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (X : Dev nD → Vec F S128x4096 .fp8e4m3)

/-! ## The gathered array again -/

theorem dn_send (s : Slot) (hs : s ∈ US) : dn script.length (.send s) = true := decide_eq_true (all_done.1 s hs).1
theorem dn_swait (s : Slot) (hs : s ∈ US) : dn script.length (.swait s) = true := decide_eq_true (all_done.1 s hs).2.1
theorem dn_recv (s : Slot) (hs : s ∈ US) : dn script.length (.recv s) = true := decide_eq_true (all_done.1 s hs).2.2
theorem dn_comp (k : Fin 32) : dn script.length (.comp k) = true := decide_eq_true (all_done.2 k)

theorem prev_used : ∀ s ∈ US, s.2.1 ≠ 0 → prevSlot s ∈ US := by decide +kernel
theorem later_eq : (US.filter fun s => ¬ s.2.1 = 0) = (US.filter fun s => passes s = true).image nextSlot := by decide +kernel
theorem next_inj : ∀ a ∈ US.filter (fun s => passes s = true), ∀ b ∈ US.filter (fun s => passes s = true), nextSlot a = nextSlot b → a = b :=
  fun a _ b _ h => by rw [← prev_next a, ← prev_next b, h]

theorem SS_end (s : Slot) (hs : s ∈ US) : SS (F := F) c script.length s = atPos ER (sCell c s) 1 ∅ 0 := by
  unfold SS; rw [dn_send s hs, dn_swait s hs]; rfl
theorem inhand_end (s : Slot) (hs : s ∈ US) : inhand script.length s = true := by
  unfold inhand
  rw [dn_send s hs, dn_swait s hs]
  by_cases h : s.2.1 = 0
  · rw [decide_eq_true h]; rfl
  · rw [decide_eq_false h, dn_recv _ (prev_used s hs h)]; rfl
theorem QS_end (s : Slot) (hs : s ∈ US) : QS X c script.length s = pcs c (org c (kS s)) s.2.2 (qS s) (G X) := by
  unfold QS; rw [inhand_end s hs]; rfl
theorem RS_end (s : Slot) (hs : s ∈ US) : RS X c script.length s
    = iprop(atPos ER (rCell c s) 1 ∅ 0 ∗ pcs c (org c (kR s)) s.2.2 fullShare.right (G X)
      ∗ (if passes s = true then iprop(emp) else pcs c (org c (kR s)) s.2.2 fullShare.left (G X))) := by
  unfold RS; rw [dn_recv s hs]; rfl

/-- A family of pairs is a pair of families. -/
theorem bigSep_part {I : Type} (S : Finset I) {Φ Ψ : I → sProp 𝕄} : (bigSep S fun s => iprop(Φ s ∗ Ψ s)) ⊢ iprop(bigSep S Φ ∗ bigSep S Ψ) :=
  Entails.of_eq (bigSep_sep S Φ Ψ)

/-- What was lent to the transfers, by where it came from: the device's own block, and what was passed on. -/
theorem QS_split : bigSep US (QS X c script.length)
    = iprop((bigSep (US.filter fun s => s.2.1 = 0) fun s => pcs c (org c (kS s)) s.2.2 (qS s) (G X))
      ∗ bigSep US fun s => if passes s = true then pcs c (org c (kR s)) s.2.2 fullShare.left (G X) else iprop(emp)) := by
  have e2 : (bigSep (US.filter fun s => ¬ s.2.1 = 0) fun s => pcs c (org c (kS s)) s.2.2 (qS s) (G X))
      = bigSep US fun s => if passes s = true then pcs c (org c (kR s)) s.2.2 fullShare.left (G X) else iprop(emp) := by
    rw [later_eq, bigSep_image _ _ _ next_inj]
    refine Eq.trans (bigSep_congr fun s hs => ?_) (bigSep_filter US (fun s => passes s = true) fun s => pcs c (org c (kR s)) s.2.2 fullShare.left (G X))
    obtain ⟨-, h0, hk, hj⟩ := next_used s (Finset.mem_filter.mp hs).2
    unfold qS
    rw [if_neg h0, hk, hj]
  rw [bigSep_congr (QS_end c X), bigSep_filter_split US (fun s => s.2.1 = 0), e2]
  rfl

/-- One place where a transfer landed is whole again. -/
theorem place_whole (s : Slot) (hs : s ∈ US) :
    iprop((if passes s = true then pcs c (org c (kR s)) s.2.2 fullShare.left (G X) else iprop(emp)) ∗ RS X c script.length s)
      ⊢ iprop(pcs c (org c (kR s)) s.2.2 fullShare (G X) ∗ atPos ER (rCell c s) 1 ∅ 0) := by
  rw [RS_end c X s hs]
  by_cases h : passes s = true
  · rw [if_pos h, if_pos h]
    iintro ⟨HL, HA, HR, -⟩
    isplitr [HA]
    · iapply (pcs_whole X c (org c (kR s)) s.2.2 fullShare)
      isplitl [HL]; · iexact HL
      iexact HR
    iexact HA
  · rw [if_neg h, if_neg h]
    iintro ⟨-, HA, HR, HL⟩
    isplitr [HA]
    · iapply (pcs_whole X c (org c (kR s)) s.2.2 fullShare)
      isplitl [HL]; · iexact HL
      iexact HR
    iexact HA

theorem regather : iprop(bigSep US (QS X c script.length) ∗ bigSep US (RS X c script.length) ∗ own X c)
    ⊢ iprop((((c : Thread nD τ).loc cc0_scratch0) ↦{fullShare} (G X)) ∗ bigSep US fun s => atPos ER (rCell c s) 1 ∅ 0) := by
  rw [QS_split, whole_pieces]
  iintro ⟨⟨H4, HL⟩, HR, HO⟩
  ihave HO := (own_join c X) $$ [HO H4]
  · isplitl [HO]; · iexact HO
    iexact H4
  ihave H := (bigSep_merge US (place_whole c X)) $$ [HL HR]
  · isplitl [HL]; · iexact HL
    iexact HR
  ihave H := (bigSep_part US) $$ H
  icases H with ⟨HP, HA⟩
  isplitr [HA]
  · isplitl [HO]; · iexact HO
    iexact HP
  iexact HA

/-- With every block computed the result buffer holds the whole result. -/
theorem out_end (Wt : Dev nD → Vec F S4096x64 .fp8e4m3) (sc : Dev nD → F .f32) (f : (cc0_stg6_0 : Ref sig .tc).ty.Contents (Elt F))
    (h : OutOk X Wt sc c script.length f) : f = Y X Wt sc c := by
  funext i
  have hi : ((i : S4096x64.Idx) 0).val < 4096 := (i 0).isLt
  obtain ⟨k, hk⟩ : ∃ k, org c k = ⟨((i : S4096x64.Idx) 0).val / 128, by show _ < 32; omega⟩ :=
    (by decide +kernel : ∀ c o : Dev nD, ∃ k, org c k = o) c _
  exact h k (dn_comp k) i (by rw [hk])

/-! ## The cells are closed -/

theorem close_s (K : GSem nD τ sig → ℕ) (s : Slot) : iprop((slotInv X K c s) ∗ (atPos ER (sCell c s) 1 ∅ 0 ∗ atPos ER (rCell c s) 1 ∅ 0))
    ⊢ (iprop(|={Set.univ}=> (semVal (sCell c s) 0 ∗ semVal (rCell c s) 0)) : sProp 𝕄) := by
  unfold slotInv
  iintro ⟨⟨#H1, #H2, -⟩, HS, HR⟩
  imod (Rounds.cell_close ER (sdl X) (g := sCell c s) (κ := K (sCell c s)) (Set.mem_univ _) id (duties_later X (sCell c s))) $$ [HS] with HS
  · isplitr; · iexact H1
    iexact HS
  imod (Rounds.cell_close ER (sdl X) (g := rCell c s) (κ := K (rCell c s)) (Set.mem_univ _) id (duties_later X (rCell c s))) $$ [HR] with HR
  · isplitr; · iexact H2
    iexact HR
  imodintro
  isplitl [HS] <;> iassumption

theorem close_slots (K : GSem nD τ sig → ℕ) :
    iprop(bigSep US (slotInv X K c) ∗ bigSep US (fun s => iprop(atPos ER (sCell c s) 1 ∅ 0 ∗ atPos ER (rCell c s) 1 ∅ 0)))
    ⊢ (iprop(|={Set.univ}=> bigSep US fun s => iprop(semVal (sCell c s) 0 ∗ semVal (rCell c s) 0)) : sProp 𝕄) :=
  (bigSep_merge US fun s _ => close_s c X K s).trans (bigSep_fupd US _)

variable (xs : Dev nD → (cc0_stg0_0 : Ref sig .tc).ty.Contents (Elt F)) (ws : Dev nD → (cc0_stg1_0 : Ref sig .tc).ty.Contents (Elt F))
variable (sx : Dev nD → (cc0_stg2_0 : Ref sig .tc).ty.Contents (Elt F)) (sw : Dev nD → (cc0_stg3_0 : Ref sig .tc).ty.Contents (Elt F))
variable (K : GSem nD τ sig → ℕ)

/-- What the body leaves. -/
def Post : sProp 𝕄 :=
  iprop((∃ W, owes (c : Thread nD τ) (0 : CellTallies nD τ sig Unit) W) ∗ readOnly xs ws sx sw c
    ∗ (((c : Thread nD τ).loc cc0_stg4_0) ↦{fullShare} (cycT (F := F)))
    ∗ (((c : Thread nD τ).loc cc0_stg6_0) ↦{fullShare} (Y (Xof xs) (Wof ws) (scof sx sw) c))
    ∗ (∃ f, ((c : Thread nD τ).loc cc0_scratch0) ↦{fullShare} f) ∗ (∃ f, ((c : Thread nD τ).loc cc0_scratch1) ↦{fullShare} f)
    ∗ semVal (barCell c) 0 ∗ bigSep US fun s => iprop(semVal (sCell c s) 0 ∗ semVal (rCell c s) 0))

theorem finish : iprop(Inv0 xs K c ∗ St (Xof xs) (Wof ws) (scof sx sw) (Rest xs ws sx sw c) K c script.length)
    ⊢ iprop(|={Set.univ}=> Post c xs ws sx sw) := by
  unfold St Rest
  iintro ⟨#HI0, #HI, HO, HSS, HQS, HRS, Hown, ⟨%f, Hf, %hf⟩, Hw, Ht, Hro, Hb⟩
  ihave HB := (inv0_bars xs K c) $$ HI0
  icases HB with ⟨-, #HB, -⟩
  unfold Inv
  icases HI with ⟨#HI, -⟩
  obtain rfl := out_end c (Xof xs) (Wof ws) (scof sx sw) f hf
  ihave HG := (regather c (Xof xs)) $$ [HQS HRS Hown]
  · isplitl [HQS]; · iexact HQS
    isplitl [HRS]; · iexact HRS
    iexact Hown
  icases HG with ⟨HG, HR⟩
  ihave HSS := (Entails.of_eq (bigSep_congr (SS_end (F := F) c))) $$ HSS
  ihave HC := (bigSep_merge US fun s _ => Entails.refl iprop(atPos ER (sCell c s) 1 ∅ 0 ∗ atPos ER (rCell c s) 1 ∅ 0)) $$ [HSS HR]
  · isplitl [HSS]; · iexact HSS
    iexact HR
  imod (close_slots c (Xof xs) K) $$ [HC] with HC
  · isplitr; · iexact HI
    iexact HC
  imod (Rounds.cell_close ER (sdl (Xof xs)) (g := barCell c) (κ := K (barCell c)) (Set.mem_univ _) id (duties_later (Xof xs) (barCell c))) $$ [Hb] with Hb
  · isplitr; · iexact HB
    iexact Hb
  imodintro
  unfold Post
  isplitl [HO]; · iexact HO
  isplitl [Hro]; · iexact Hro
  isplitl [Ht]; · iexact Ht
  isplitl [Hf]; · iexact Hf
  isplitl [HG]; · iexists _; iexact HG
  isplitl [Hw]; · iexists _; iexact Hw
  isplitl [Hb]; · iexact Hb
  iexact HC

/-- What is beside a run is there at its end, where an update may follow. -/
theorem wp_end {α : Type} {p : Prog (TpuEff nD τ sig (Elt F) Λ₀ .tc) α} {I : sProp 𝕄} {Q Q' : α → sProp 𝕄}
    (h : ∀ a, iprop(I ∗ Q a) ⊢ iprop(|={Set.univ}=> Q' a)) : iprop(I ∗ WP c p Q) ⊢ WP c p Q' := by
  generalize p = p
  exact (wp_frame_l _ _ _).trans ((wp_mono _ _ _ h).trans (wp_fupd _ _ _ _ _))

/-- The body, from what it starts with to what it leaves. -/
theorem body_all {h0 h1 h2 h3 h4 h5 h6 h7 h8} :
    Pre0 xs ws sx sw K c ⊢ WP c (cc0_body (Memref.whole cc0_stg0_0) h0 (Memref.whole cc0_stg1_0) h1 (Memref.whole cc0_stg2_0) h2 (Memref.whole cc0_stg3_0) h3
      (Memref.whole cc0_stg4_0) h4 (Memref.whole cc0_stg5_0) h5 (Memref.whole cc0_stg6_0) h6 (Memref.whole cc0_scratch0) h7 (Memref.whole cc0_scratch1) h8
      cc0_scratch2 cc0_scratch3 cc0_scratch4 cc0_scratch5 cc0_scratch6) fun _ => Post c xs ws sx sw := by
  have hp : Pre0 xs ws sx sw K c ⊢ iprop(Inv0 xs K c ∗ Pre0 xs ws sx sw K c) := by
    unfold Pre0
    iintro ⟨#HI, H⟩
    isplitr; · iexact HI
    isplitr; · iexact HI
    iexact H
  have hb := sep_mono_right (P := Inv0 xs K c) (body_run c xs ws sx sw K (h0 := h0) (h1 := h1) (h2 := h2) (h3 := h3) (h4 := h4) (h5 := h5) (h6 := h6) (h7 := h7) (h8 := h8)
    (Q := fun _ => St (Xof xs) (Wof ws) (scof sx sw) (Rest xs ws sx sw c) K c script.length) (Entails.refl _))
  exact hp.trans (hb.trans (wp_end c (fun _ => finish c xs ws sx sw K)))

end Cert.KernelIdeal.Ag
end
end
-- ==== Proof.Region.lean ====
module

public import proofs.«01_k».proof.Proof.Finish
public import proofs.«01_k».proof.Proof.Gen.KernelIdeal.Frame

@[expose] public section

set_option maxRecDepth 16384

/-!
  The kernel's one region: what its windows hold, and its body between what the launch hands it and what it leaves.
-/

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat Cfg Window BodyObligation cellOf)
open Cert.KernelIdeal.Gen (iblk V t0_0)

variable (m : (ℓ : Loc nD τ sig) → Buf (Elt F) ℓ)

/-! ## What the windows hold -/

/-- The arguments on each device. -/
def xsOf (c : Dev nD) : (cc0_stg0_0 : Ref sig .tc).ty.Contents (Elt F) := V m c main_arg0
def wsOf (c : Dev nD) : (cc0_stg1_0 : Ref sig .tc).ty.Contents (Elt F) := V m c main_arg1
def sxOf (c : Dev nD) : (cc0_stg2_0 : Ref sig .tc).ty.Contents (Elt F) := V m c main_arg2
def swOf (c : Dev nD) : (cc0_stg3_0 : Ref sig .tc).ty.Contents (Elt F) := V m c main_arg3

/-- The result on each device. -/
def Yof (c : Dev nD) : (cc0_stg6_0 : Ref sig .tc).ty.Contents (Elt F) := Y (Xof (xsOf m)) (Wof (wsOf m)) (scof (sxOf m) (swOf m)) c

theorem V_tab (c : Dev nD) : V m c main_c = (fun i => lit0 (S32.rowMajor i)) := by
  show StableHlo.after Gen.hostOps0 (fun b => m (c, b)) (Proc.devRef .tc main_c) = _
  rw [StableHlo.after_cons, StableHlo.after_cons, StableHlo.after_nil]
  exact (StableHlo.nullary_result_ne (y := main_c_0) (r := main_c) _ _ _ (by decide)).trans (StableHlo.nullary_result _ _ _ _)

theorem V_pos (c : Dev nD) : V m c main_c_0 = (fun i => lit1 (S32.rowMajor i)) := by
  show StableHlo.after Gen.hostOps0 (fun b => m (c, b)) (Proc.devRef .tc main_c_0) = _
  rw [StableHlo.after_cons, StableHlo.after_cons, StableHlo.after_nil]
  exact StableHlo.nullary_result _ _ _ _

/-- A window that is the whole array reads the array. -/
theorem at_whole {s : Shape} {α : Type} (f : s.Idx → α) {y x : s.Idx} (h : ∀ a, (y a).val = 0 * s.size a + 1 * (x a).val) : f y = f x :=
  congrArg f (funext fun a => Fin.ext ((h a).trans (by omega)))

theorem iblk_0 (c : Dev nD) (t) : iblk m c 0 t = xsOf m c := funext fun x => at_whole (s := S128x4096) (xsOf m c) (x := x) fun _ => rfl
theorem iblk_1 (c : Dev nD) (t) : iblk m c 1 t = wsOf m c := funext fun x => at_whole (s := S4096x64) (wsOf m c) (x := x) fun _ => rfl
theorem iblk_2 (c : Dev nD) (t) : iblk m c 2 t = sxOf m c := funext fun x => at_whole (s := S1) (sxOf m c) (x := x) fun _ => rfl
theorem iblk_3 (c : Dev nD) (t) : iblk m c 3 t = swOf m c := funext fun x => at_whole (s := S1) (swOf m c) (x := x) fun _ => rfl
theorem iblk_4 (c : Dev nD) (t) : iblk m c 4 t = cycT (F := F) :=
  funext fun x => (at_whole (s := S32) (V m c main_c) (x := x) fun _ => rfl).trans (congrFun (V_tab m c) x)
theorem iblk_5 (c : Dev nD) (t) : iblk m c 5 t = posT (F := F) :=
  funext fun x => (at_whole (s := S32) (V m c main_c_0) (x := x) fun _ => rfl).trans (congrFun (V_pos m c) x)

/-! ## The semaphores of the region -/

/-- The kernel's own semaphores. -/
abbrev osem : Fin 129 → SemLoc sig := fun k => .dma ⟨7 + k.val, by have := k.isLt; show _ < 136; omega⟩

def place (r : Bool) (s : Slot) : Fin 129 := ⟨(semIx r s).val - 7, by have h : (semIx r s).val < 136 := (semIx r s).isLt; omega⟩
theorem osem_place (r : Bool) (s : Slot) : osem (place r s) = .dma (semIx r s) := by
  unfold osem place
  congr 1
  apply Fin.ext
  have : 7 ≤ (semIx r s).val := by unfold semIx; dsimp only; omega
  show 7 + ((semIx r s).val - 7) = (semIx r s).val
  omega
theorem place_inj : ∀ p p' : Bool × Slot, place p.1 p.2 = place p'.1 p'.2 → p = p' := by
  intro p p' h
  have h' := congrArg osem h
  rw [osem_place, osem_place] at h'
  have h'' := congrArg slotOf (SemLoc.dma.inj h')
  rw [slotOf_semIx, slotOf_semIx] at h''
  exact Option.some.inj h''

/-- The places of the transfers' semaphores. -/
def inUse : Finset (Fin 129) := (US.image fun s => place false s) ∪ US.image fun s => place true s

theorem use_disj : Disjoint (US.image fun s => place false s) (US.image fun s => place true s) := by
  rw [Finset.disjoint_left]
  intro k h h'
  obtain ⟨s, -, e⟩ := Finset.mem_image.mp h
  obtain ⟨s', -, e'⟩ := Finset.mem_image.mp h'
  exact Bool.false_ne_true (congrArg Prod.fst (place_inj (false, s) (true, s') (e.trans e'.symm)))

/-- The counters of the semaphores that no transfer uses. -/
def spare (c : Dev nD) : sProp 𝕄 := bigSep (Finset.univ \ inUse) fun k => semVal ((c : Thread nD τ), osem k) 0

theorem ownSems_eq (c : Dev nD) : (Pipeline.ownSems0 osem c : sProp 𝕄)
    = iprop((bigSep US (fun s => semVal (sCell c s) 0) ∗ bigSep US (fun s => semVal (rCell c s) 0)) ∗ spare c) := by
  have e (r : Bool) : (bigSep (US.image fun s => place r s) fun k => (semVal ((c : Thread nD τ), osem k) 0 : sProp 𝕄))
      = bigSep US fun s => semVal ((c : Thread nD τ), .dma (semIx r s)) 0 := by
    rw [bigSep_image US (place r) _ fun a _ b _ h => congrArg Prod.snd (place_inj (r, a) (r, b) h)]
    exact bigSep_congr fun s _ => by rw [osem_place]
  unfold Pipeline.ownSems0
  rw [bigSep_sdiff_split (Finset.subset_univ inUse)]
  unfold inUse
  rw [bigSep_union use_disj, e false, e true]
  rfl

/-! ## What enters and leaves the body -/

/-- The protocol's part of what the body starts with. -/
def Talk (K : GSem nD τ sig → ℕ) (c : Dev nD) : sProp 𝕄 :=
  iprop(Inv0 (xsOf m) K c ∗ bigSep US (SS0 c) ∗ bigSep US (RS0 c) ∗ dutyTok ER (barCell (prv c)) 0 true ∗ dutyTok ER (barCell (nxt c)) 0 false
    ∗ cred (tallyAt (barCell c) () 2) ∗ atPos ER (barCell c) 0 ∅ 0)

/-- The two scratch arrays, at any contents. -/
def scratch (c : Dev nD) : sProp 𝕄 :=
  iprop((∃ f, ((c : Thread nD τ).loc cc0_scratch0) ↦{fullShare} f) ∗ (∃ f, ((c : Thread nD τ).loc cc0_scratch1) ↦{fullShare} f))

def Xk (c : Dev nD) : sProp 𝕄 := iprop((∃ K, Talk m K c) ∗ spare c)
def Yk (c : Dev nD) : sProp 𝕄 := semVal (barCell c) 0

def Φ0 (c : Dev nD) : sProp 𝕄 := iprop(Xk m c ∗ scratch c ∗ ∃ r, prngReg c r)
def Φ1 (c : Dev nD) : sProp 𝕄 := iprop(Yk c ∗ Pipeline.ownSems0 osem c ∗ scratch c ∗ ∃ r, prngReg c r)

/-- What a device owes its neighbours at the launch. -/
def O₀ (c : Dev nD) : CellTallies nD τ sig Unit := dues c 0 + tallyAt (barCell (nxt c)) () 1 + tallyAt (barCell (prv c)) () 1

/-- The region's data. -/
def dat (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => Yof m c
  Φ t := if t.val = 0 then Φ0 m c else Φ1 c
  q _ := fullShare
  owed t := if t.val = 0 then O₀ c else 0

/-! What an input window holds when the body starts. -/

theorem bef_0 (c : Dev nD) (t : Fin cfg0.N) (d) : (dat m c).before 0 t d = xsOf m c :=
  (((dat m c).before_in_eq_fetched 0 rfl (fun _ => rfl) (fun _ _ _ => rfl) (fun _ => rfl) t d).trans rfl).trans (iblk_0 m c t)
theorem bef_1 (c : Dev nD) (t : Fin cfg0.N) (d) : (dat m c).before 1 t d = wsOf m c :=
  (((dat m c).before_in_eq_fetched 1 rfl (fun _ => rfl) (fun _ _ _ => rfl) (fun _ => rfl) t d).trans rfl).trans (iblk_1 m c t)
theorem bef_2 (c : Dev nD) (t : Fin cfg0.N) (d) : (dat m c).before 2 t d = sxOf m c :=
  (((dat m c).before_in_eq_fetched 2 rfl (fun _ => rfl) (fun _ _ _ => rfl) (fun _ => rfl) t d).trans rfl).trans (iblk_2 m c t)
theorem bef_3 (c : Dev nD) (t : Fin cfg0.N) (d) : (dat m c).before 3 t d = swOf m c :=
  (((dat m c).before_in_eq_fetched 3 rfl (fun _ => rfl) (fun _ _ _ => rfl) (fun _ => rfl) t d).trans rfl).trans (iblk_3 m c t)
theorem bef_4 (c : Dev nD) (t : Fin cfg0.N) (d) : (dat m c).before 4 t d = cycT (F := F) :=
  (((dat m c).before_in_eq_fetched 4 rfl (fun _ => rfl) (fun _ _ _ => rfl) (fun _ => rfl) t d).trans rfl).trans (iblk_4 m c t)
theorem bef_5 (c : Dev nD) (t : Fin cfg0.N) (d) : (dat m c).before 5 t d = posT (F := F) :=
  (((dat m c).before_in_eq_fetched 5 rfl (fun _ => rfl) (fun _ _ _ => rfl) (fun _ => rfl) t d).trans rfl).trans (iblk_5 m c t)

theorem owed_first (c : Dev nD) (t : Fin (cfg0.N + 1)) (h : t.val = 0) : (dat m c).owed t = O₀ c := by
  show (if t.val = 0 then O₀ c else 0) = O₀ c
  exact if_pos h
theorem owed_last (c : Dev nD) : (dat m c).owed (Fin.last _) = 0 := by
  show (if (Fin.last cfg0.N).val = 0 then O₀ c else 0) = 0
  rw [Fin.val_last, if_neg (by rw [show cfg0.N = 1 from Gen.N_0]; decide)]

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-! ## The body between the launch's state and what it leaves -/

/-- A staging array, at contents `f`. -/
abbrev stg (c : Dev nD) (b : Ref sig .tc) (f : b.ty.Contents (Elt F)) : sProp 𝕄 := ((c : Thread nD τ).loc b) ↦{fullShare} f

/-- What the launch and the pipeline hand the body is what its run starts with. -/
theorem enter (c : Dev nD) : iprop(Φ0 m c ∗ (dat m c).owesAt () t0_0.castSucc ∗ stg c cc0_stg0_0 (xsOf m c) ∗ stg c cc0_stg1_0 (wsOf m c) ∗ stg c cc0_stg2_0 (sxOf m c)
      ∗ stg c cc0_stg3_0 (swOf m c) ∗ stg c cc0_stg4_0 cycT ∗ stg c cc0_stg5_0 posT ∗ ∃ f, stg c cc0_stg6_0 f)
    ⊢ iprop(∃ K, (spare c ∗ ∃ r, prngReg c r) ∗ Pre0 (xsOf m) (wsOf m) (sxOf m) (swOf m) K c) := by
  unfold Φ0 Xk Talk scratch Pre0 readOnly stg
  iintro ⟨⟨⟨⟨%K, HI, HSS, HRS, Ht, Hn, Hc, Ha⟩, Hsp⟩, ⟨Hg, Hw⟩, Hr⟩, HO, H0, H1, H2, H3, H4, H5, H6⟩
  ihave HO := (owesAt_elim m c _ (O₀ c) (owed_first m c _ rfl)) $$ HO
  iexists K
  isplitl [Hsp Hr]
  · isplitl [Hsp]; · iexact Hsp
    iexact Hr
  isplitl [HI]; · iexact HI
  isplitl [HO]; · iexact HO
  isplitl [HSS]; · iexact HSS
  isplitl [HRS]; · iexact HRS
  isplitl [Ht]; · iexact Ht
  isplitl [Hn]; · iexact Hn
  isplitl [Hc]; · iexact Hc
  isplitl [Ha]; · iexact Ha
  isplitl [Hg]; · iexact Hg
  isplitl [Hw]; · iexact Hw
  isplitl [H6]; · iexact H6
  isplitl [H4]; · iexact H4
  isplitl [H0]; · iexact H0
  isplitl [H1]; · iexact H1
  isplitl [H2]; · iexact H2
  isplitl [H3]; · iexact H3
  iexact H5

/-- What its run leaves is what the pipeline takes back. -/
theorem leave (c : Dev nD) : iprop((spare c ∗ ∃ r, prngReg c r) ∗ Post c (xsOf m) (wsOf m) (sxOf m) (swOf m))
    ⊢ iprop(Φ1 (F := F) c ∗ (dat m c).owesAt () (Fin.last _) ∗ stg c cc0_stg0_0 (xsOf m c) ∗ stg c cc0_stg1_0 (wsOf m c) ∗ stg c cc0_stg2_0 (sxOf m c)
      ∗ stg c cc0_stg3_0 (swOf m c) ∗ stg c cc0_stg4_0 cycT ∗ stg c cc0_stg5_0 posT ∗ stg c cc0_stg6_0 (Yof m c)) := by
  unfold Φ1 Yk scratch Post readOnly stg
  rw [ownSems_eq]
  iintro ⟨⟨Hsp, Hr⟩, ⟨%W, HO⟩, ⟨H0, H1, H2, H3, H5⟩, H4, H6, Hg, Hw, Hb, HS⟩
  ihave HS := (bigSep_part US) $$ HS
  icases HS with ⟨HS, HR⟩
  isplitl [Hsp Hr Hg Hw Hb HS HR]
  · isplitl [Hb]; · iexact Hb
    isplitl [HS HR Hsp]
    · isplitl [HS HR]
      · isplitl [HS]; · iexact HS
        iexact HR
      iexact Hsp
    isplitl [Hg Hw]
    · isplitl [Hg]; · iexact Hg
      iexact Hw
    iexact Hr
  isplitl [HO]; · iapply (owesAt_intro m c _ 0 (owed_last m c) W); iexact HO
  isplitl [H0]; · iexact H0
  isplitl [H1]; · iexact H1
  isplitl [H2]; · iexact H2
  isplitl [H3]; · iexact H3
  isplitl [H4]; · iexact H4
  isplitl [H5]; · iexact H5
  iexact H6

/-- The body's run between the two. -/
theorem body_run0 (c : Dev nD) {h0 h1 h2 h3 h4 h5 h6 h7 h8} :
    iprop(Φ0 m c ∗ (dat m c).owesAt () t0_0.castSucc ∗ stg c cc0_stg0_0 (xsOf m c) ∗ stg c cc0_stg1_0 (wsOf m c) ∗ stg c cc0_stg2_0 (sxOf m c)
      ∗ stg c cc0_stg3_0 (swOf m c) ∗ stg c cc0_stg4_0 cycT ∗ stg c cc0_stg5_0 posT ∗ ∃ f, stg c cc0_stg6_0 f)
    ⊢ WP c (cc0_body (Memref.whole cc0_stg0_0) h0 (Memref.whole cc0_stg1_0) h1 (Memref.whole cc0_stg2_0) h2 (Memref.whole cc0_stg3_0) h3
      (Memref.whole cc0_stg4_0) h4 (Memref.whole cc0_stg5_0) h5 (Memref.whole cc0_stg6_0) h6 (Memref.whole cc0_scratch0) h7 (Memref.whole cc0_scratch1) h8
      cc0_scratch2 cc0_scratch3 cc0_scratch4 cc0_scratch5 cc0_scratch6) fun _ =>
      iprop(Φ1 (F := F) c ∗ (dat m c).owesAt () (Fin.last _) ∗ stg c cc0_stg0_0 (xsOf m c) ∗ stg c cc0_stg1_0 (wsOf m c) ∗ stg c cc0_stg2_0 (sxOf m c)
      ∗ stg c cc0_stg3_0 (swOf m c) ∗ stg c cc0_stg4_0 cycT ∗ stg c cc0_stg5_0 posT ∗ stg c cc0_stg6_0 (Yof m c)) := by
  refine (enter m c).trans (exists_elim fun K => ?_)
  exact (sep_mono_right (body_all c (xsOf m) (wsOf m) (sxOf m) (swOf m) K)).trans (wp_end c fun _ => (leave m c).trans fupd_intro)

/-- A run, from more to less. -/
theorem wp_between (c : Dev nD) {α : Type} {p p' : Prog (TpuEff nD τ sig (Elt F) Λ₀ .tc) α} (e : p' = p) {P P' : sProp 𝕄} {Q Q' : α → sProp 𝕄} (hP : P ⊢ P')
    (h : P' ⊢ WP c p Q) (hQ : ∀ a, Q a ⊢ Q' a) : P ⊢ WP c p' Q' := e ▸ hP.trans (h.trans (wp_mono _ _ _ hQ))

seal cc0_body in
theorem body_row (t : Fin cfg0.N) : (defs₀ (F := F)) .tc cfg0.body (cfg0.bodyArgs t (cfg0.slots t)) = Gen.bodyAt0 t := rfl

seal cc0_body in
/-- The body is as the pipeline asks. -/
theorem bodyOb (c : Dev nD) : BodyObligation (dat m c) defs₀ 𝒱₀ () Set.univ := fun t => by
  obtain rfl := Gen.fin_N0 t
  rw [Gen.bigSep_W0, Gen.bigSep_W0]
  have hx : iprop(Φ0 m c ∗ (dat m c).owesAt () t0_0.castSucc ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d))
      ∗ (∃ d, owns (c : Thread nD τ) (Memref.whole cc0_stg2_0) fullShare ((dat m c).before 2 t0_0 d))
      ∗ (∃ d, owns (c : Thread nD τ) (Memref.whole cc0_stg3_0) fullShare ((dat m c).before 3 t0_0 d))
      ∗ (∃ d, owns (c : Thread nD τ) (Memref.whole cc0_stg4_0) fullShare ((dat m c).before 4 t0_0 d))
      ∗ (∃ d, owns (c : Thread nD τ) (Memref.whole cc0_stg5_0) fullShare ((dat m c).before 5 t0_0 d))
      ∗ (∃ d, owns (c : Thread nD τ) (Memref.whole cc0_stg6_0) fullShare ((dat m c).before 6 t0_0 d)))
      ⊢ iprop(Φ0 m c ∗ (dat m c).owesAt () t0_0.castSucc ∗ stg c cc0_stg0_0 (xsOf m c) ∗ stg c cc0_stg1_0 (wsOf m c) ∗ stg c cc0_stg2_0 (sxOf m c)
      ∗ stg c cc0_stg3_0 (swOf m c) ∗ stg c cc0_stg4_0 cycT ∗ stg c cc0_stg5_0 posT ∗ ∃ f, stg c cc0_stg6_0 f) := by
    simp only [bef_0, bef_1, bef_2, bef_3, bef_4, bef_5, owns_whole]
    iintro ⟨HΦ, HO, ⟨%_, H0⟩, ⟨%_, H1⟩, ⟨%_, H2⟩, ⟨%_, H3⟩, ⟨%_, H4⟩, ⟨%_, H5⟩, ⟨%_, H6⟩⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    iexists _; iexact H6
  have hy : iprop(Φ1 (F := F) c ∗ (dat m c).owesAt () (Fin.last _) ∗ stg c cc0_stg0_0 (xsOf m c) ∗ stg c cc0_stg1_0 (wsOf m c) ∗ stg c cc0_stg2_0 (sxOf m c)
      ∗ stg c cc0_stg3_0 (swOf m c) ∗ stg c cc0_stg4_0 cycT ∗ stg c cc0_stg5_0 posT ∗ stg c cc0_stg6_0 (Yof m c))
      ⊢ iprop(Φ1 (F := F) c ∗ (dat m c).owesAt () (Fin.last _) ∗ owns (c : Thread nD τ) (Memref.whole cc0_stg0_0) fullShare (iblk m c 0 t0_0)
      ∗ owns (c : Thread nD τ) (Memref.whole cc0_stg1_0) fullShare (iblk m c 1 t0_0)
      ∗ owns (c : Thread nD τ) (Memref.whole cc0_stg2_0) fullShare (iblk m c 2 t0_0)
      ∗ owns (c : Thread nD τ) (Memref.whole cc0_stg3_0) fullShare (iblk m c 3 t0_0)
      ∗ owns (c : Thread nD τ) (Memref.whole cc0_stg4_0) fullShare (iblk m c 4 t0_0)
      ∗ owns (c : Thread nD τ) (Memref.whole cc0_stg5_0) fullShare (iblk m c 5 t0_0)
      ∗ owns (c : Thread nD τ) (Memref.whole cc0_stg6_0) fullShare (Yof m c)) := by
    rw [iblk_0, iblk_1, iblk_2, iblk_3, iblk_4, iblk_5]
    simp only [owns_whole]
    exact Entails.refl _
  exact wp_between c (body_row t0_0) hx (body_run0 m c) fun _ => hy

end Cert.KernelIdeal.Ag
end
end
-- ==== Proof.Deal.lean ====
module

public import proofs.«01_k».proof.Proof.Region
public import Idealize.SL.ProofMode.BigOp

@[expose] public section

set_option maxRecDepth 16384

/-!
  What the launch deals: every cell's invariant, the tokens of the duties each device pays, and the credit of its waits; and the
  opening of a device's own cells once it has their counters.
-/

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat Cfg Window BodyObligation cellOf)

variable (m : (ℓ : Loc nD τ sig) → Buf (Elt F) ℓ)

/-- A transfer's right to open its two cells on the device, the tokens of its two duties there, and its landing's credit. -/
def slotInvs (K : GSem nD τ sig → ℕ) (c : Dev nD) (s : Slot) : sProp 𝕄 :=
  iprop(cellInv ER (sdl (Xof (xsOf m))) (K (sCell c s)) (sCell c s) ∗ cellInv ER (sdl (Xof (xsOf m))) (K (rCell c s)) (rCell c s)
    ∗ cellInv ER (sdl (Xof (xsOf m))) (K (rCell (peer s.1 c) s)) (rCell (peer s.1 c) s))
def opens (c : Dev nD) (s : Slot) : sProp 𝕄 := iprop(openTok ER (sCell c s) ∗ openTok ER (rCell c s))
def pays (c : Dev nD) (s : Slot) : sProp 𝕄 := iprop(dutyTok ER (sCell c s) 0 true ∗ dutyTok ER (rCell (peer s.1 c) s) 0 true)
def zeros (c : Dev nD) (s : Slot) : sProp 𝕄 := iprop(semVal (sCell c s) 0 ∗ semVal (rCell c s) 0)
def credR (c : Dev nD) (s : Slot) : sProp 𝕄 := cred (tallyAt (rCell c s) () N)

instance slotInvs_persistent (K : GSem nD τ sig → ℕ) (c : Dev nD) (s : Slot) : BI.Persistent (slotInvs m K c s) := by unfold slotInvs; infer_instance

/-- What stays with a device. -/
def linear (c : Dev nD) : sProp 𝕄 :=
  iprop(atPos ER (barCell c) 0 ∅ 0 ∗ bigSep US (opens c) ∗ bigSep US (pays c) ∗ dutyTok ER (barCell (prv c)) 0 true ∗ dutyTok ER (barCell (nxt c)) 0 false)

/-- The invariants and reached rounds a device consults. -/
def known (K : GSem nD τ sig → ℕ) (c : Dev nD) : sProp 𝕄 :=
  iprop(bigSep US (slotInvs m K c) ∗ cellInv ER (sdl (Xof (xsOf m))) (K (barCell c)) (barCell c)
    ∗ cellInv ER (sdl (Xof (xsOf m))) (K (barCell (prv c))) (barCell (prv c)) ∗ cellInv ER (sdl (Xof (xsOf m))) (K (barCell (nxt c))) (barCell (nxt c))
    ∗ reached ER (barCell (prv c)) 0 ∗ reached ER (barCell (nxt c)) 0)

/-- The credit of a device's waits. -/
def credits (c : Dev nD) : sProp 𝕄 := iprop(cred (tallyAt (barCell c) () 2) ∗ bigSep US (credR c))

/-- What a device holds of the protocol until the region. -/
def Tk (c : Dev nD) : sProp 𝕄 := iprop((∃ K, known m K c ∗ linear c) ∗ credits c)

theorem bigSep_both {I : Type} (S : Finset I) (Φ Ψ : I → sProp 𝕄) : iprop(bigSep S Φ ∗ bigSep S Ψ) ⊢ bigSep S fun s => iprop(Φ s ∗ Ψ s) :=
  bigSep_merge S fun _ _ => Entails.refl _

/-! ## Opening the cells -/

theorem open_slot (K : GSem nD τ sig → ℕ) (c : Dev nD) (s : Slot) : iprop(slotInvs m K c s ∗ opens c s ∗ pays c s ∗ credR c s ∗ zeros c s)
    ⊢ iprop(|={Set.univ}=> (slotInv0 (xsOf m) K c s ∗ SS0 c s ∗ RS0 c s)) := by
  unfold slotInvs opens pays zeros credR slotInv0 SS0 RS0
  iintro ⟨⟨#Is, #Ir, #Ip⟩, ⟨Os, Or⟩, ⟨Ds, Dr⟩, Hc, Zs, Zr⟩
  imod (Rounds.cell_open ER (sdl (Xof (xsOf m))) (g := sCell c s) (Set.mem_univ (K (sCell c s)))) $$ [Os Zs] with ⟨As, #Rs⟩
  · isplitr; · iexact Is
    isplitl [Os] <;> iassumption
  imod (Rounds.cell_open ER (sdl (Xof (xsOf m))) (g := rCell c s) (Set.mem_univ (K (rCell c s)))) $$ [Or Zr] with ⟨Ar, #Rr⟩
  · isplitr; · iexact Ir
    isplitl [Or] <;> iassumption
  imodintro
  isplitr
  · isplitr; · iexact Is
    isplitr; · iexact Ir
    isplitr; · iexact Ip
    isplitr; · iexact Rs
    iexact Rr
  isplitl [Ds Dr As]
  · isplitl [Ds]; · iexact Ds
    isplitl [Dr]; · iexact Dr
    iexact As
  isplitl [Hc]; · iexact Hc
  iexact Ar

theorem open_slots (K : GSem nD τ sig → ℕ) (c : Dev nD) : iprop(bigSep US (slotInvs m K c) ∗ bigSep US (opens c) ∗ bigSep US (pays c) ∗ bigSep US (credR c) ∗ bigSep US (zeros c))
    ⊢ iprop(|={Set.univ}=> (bigSep US (slotInv0 (xsOf m) K c) ∗ bigSep US (SS0 c) ∗ bigSep US (RS0 c))) := by
  have h : (bigSep US fun s => iprop(slotInvs m K c s ∗ opens c s ∗ pays c s ∗ credR c s ∗ zeros c s))
      ⊢ iprop(|={Set.univ}=> bigSep US fun s => iprop(slotInv0 (xsOf m) K c s ∗ SS0 c s ∗ RS0 c s)) :=
    (bigSep_mono (s := US) fun s _ => open_slot m K c s).trans (bigSep_fupd (E := Set.univ) US fun s => iprop(slotInv0 (xsOf m) K c s ∗ SS0 c s ∗ RS0 c s))
  iintro ⟨HI, HO, HP, HC, HZ⟩
  ihave H := (bigSep_both US (credR c) (zeros c)) $$ [HC HZ]
  · isplitl [HC] <;> iassumption
  ihave H := (bigSep_both US (pays c) (fun s => iprop(credR c s ∗ zeros c s))) $$ [HP H]
  · isplitl [HP] <;> iassumption
  ihave H := (bigSep_both US (opens c) (fun s => iprop(pays c s ∗ credR c s ∗ zeros c s))) $$ [HO H]
  · isplitl [HO] <;> iassumption
  ihave H := (bigSep_both US (slotInvs m K c) (fun s => iprop(opens c s ∗ pays c s ∗ credR c s ∗ zeros c s))) $$ [HI H]
  · isplitl [HI] <;> iassumption
  imod h $$ H with H
  imodintro
  ihave H := (bigSep_part US (Φ := (slotInv0 (xsOf m) K c)) (Ψ := fun s => iprop(SS0 c s ∗ RS0 c s))) $$ H
  icases H with ⟨H0, H⟩
  ihave H := (bigSep_part US (Φ := (SS0 (F := F) c)) (Ψ := (RS0 c))) $$ H
  icases H with ⟨H1, H2⟩
  isplitl [H0]; · iexact H0
  isplitl [H1]; · iexact H1
  iexact H2

/-- With its counters a device opens its cells, which makes what its body starts with. -/
theorem hopen (c : Dev nD) : iprop(Tk m c ∗ Pipeline.ownSems0 osem c ∗ levAts L lv) ⊢ (|={Set.univ}=> Xk m c : sProp 𝕄) := by
  rw [ownSems_eq]
  unfold Tk known linear credits Xk Talk Inv0
  iintro ⟨⟨⟨%K, ⟨HI, #B0, #B1, #B2, #R1, #R2⟩, Ha, HO, HP, Ht, Hn⟩, Hcb, HC⟩, ⟨⟨Zs, Zr⟩, Hsp⟩, #Hlev⟩
  ihave HZ := (bigSep_both US (fun s => semVal (sCell c s) 0) (fun s => semVal (rCell c s) 0)) $$ [Zs Zr]
  · isplitl [Zs] <;> iassumption
  imod (open_slots m K c) $$ [HI HO HP HC HZ] with ⟨H0, H1, H2⟩
  · isplitl [HI]; · iexact HI
    isplitl [HO]; · iexact HO
    isplitl [HP]; · iexact HP
    isplitl [HC]; · iexact HC
    iexact HZ
  imodintro
  isplitr [Hsp]
  · iexists K
    isplitl [H0]
    · isplitl [H0]; · iexact H0
      isplitr; · iexact Hlev
      isplitr; · iexact B0
      isplitr; · iexact B1
      isplitr; · iexact B2
      isplitr; · iexact R1
      iexact R2
    isplitl [H1]; · iexact H1
    isplitl [H2]; · iexact H2
    isplitl [Ht]; · iexact Ht
    isplitl [Hn]; · iexact Hn
    isplitl [Hcb]; · iexact Hcb
    iexact Ha
  iexact Hsp

end Cert.KernelIdeal.Ag
end
end
-- ==== Proof.Cells.lean ====
module

public import proofs.«01_k».proof.Proof.Deal

@[expose] public section

set_option maxRecDepth 16384

/-!
  The cells of all devices and the tokens of all duties, dealt to the devices that use them.
-/

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable (m : (ℓ : Loc nD τ sig) → Buf (Elt F) ℓ)

/-! ## The cells -/

theorem semIx_inj {r r' : Bool} {s s' : Slot} (h : semIx r s = semIx r' s') : (r, s) = (r', s') := by
  have h' := congrArg slotOf h
  rw [slotOf_semIx, slotOf_semIx] at h'
  exact Option.some.inj h'
theorem semIx_slot {r r' : Bool} {s s' : Slot} (h : semIx r s = semIx r' s') : s = s' := congrArg Prod.snd (semIx_inj h)
theorem cell_inj {c c' : Dev nD} {x y : SemLoc sig} (h : (((c : Thread nD τ), x) : GSem nD τ sig) = ((c' : Thread nD τ), y)) : c = c' ∧ x = y :=
  ⟨congrArg (fun g : GSem nD τ sig => g.1.1) h, congrArg Prod.snd h⟩
theorem rCell_inj {c c' : Dev nD} {s s' : Slot} (h : rCell c s = rCell c' s') : c = c' ∧ s = s' :=
  ⟨(cell_inj h).1, semIx_slot (SemLoc.dma.inj (cell_inj h).2)⟩
theorem bar_ne (c c' : Dev nD) (n : DmaSem sig) : barCell c ≠ ((c' : Thread nD τ), .dma n) := fun h => by cases (cell_inj h).2

def barEmb : Dev nD ↪ GSem nD τ sig := ⟨fun c => barCell c, fun _ _ h => (cell_inj h).1⟩
def dmaEmb (r : Bool) : Dev nD × Slot ↪ GSem nD τ sig :=
  ⟨fun p => ((p.1 : Thread nD τ), .dma (semIx r p.2)), fun p p' h => Prod.ext (cell_inj h).1 (semIx_slot (SemLoc.dma.inj (cell_inj h).2))⟩

/-- The barrier cells; the transfers' cells of one kind; all the transfers' cells. -/
def barCells : Finset (GSem nD τ sig) := Finset.univ.map barEmb
def dmaCells (r : Bool) : Finset (GSem nD τ sig) := (Finset.univ ×ˢ US).map (dmaEmb r)
def scCells : Finset (GSem nD τ sig) := dmaCells false ∪ dmaCells true

theorem bar_mem (c : Dev nD) : barCell c ∈ barCells := Finset.mem_map_of_mem barEmb (Finset.mem_univ c)
theorem dma_mem (r : Bool) (c : Dev nD) {s : Slot} (hs : s ∈ US) : (((c : Thread nD τ), .dma (semIx r s)) : GSem nD τ sig) ∈ scCells := by
  have h : (((c : Thread nD τ), .dma (semIx r s)) : GSem nD τ sig) ∈ dmaCells r :=
    Finset.mem_map_of_mem (a := (c, s)) (dmaEmb r) (Finset.mem_product.mpr ⟨Finset.mem_univ c, hs⟩)
  cases r
  · exact Finset.mem_union_left _ h
  · exact Finset.mem_union_right _ h

theorem dma_disj : Disjoint (dmaCells false) (dmaCells true) := by
  rw [Finset.disjoint_left]
  intro g h h'
  obtain ⟨p, -, rfl⟩ := Finset.mem_map.mp h
  obtain ⟨p', -, e⟩ := Finset.mem_map.mp h'
  exact Bool.false_ne_true (congrArg Prod.fst (semIx_inj (SemLoc.dma.inj (cell_inj e).2))).symm
theorem cells_disj : Disjoint barCells scCells := by
  rw [Finset.disjoint_left]
  intro g h h'
  obtain ⟨c, -, rfl⟩ := Finset.mem_map.mp h
  rcases Finset.mem_union.mp h' with h' | h' <;>
  · obtain ⟨p, -, e⟩ := Finset.mem_map.mp h'
    exact bar_ne c p.1 _ e.symm

theorem bigSep_swap {I J : Type} [DecidableEq I] (s : Finset I) (t : Finset J) (Φ : I → J → sProp 𝕄) :
    (bigSep s fun i => bigSep t fun j => Φ i j) = bigSep t fun j => bigSep s fun i => Φ i j := by
  induction s using Finset.induction_on with
  | empty =>
    refine Eq.trans ?_ (bigSep_emp_const t).symm
    rfl
  | insert i s hi ih =>
    rw [bigSep_insert hi, ih]
    exact (bigSep_sep t _ _).symm.trans (bigSep_congr fun j _ => (bigSep_insert hi (Φ := fun i => Φ i j)).symm)

theorem bigSep_pairs {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product]; rfl
  | insert i s hi ih =>
    rw [bigSep_insert hi, ← ih, Finset.insert_eq, Finset.union_product, Finset.singleton_product, bigSep_union, bigSep_map]
    · rfl
    · rw [Finset.disjoint_left]
      intro p h h'
      obtain ⟨j, -, rfl⟩ := Finset.mem_map.mp h
      exact hi (Finset.mem_product.mp h').1

/-- What holds of every transfer's cell of a kind, device by device. -/
theorem over_dma (r : Bool) (Φ : GSem nD τ sig → sProp 𝕄) : bigSep (dmaCells r) Φ = bigSep Finset.univ fun c : Dev nD => bigSep US fun s => Φ ((c : Thread nD τ), .dma (semIx r s)) := by
  unfold dmaCells
  rw [bigSep_map, bigSep_pairs]
  rfl
theorem over_sc (Φ : GSem nD τ sig → sProp 𝕄) : bigSep scCells Φ
    = iprop((bigSep Finset.univ fun c : Dev nD => bigSep US fun s => Φ (sCell c s)) ∗ bigSep Finset.univ fun c : Dev nD => bigSep US fun s => Φ (rCell c s)) := by
  unfold scCells
  rw [bigSep_union dma_disj, over_dma, over_dma]
  rfl
theorem over_bar (Φ : GSem nD τ sig → sProp 𝕄) : bigSep barCells Φ = bigSep Finset.univ fun c : Dev nD => Φ (barCell c) := by
  unfold barCells
  rw [bigSep_map]
  rfl

/-! ## The tokens -/

def tokEmb (d : Bool) : GSem nD τ sig ↪ GSem nD τ sig × ℕ × Bool := ⟨fun g => (g, 0, d), fun _ _ h => congrArg Prod.fst h⟩
def toks : Finset (GSem nD τ sig × ℕ × Bool) := (barCells ∪ scCells).map (tokEmb true) ∪ barCells.map (tokEmb false)

theorem toks_split : (bigSep toks fun x => (dutyTok ER x.1 x.2.1 x.2.2 : sProp 𝕄))
    = iprop(((bigSep Finset.univ fun c : Dev nD => dutyTok ER (barCell c) 0 true)
        ∗ (bigSep Finset.univ fun c : Dev nD => bigSep US fun s => dutyTok ER (sCell c s) 0 true)
        ∗ bigSep Finset.univ fun c : Dev nD => bigSep US fun s => dutyTok ER (rCell c s) 0 true)
      ∗ bigSep Finset.univ fun c : Dev nD => dutyTok ER (barCell c) 0 false) := by
  have hd : Disjoint ((barCells ∪ scCells).map (tokEmb true)) (barCells.map (tokEmb false)) := by
    rw [Finset.disjoint_left]
    intro x h h'
    obtain ⟨g, -, rfl⟩ := Finset.mem_map.mp h
    obtain ⟨g', -, e⟩ := Finset.mem_map.mp h'
    exact Bool.false_ne_true (congrArg (fun x : GSem nD τ sig × ℕ × Bool => x.2.2) e)
  unfold toks
  rw [bigSep_union hd, bigSep_map, bigSep_map, bigSep_union cells_disj, over_bar, over_bar, over_sc]
  rfl

/-- The tokens, each with the device that pays the duty. -/
theorem toks_around : (bigSep toks fun x => (dutyTok ER x.1 x.2.1 x.2.2 : sProp 𝕄))
    = iprop(((bigSep Finset.univ fun c : Dev nD => dutyTok ER (barCell (prv c)) 0 true)
        ∗ (bigSep Finset.univ fun c : Dev nD => bigSep US fun s => dutyTok ER (sCell c s) 0 true)
        ∗ bigSep Finset.univ fun c : Dev nD => bigSep US fun s => dutyTok ER (rCell (peer s.1 c) s) 0 true)
      ∗ bigSep Finset.univ fun c : Dev nD => dutyTok ER (barCell (nxt c)) 0 false) := by
  have e1 : (bigSep Finset.univ fun c : Dev nD => (dutyTok ER (barCell c) 0 true : sProp 𝕄)) = bigSep Finset.univ fun c : Dev nD => dutyTok ER (barCell (prv c)) 0 true :=
    bigSep_univ_equiv (ring false) _
  have e2 : (bigSep Finset.univ fun c : Dev nD => (dutyTok ER (barCell c) 0 false : sProp 𝕄)) = bigSep Finset.univ fun c : Dev nD => dutyTok ER (barCell (nxt c)) 0 false :=
    bigSep_univ_equiv (ring true) _
  have e3 : (bigSep Finset.univ fun c : Dev nD => bigSep US fun s => (dutyTok ER (rCell c s) 0 true : sProp 𝕄))
      = bigSep Finset.univ fun c : Dev nD => bigSep US fun s => dutyTok ER (rCell (peer s.1 c) s) 0 true :=
    (bigSep_swap _ _ _).trans ((bigSep_congr fun s _ => bigSep_univ_equiv (ring s.1) fun c : Dev nD => (dutyTok ER (rCell c s) 0 true : sProp 𝕄)).trans (bigSep_swap _ _ _).symm)
  rw [toks_split, e1, e2, e3]

/-! ## The credit -/

theorem owedBy_bar (d c : Dev nD) (l : List Act) : owedBy d l (barCell c) () = 0 := by
  rcases Nat.eq_zero_or_pos (owedBy d l (barCell c) ()) with h | h
  · exact h
  · obtain ⟨s, -, e⟩ := owedBy_pos d _ _ l h
    exact absurd e (bar_ne c _ _)

theorem owedBy_r (d c : Dev nD) (s : Slot) : ∀ l : List Act, owedBy d l (rCell c s) () = if d = peer (!s.1) c then N * l.count (.send s) else 0 := by
  intro l
  induction l with
  | nil =>
    rw [List.count_nil, Nat.mul_zero, ite_self]; rfl
  | cons a l ih =>
    by_cases h : a = .send s
    · subst h
      show owedBy d l (rCell c s) () + tallyAt (rCell (peer s.1 d) s) () N (rCell c s) () = _
      rw [ih, tallyAt_apply, List.count_cons_self]
      by_cases hd : d = peer (!s.1) c
      · rw [if_pos hd, if_pos hd, if_pos ⟨by rw [hd, peer_peer], rfl⟩, Nat.mul_succ]
      · rw [if_neg hd, if_neg hd, if_neg fun e => hd (by rw [(rCell_inj e.1).1, peer_peer'])]
    · rw [List.count_cons_of_ne h, ← ih]
      cases a with
      | send s' =>
        show owedBy d l (rCell c s) () + tallyAt (rCell (peer s'.1 d) s') () N (rCell c s) () = _
        rw [tallyAt_apply, if_neg fun e => h (congrArg Act.send (rCell_inj e.1).2.symm), Nat.add_zero]
      | _ => rfl

theorem sends {s : Slot} (hs : s ∈ US) : (script.drop 0).count (.send s) = 1 := by
  have h : Act.send s ∈ script := by
    have := (all_done.1 s hs).1
    unfold done at this
    rwa [List.take_length] at this
  exact List.count_eq_one_of_mem script_nodup h

theorem owed_bar (d c : Dev nD) : O₀ d (barCell c) () = (if d = prv c then 1 else 0) + if d = nxt c then 1 else 0 := by
  show owedBy d _ (barCell c) () + tallyAt (barCell (nxt d)) () 1 (barCell c) () + tallyAt (barCell (prv d)) () 1 (barCell c) () = _
  rw [owedBy_bar, tallyAt_apply, tallyAt_apply, Nat.zero_add]
  congr 1
  · exact if_congr ⟨fun e => by rw [(cell_inj e.1).1, prv_nxt], fun e => ⟨by rw [e, nxt_prv], rfl⟩⟩ rfl rfl
  · exact if_congr ⟨fun e => by rw [(cell_inj e.1).1, nxt_prv], fun e => ⟨by rw [e, prv_nxt], rfl⟩⟩ rfl rfl

theorem owed_r (d c : Dev nD) {s : Slot} (hs : s ∈ US) : O₀ d (rCell c s) () = if d = peer (!s.1) c then N else 0 := by
  show owedBy d _ (rCell c s) () + tallyAt (barCell (nxt d)) () 1 (rCell c s) () + tallyAt (barCell (prv d)) () 1 (rCell c s) () = _
  have z (b : Dev nD) : (tallyAt (barCell b) () 1 : CellTallies nD τ sig Unit) (rCell c s) () = 0 := by
    rw [tallyAt_apply, if_neg fun e => bar_ne _ _ _ e.1.symm]
  rw [owedBy_r, sends hs, Nat.mul_one, z, z, Nat.add_zero]

theorem launch_bar (c : Dev nD) : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_ite_eq', Finset.sum_ite_eq',
    if_pos (Finset.mem_univ _), if_pos (Finset.mem_univ _)]
theorem launch_r (c : Dev nD) {s : Slot} (hs : s ∈ US) :
    tallyOn (rCell c s) (launchCredit (Pipeline.owing O₀) 0 (rCell c s)) = (tallyAt (rCell c s) () N : CellTallies nD τ sig Unit) := by
  unfold tallyAt; refine congrArg _ (Finsupp.ext fun u => ?_); cases u
  rw [Pipeline.launchCredit_owing, Finsupp.single_eq_same, Finset.sum_congr rfl fun d _ => owed_r d c hs, Finset.sum_ite_eq', if_pos (Finset.mem_univ _)]

/-- A device's launch credit holds that of its waits. -/
theorem creds (c : Dev nD) : (Pipeline.launchCred O₀ c : sProp 𝕄) ⊢ credits c := by
  have hsub : US.image (fun s => (SemLoc.dma (semIx true s) : SemLoc sig)) ⊆ Finset.univ.erase (SemLoc.reg barrier0) := by
    intro x hx
    obtain ⟨s, -, e⟩ := Finset.mem_image.mp hx
    exact Finset.mem_erase.mpr ⟨fun h => (by cases e.trans h), Finset.mem_univ _⟩
  unfold Pipeline.launchCred credits
  rw [bigSep_univ_at _ (SemLoc.reg barrier0), launch_bar]
  refine sep_mono_right ((bigSep_subset hsub).trans ?_)
  rw [bigSep_image US _ _ fun a _ b _ h => semIx_slot (SemLoc.dma.inj h)]
  exact bigSep_mono fun s hs => Entails.of_eq (congrArg cred (launch_r c hs))

/-! ## What the launch makes of it -/

/-- What all devices may consult. -/
def records (K : GSem nD τ sig → ℕ) : sProp 𝕄 :=
  iprop((bigSep (barCells ∪ scCells) fun g => cellInv ER (sdl (Xof (xsOf m))) (K g) g) ∗ bigSep barCells fun g => reached ER g 0)
instance records_persistent (K : GSem nD τ sig → ℕ) : BI.Persistent (records m K) := by unfold records; infer_instance

theorem inv_bar (K : GSem nD τ sig → ℕ) (c : Dev nD) : records m K ⊢ cellInv ER (sdl (Xof (xsOf m))) (K (barCell c)) (barCell c) := by
  unfold records
  exact sep_elim_left.trans (bigSep_elim (Finset.mem_union_left _ (bar_mem c)))
theorem inv_dma (K : GSem nD τ sig → ℕ) (r : Bool) (c : Dev nD) {s : Slot} (hs : s ∈ US) :
    records m K ⊢ cellInv ER (sdl (Xof (xsOf m))) (K ((c : Thread nD τ), .dma (semIx r s))) ((c : Thread nD τ), .dma (semIx r s)) := by
  unfold records
  exact sep_elim_left.trans (bigSep_elim (Finset.mem_union_right _ (dma_mem r c hs)))
theorem reach_bar (K : GSem nD τ sig → ℕ) (c : Dev nD) : records m K ⊢ reached ER (barCell c) 0 := by
  unfold records
  exact sep_elim_right.trans (bigSep_elim (bar_mem c))

theorem inv_pair (K : GSem nD τ sig → ℕ) (c : Dev nD) (s : Slot) (hs : s ∈ US) : iprop(records m K) ⊢ slotInvs m K c s := by
  unfold slotInvs
  iintro #H
  isplitr; · iapply (inv_dma m K false c hs); iexact H
  isplitr; · iapply (inv_dma m K true c hs); iexact H
  iapply (inv_dma m K true (peer s.1 c) hs); iexact H

theorem inv_slots (K : GSem nD τ sig → ℕ) (c : Dev nD) : records m K ⊢ bigSep US (slotInvs m K c) :=
  (bigSep_of_persistent US (records m K)).trans (bigSep_mono fun s hs => inv_pair m K c s hs)

theorem know (K : GSem nD τ sig → ℕ) (c : Dev nD) : records m K ⊢ known m K c := by
  unfold known
  iintro #H
  isplitr; · iapply (inv_slots m K c); iexact H
  isplitr; · iapply (inv_bar m K c); iexact H
  isplitr; · iapply (inv_bar m K (prv c)); iexact H
  isplitr; · iapply (inv_bar m K (nxt c)); iexact H
  isplitr; · iapply (reach_bar m K (prv c)); iexact H
  iapply (reach_bar m K (nxt c)); iexact H

end Cert.KernelIdeal.Ag
end
end
-- ==== Proof.Launch.lean ====
module

public import proofs.«01_k».proof.Proof.Cells
public import Idealize.ShloMosaic.Lib.Pipeline.RegionTalk
public import Idealize.ShloMosaic.Lib.Pipeline.Value

@[expose] public section

set_option maxRecDepth 16384

/-!
  The whole program on the mesh: the host's two tables, the region, and the run from any memory.
-/

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat Cfg Window BodyObligation cellOf)
open Cert.KernelIdeal.Gen (V iblk hostOps0)

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem cellOf_inj : Function.Injective (Pipeline.cellOf (nD := nD) (τ := τ) (Pipeline.pin (pcfgs (F := F)) adm)) := Gen.cellOf_inj

theorem kitP : Pipeline.PLaunchFacts (nD := nD) (τ := τ) (pcfgs (F := F)) 0 where
  cellOf_inj a := by rw [Subsingleton.elim a adm]; exact cellOf_inj
  win := Gen.winFacts0
  pre := Pipeline.PreFacts.none _
  block_pos := Gen.block_pos0
  arr_whole := Gen.arr_whole0
  stage_whole := Gen.stage_whole0

/-! ## The arrays -/

/-- The program's arrays. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_arrs : bufs = Pipeline.arrRefs (τ := τ) spec0 := by decide +kernel

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide +kernel, BI.bigSep_singleton]
theorem unscoped_bar : ∀ sm : SemLoc sig, sm.isScoped .tc = false → sm = .reg barrier0 := by decide +kernel

/-- The arrays at the launch, at the region, and after it. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v1) (Yof m c)

theorem V₂_out (c : Dev nD) : V₂ m c (Proc.devRef .tc main_v1) = Yof m c := Function.update_self _ _ _
theorem V₂_ne (c : Dev nD) (b : DevRef τ sig) (h : b ≠ Proc.devRef .tc main_v1) : V₂ m c b = V₁ m c b := Function.update_of_ne h _ _

theorem arr_zero (c : Dev nD) (w : Fin 7) : (dat m c).arrAt w 0 = V₁ m c (Proc.devRef .tc (Pipeline.arrRef spec0 w)) := rfl

theorem arr_out (c : Dev nD) : (dat m c).arrAt 6 cfg0.N = Yof m c := by
  have he (x) : ((cfg0.win 6).blk Gen.t0_0).view.emb x = x := funext fun a => Fin.ext (by
    show 0 * _ + 1 * (x a).val = (x a).val
    omega)
  refine (dat m c).arrAt_eq_of_cover 6 (Yof m c) (fun t _ => ?_) (fun i => ⟨Gen.t0_0, Gen.flush0_6 _, ?_⟩)
  · obtain rfl := Gen.fin_N0 t
    exact (funext fun x => (at_whole (s := S4096x64) (Yof m c) (x := x) fun _ => rfl).symm)
  · rw [← he i]; exact View.emb_mem_set _ _

theorem arr_last (c : Dev nD) (w : Fin 7) : (dat m c).arrAt w cfg0.N = V₂ m c (Proc.devRef .tc (Pipeline.arrRef spec0 w)) := by
  by_cases h : w = 6
  · subst h; exact (arr_out m c).trans (V₂_out m c).symm
  · have hi : ∀ w : Fin 7, w ≠ 6 → (cfg0.win w).isOut = false ∧ Proc.devRef (τ := τ) .tc (Pipeline.arrRef spec0 w) ≠ Proc.devRef .tc main_v1 := by decide +kernel
    rw [(dat m c).arrAt_in w (hi w h).1, V₂_ne m c _ (hi w h).2]
    rfl

/-! ## The region -/

theorem cut (c : Dev nD) (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · have h' : 0 < owedBy c (script.drop 0) g i + tallyAt (barCell (nxt c)) () 1 g i + tallyAt (barCell (prv c)) () 1 g i := h
    by_cases h1 : g = barCell (nxt c)
    · rw [h1, L_tc]; exact ⟨Finset.mem_singleton_self _, Nat.one_pos⟩
    by_cases h2 : g = barCell (prv c)
    · rw [h2, L_tc]; exact ⟨Finset.mem_singleton_self _, Nat.one_pos⟩
    rw [tallyAt_apply, tallyAt_apply, if_neg (fun e => h1 e.1), if_neg (fun e => h2 e.1)] at h'
    replace h' : 0 < owedBy c (script.drop 0) g i := h'
    obtain ⟨s, -, e⟩ := owedBy_pos c g i _ h'
    rw [e, L_tc]
    exact ⟨Finset.mem_singleton_self _, by cases i; rw [lv_r]; omega⟩
  · exact absurd h (Nat.lt_irrefl 0)

theorem hin (c : Dev nD) : iprop(Pipeline.scopedRest spec0 c ∗ (∃ r, prngReg c r) ∗ StableHlo.held (c.tc : Thread nD τ) ∅ (V₁ m c) ∗ Xk m c) ⊢ Φ0 m c := by
  rw [Gen.scopedRest0_eq]
  unfold Φ0 scratch
  iintro ⟨Hs, Hp, -, HX⟩
  isplitl [HX]; · iexact HX
  isplitl [Hs]; · iexact Hs
  iexact Hp

theorem hout (c : Dev nD) : Φ1 (F := F) c ⊢ iprop(Pipeline.scopedRest spec0 c ∗ (∃ r, prngReg c r) ∗ StableHlo.held (c.tc : Thread nD τ) ∅ (V₂ m c)
    ∗ Pipeline.ownSems0 osem c ∗ Yk c) := by
  rw [Gen.scopedRest0_eq]
  unfold Φ1 scratch
  iintro ⟨HY, HO, Hs, Hp⟩
  isplitl [Hs]; · iexact Hs
  isplitl [Hp]; · iexact Hp
  isplitr; · unfold StableHlo.held; rw [bigSep_empty]; iempintro
  isplitl [HO]; · iexact HO
  iexact HY

theorem phi_zero (c : Dev nD) : (dat m c).Φ 0 = Φ0 m c := by
  show (if ((0 : Fin (cfg0.N + 1)).val = 0) then Φ0 m c else Φ1 c) = Φ0 m c
  exact if_pos rfl
theorem phi_last (c : Dev nD) : (dat m c).Φ (Fin.last _) = Φ1 c := by
  show (if (Fin.last cfg0.N).val = 0 then Φ0 m c else Φ1 c) = Φ1 c
  rw [Fin.val_last, if_neg (by rw [show cfg0.N = 1 from Gen.N_0]; decide)]

theorem stage_levels : ∀ (w : Fin 7) (s : Fin ((cfg0.win w).nbuf)), slotOf ((cfg0.win w).sem s) = none := by decide +kernel

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    ∅ ∅ (Finset.Subset.refl _) kitP rfl (fun c => (bodyOb m c).loose)
    (fun _ => 0) O₀ (fun c => (owed_first m c _ rfl).trans (zero_add _).symm) (owed_last m) (fun _ => rfl) (fun c w => (dat m c).share_full (fun _ => rfl) w)
    (V₁ m) (V₂ m) (fun _ b hb => absurd hb (by rw [Finset.sdiff_self]; exact Finset.notMem_empty b))
    (Tk m) Yk (Xk m) Yk (hopen m) (fun c => (hin m c).trans (Entails.of_eq (phi_zero m c).symm)) (fun c => (Entails.of_eq (phi_last m c)).trans (hout m c))
    (fun c => fupd_intro)
    (fun _ => 0)
    ⟨fun c w s => by rw [L_tc]; exact Finset.mem_singleton_self _, fun c w s => by unfold lv; dsimp only; exact Nat.le_of_eq (congrArg lvDma (stage_levels w s)), fun c t g i h => cut m c t g i h⟩
    (fun _ => iprop(emp))
    (arr_zero m) (arr_last m)

/-! ## The program -/

/-- What a device holds around the host's tables. -/
def R (c : Dev nD) : sProp 𝕄 := iprop((∃ r, prngReg c r) ∗ Tk m c ∗ ∃ W, owes (c : Thread nD τ) (O₀ c) W)

theorem ops_bufs : ∀ op ∈ hostOps0 (F := F), op.bufs ⊆ bufs := fun op h => by
  have h : op = StableHlo.nullary main_c (fun i => lit0 (S32.rowMajor i)) ∨ op = StableHlo.nullary main_c_0 (fun i => lit1 (S32.rowMajor i)) := by
    rcases List.mem_cons.mp h with e | h
    · exact Or.inl e
    · exact Or.inr (List.mem_singleton.mp h)
  rcases h with rfl | rfl
  · exact (by decide +kernel : ({Proc.devRef .tc main_c} : Finset (DevRef τ sig)) ⊆ bufs)
  · exact (by decide +kernel : ({Proc.devRef .tc main_c_0} : Finset (DevRef τ sig)) ⊆ bufs)

def host : Pipeline.HostSeg (Name := ℕ) (U := UU) (pcfgs (F := F)) defs₀ 𝒱₀ L lv :=
  Pipeline.HostSeg.ofOps _ _ _ _ _ bufs hostOps0 ops_bufs (List.forall_iff_forall_mem.mp Gen.hostOps0_fresh) (V₀ m) (R m)

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) ∅ (V₁ m c) ∗ emp) ∗ Tk m c ∗ ∃ Wd, owes (c : Thread nD τ) (0 + O₀ c) Wd)
  rw [bufs_arrs, zero_add]
  unfold R
  iintro ⟨Hh, Hp, HT, HO⟩
  isplitl [Hh]; · iexact Hh
  isplitl [Hp]; · iexact Hp
  isplitr
  · unfold StableHlo.held; rw [bigSep_empty]
    isplitr <;> iempintro
  isplitl [HT]; · iexact HT
  iexact HO

theorem reg_post (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) ∅ (V₂ m c) ∗ emp) ∗ Yk c ∗ ∃ Wd, owes (c : Thread nD τ) (0 : CellTallies nD τ sig Unit) Wd) ⊢ _
  rw [bufs_arrs]
  unfold Yk
  iintro ⟨Hh, -, -, Hb, HO⟩
  isplitr [HO]
  · isplitl [Hh]; · iexact Hh
    iexact Hb
  iexact HO

/-- The program as a host segment and a region. -/
def segs : List (Pipeline.Seg (pcfgs (F := F)) adm (pdats m) () defs₀ 𝒱₀ L lv) := [.host (host m), .region (reg m)]

theorem main_eq (c : Dev nD) : main (F := F) c = Pipeline.Seg.run (segs m) := Gen.main_segs adm (pdats m) () 𝒱₀ L lv (host m) (reg m) rfl c

/-! ## The launch -/

/-- The launch's ghost elements. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's element, held by the first device until it is dealt. -/
def purse (c : Dev nD) : sProp 𝕄 := if c = 0 then BI.own (ER (launchOf barCells scCells toks)) else iprop(emp)

theorem purse_all : bigSep Finset.univ (purse (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold purse; rw [if_neg (Finset.ne_of_mem_erase hc)]; rfl, BI.bigSep_emp_const]
  unfold purse
  rw [if_pos rfl]
  exact BI.equiv_iff.mp sep_emp

/-- What a device holds at the launch besides its part of the protocol. -/
def rest (c : Dev nD) : sProp 𝕄 :=
  iprop(StableHlo.held (c : Thread nD τ) bufs (V₀ m c) ∗ credits c ∗ owes (c : Thread nD τ) (O₀ c) ∅ ∗ ∃ r, prngReg c r)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

theorem start (K : GSem nD τ sig → ℕ) (c : Dev nD) : iprop(records m K ∗ (linear c ∗ rest m c)) ⊢ T₀ m c := by
  unfold rest T₀ R Tk
  iintro ⟨#HR, Hl, Hh, HC, HO, Hp⟩
  isplitl [Hh]; · iexact Hh
  isplitl [Hp]; · iexact Hp
  isplitr [HO]
  · isplitl [Hl]
    · iexists K
      isplitr; · iapply (know m K c); iexact HR
      iexact Hl
    iexact HC
  iexists ∅; iexact HO

/-- One device's launch holdings, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ purse c)
    ⊢ (iprop(rest m c ∗ (semVal (barCell c) 0 ∗ purse c)) : sProp 𝕄) := by
  rw [show unscopedBufs c (fun b => m ((c : Thread nD τ).loc b)) = StableHlo.held (c : Thread nD τ) bufs (V₀ m c) from unscopedBufs_held c (V₀ m c),
    unscopedSems_eq]
  unfold rest
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The protocol's pieces, dealt to the devices. -/
theorem dealt : iprop((bigSep barCells fun g => atPos ER g 0 ∅ 0) ∗ (bigSep scCells fun g => openTok ER g) ∗ bigSep toks fun x => dutyTok ER x.1 x.2.1 x.2.2)
    ⊢ (bigSep Finset.univ fun c : Dev nD => linear c : sProp 𝕄) := by
  rw [over_bar, over_sc, toks_around]
  have e : (bigSep Finset.univ fun c : Dev nD => (linear c : sProp 𝕄)) = iprop((bigSep Finset.univ fun c : Dev nD => atPos ER (barCell c) 0 ∅ 0)
      ∗ ((bigSep Finset.univ fun c : Dev nD => bigSep US fun s => openTok ER (sCell c s)) ∗ bigSep Finset.univ fun c : Dev nD => bigSep US fun s => openTok ER (rCell c s))
      ∗ ((bigSep Finset.univ fun c : Dev nD => bigSep US fun s => dutyTok ER (sCell c s) 0 true)
        ∗ bigSep Finset.univ fun c : Dev nD => bigSep US fun s => dutyTok ER (rCell (peer s.1 c) s) 0 true)
      ∗ (bigSep Finset.univ fun c : Dev nD => dutyTok ER (barCell (prv c)) 0 true) ∗ bigSep Finset.univ fun c : Dev nD => dutyTok ER (barCell (nxt c)) 0 false) := by
    unfold linear opens pays
    simp only [bigSep_sep']
  rw [e]
  iintro ⟨Ha, Ho, ⟨Hb, Hs, Hr⟩, Hn⟩
  isplitl [Ha]; · iexact Ha
  isplitl [Ho]; · iexact Ho
  isplitl [Hs Hr]
  · isplitl [Hs] <;> iassumption
  isplitl [Hb] <;> iassumption

/-- All the devices' launch holdings, sorted. -/
theorem sorted_all : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ purse c))
    ⊢ (iprop(bigSep Finset.univ (rest m) ∗ (bigSep barCells fun g => semVal g 0) ∗ BI.own (ER (launchOf barCells scCells toks))) : sProp 𝕄) := by
  rw [over_bar, ← purse_all]
  refine (bigSep_mono fun c _ => sorted m ρ c).trans ?_
  rw [bigSep_sep', bigSep_sep']
  exact Entails.refl _

/-- The launch's funding, of any cells and tokens. -/
theorem fund_any (S D : Finset (GSem nD τ sig)) (T : Finset (GSem nD τ sig × ℕ × Bool)) (h : Disjoint S D) :
    iprop((bigSep S fun g => semVal g 0) ∗ BI.own (ER (launchOf S D T)))
      ⊢ (|={Set.univ}=> ∃ K : GSem nD τ sig → ℕ, ((bigSep (S ∪ D) fun g => cellInv ER (sdl (Xof (xsOf m))) (K g) g) ∗ bigSep S fun g => reached ER g 0)
        ∗ (bigSep S fun g => atPos ER g 0 ∅ 0) ∗ (bigSep D fun g => openTok ER g) ∗ bigSep T fun x => dutyTok ER x.1 x.2.1 x.2.2 : sProp 𝕄) := by
  iintro H
  imod (Rounds.fund_launch ER (sdl (Xof (xsOf m))) h (fun g _ h => h) T) $$ H with ⟨%κ, -, #Hinv, #Hr, Hat, Hopen, Htok⟩
  imodintro
  iexists κ
  isplitr
  · isplitr; · iexact Hinv
    iexact Hr
  isplitl [Hat]; · iexact Hat
  isplitl [Hopen] <;> iassumption

/-- The cells funded and everything dealt. -/
theorem funded : iprop(bigSep Finset.univ (rest m) ∗ (bigSep barCells fun g => semVal g 0) ∗ BI.own (ER (launchOf barCells scCells toks)))
    ⊢ (|={Set.univ}=> ∃ K, records m K ∗ bigSep Finset.univ fun c : Dev nD => iprop(linear c ∗ rest m c) : sProp 𝕄) := by
  iintro ⟨HB, HF⟩
  imod (fund_any m barCells scCells toks cells_disj) $$ HF with ⟨%κ, #HR, Hd⟩
  ihave Hl := (dealt (F := F)) $$ Hd
  imodintro
  iexists κ
  isplitr
  · unfold records; iexact HR
  iapply (bigSep_both Finset.univ linear (rest m))
  isplitl [Hl] <;> iassumption

theorem started : iprop(∃ K, records m K ∗ bigSep Finset.univ fun c : Dev nD => iprop(linear c ∗ rest m c)) ⊢ bigSep Finset.univ (T₀ m) := by
  iintro ⟨%K, H⟩
  iapply (bigSep_with_persistent (R := records m K) (Φ := fun c => iprop(linear c ∗ rest m c)) fun c _ => start m K c)
  iexact H

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ purse c)) ∗ levAts L lv)
      ⊢ (|={Set.univ}=> bigSep Finset.univ (T₀ m) : sProp 𝕄) :=
  sep_elim_left.trans ((sorted_all m ρ).trans ((funded m).trans (fupd_mono (started m))))

/-- One array of those held. -/
theorem held_reads (c : Dev nD) (W : Valuation τ sig (Elt F)) (s' : Phys nD τ sig (Elt F)) (b : Ref sig .tc) (hb : Proc.devRef .tc b ∈ bufs) :
    iprop(StableHlo.held (c : Thread nD τ) bufs W ∗ SI s') ⊢ (⌜s'.mem.mem ((c : Thread nD τ).loc b) = W (Proc.devRef .tc b)⌝ : sProp 𝕄) := by
  have h : (StableHlo.held (c : Thread nD τ) bufs W : sProp 𝕄) ⊢ iprop(((c : Thread nD τ).loc b) ↦{fullShare} W (Proc.devRef .tc b)) := bigSep_elim hb
  iintro ⟨H, HSI⟩
  ihave Hx := h $$ H
  icombine HSI Hx gives %hx
  ipureintro
  exact Buf.eq_of_forall_mem_univ hx

/-- All the arrays of a device at once. -/
theorem held_reads_all (c : Dev nD) (W : Valuation τ sig (Elt F)) (s' : Phys nD τ sig (Elt F)) :
    iprop(StableHlo.held (c : Thread nD τ) bufs W ∗ SI s')
      ⊢ (⌜∀ b : Ref sig .tc, Proc.devRef .tc b ∈ bufs → s'.mem.mem ((c : Thread nD τ).loc b) = W (Proc.devRef .tc b)⌝ : sProp 𝕄) :=
  (forall_intro fun b => (forall_intro fun hb => held_reads c W s' b hb).trans pure_forall.2).trans pure_forall.2

/-- What a device ends with, read off the memory. -/
theorem ends (c : Dev nD) (s' : Phys nD τ sig (Elt F)) : iprop(Tₙ m c ∗ SI s')
    ⊢ (|={Set.univ}=> iprop(⌜(∀ b : Ref sig .tc, Proc.devRef .tc b ∈ bufs → s'.mem.mem ((c : Thread nD τ).loc b) = V₂ m c (Proc.devRef .tc b))
      ∧ s'.mem.sem (barCell c) = 0⌝ ∗ SI s') : sProp 𝕄) := by
  dsimp only [Tₙ]
  iintro ⟨⟨Hh, Hb⟩, HSI⟩
  ihave H := (persistent_entails_right (held_reads_all c (V₂ m c) s')) $$ [Hh HSI]
  · isplitl [Hh] <;> iassumption
  icases H with ⟨%h, -, HSI⟩
  icombine HSI Hb gives %hb
  imodintro
  isplitr
  · ipureintro
    exact ⟨h, by simpa using hb⟩
  iexact HSI

set_option backward.isDefEq.respectTransparency.types false in
/-- The run: from any memory with zero counters every run ends, with each device's arrays as said and every counter at zero. -/
theorem run_main : θ_run defs (onTc (τ := τ) (main (F := F))) ⟨m, fun _ => 0, ρ⟩
    (fun r => (∀ c : Dev nD, ∀ b : Ref sig .tc, Proc.devRef .tc b ∈ bufs → r.2.mem ((c : Thread nD τ).loc b) = V₂ m c (Proc.devRef .tc b)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := purse) (u₀ := u₀ (F := F))
    (hu₀ := by
      unfold u₀
      iintro Hu
      ihave H := (ownU_pair _ _) $$ Hu
      icases H with ⟨HP, HX⟩
      imodintro
      isplitl [HP]; · iexact HP
      iapply (Entails.of_eq (purse_all (F := F)).symm) $$ HX)
    (T₀ := T₀ m) (Tₙ := Tₙ m)
    (hch := ⟨fun c => .rfl, fun c => reg_pre m c, fun c => reg_post m c⟩)
    (hinit := init m ρ)
    (QY := fun c s => (∀ b : Ref sig .tc, Proc.devRef .tc b ∈ bufs → s.mem ((c : Thread nD τ).loc b) = V₂ m c (Proc.devRef .tc b)) ∧ s.sem (barCell c) = 0)
    (hfin := ends m)
    (hQ := fun s h hs => ⟨fun c => (h c).1, sem_eq_zero hs fun c sm hsm => by
        obtain rfl := unscoped_bar sm hsm
        exact (h c).2⟩)

theorem arg_mem : ∀ b ∈ [main_arg0, main_arg1, main_arg2, main_arg3],
    Proc.devRef (τ := τ) .tc b ∈ bufs ∧ Proc.devRef (τ := τ) .tc b ≠ Proc.devRef .tc main_v1 := by decide +kernel

/-- The same, at the arguments and the result. -/
theorem run_io : θ_run defs (onTc (τ := τ) (main (F := F))) ⟨m, fun _ => 0, ρ⟩
    (fun r => (∀ c : Dev nD, r.2.mem ((c : Thread nD τ).loc main_v1) = Yof m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) := by
  refine (θ_run defs _ _).mono (fun r h => ⟨fun c => ?_, h.2⟩) (run_main m ρ)
  have arg (b : Ref sig .tc) (hb : b ∈ [main_arg0, main_arg1, main_arg2, main_arg3]) :
      r.2.mem ((c : Thread nD τ).loc b) = V₁ m c (Proc.devRef .tc b) :=
    (h.1 c b (arg_mem b hb).1).trans (V₂_ne m c _ (arg_mem b hb).2)
  exact ⟨(h.1 c main_v1 (by decide +kernel)).trans (V₂_out m c), (arg main_arg0 (by decide)).trans (Gen.V_main_arg0 m c),
    (arg main_arg1 (by decide)).trans (Gen.V_main_arg1 m c), (arg main_arg2 (by decide)).trans (Gen.V_main_arg2 m c),
    (arg main_arg3 (by decide)).trans (Gen.V_main_arg3 m c)⟩

end Cert.KernelIdeal.Ag
end
end
-- ==== Proof.Frames.lean ====
module

public import proofs.«01_k».proof.Defs
public import proofs.«01_k».proof.Proof.Gen.Kernel
public import proofs.«01_k».proof.Proof.Launch

@[expose] public section

set_option maxRecDepth 65536

/-!
  The printed kernel's frame: its program is the idealized one's text, read at the machine's floats.
-/

noncomputable section

namespace Cert.Proof

open Idealize.ShloMosaic Idealize.SL.Sem

open Idealize.ShloMosaic.Tactic
open Cert.KernelIdeal

/-- The program runs from any memory; its arguments end unchanged and its counters at zero. -/
def Quiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)

theorem quiet (F : FTy → Type) [FloatOps F] : Quiet F := fun m ρ _ =>
  (θ_run defs _ _).mono (fun _ h => ⟨fun c => (h.1 c).2, h.2⟩) (Ag.run_io m ρ)

/-- The printed program is the idealized one, at the floats of the machine. -/
theorem same_text : Cert.quiescent_Kernel = Quiet Bits := by sl_kernel_rfl

/-- The printed kernel runs, its arguments end unchanged and its counters at zero. -/
theorem frame_kernel : Cert.quiescent_Kernel := same_text.mpr (quiet Bits)

/-- So does the idealized one. -/
theorem frame_ideal : Cert.quiescent_KernelIdeal := quiet Ideal

end Cert.Proof
end
end
-- ==== Proof.Result.lean ====
module

public import proofs.«01_k».proof.Proof.Gen.ReferenceIdeal.Value
public import Idealize.ShloMosaic.Lib.Pipeline.ValueKit

@[expose] public section

set_option maxRecDepth 65536

/-!
  The reference's result array as one function of its argument arrays.
-/

noncomputable section

namespace Cert.ReferenceIdeal.Whole

open Cert.ReferenceIdeal Cert.ReferenceIdeal.Gen Idealize.ShloMosaic Idealize.ShloMosaic.TcCoe Idealize.SL.Sem
open Idealize.ShloMosaic.Tactic

variable {F : FTy → Type} [FloatOps F]

/-- The one index of a one-word array. -/
def word : S1.Idx := fun a => match a with | ⟨0, _⟩ => (0 : Fin 1)

theorem word_eq (i : S1.Idx) : i = word := funext fun a => match a with
  | ⟨0, _⟩ => Subsingleton.elim (α := Fin 1) (i (0 : Fin 1)) 0

/-- The result of the argument arrays. -/
def G (x : Vec F S4096x4096 .fp8e4m3) (w : Vec F S4096x2048 .fp8e4m3) (sx sw : Vec F S1 .f32) : Vec F S4096x2048 .f32 :=
  k0_pay1 x w (sx word) (sw word)

variable (m : (ℓ : Loc nD τ sig) → Buf (Elt F) ℓ)

/-- A window that is the whole array keeps every index. -/
theorem at_whole {s : Shape} {y x : s.Idx} (h : ∀ a, (y a).val = 0 * s.size a + 1 * (x a).val) : y = x :=
  funext fun a => Fin.ext ((h a).trans (by omega))

/-- What the body loads of each input is the argument as launched. -/
theorem load_x (c : Dev nD) (t) : (ms0_0 t).view.read (Elt F) ((hs0_0 t).unread (iblk m c 0 t)) = m ((c : Thread nD τ).loc main_arg0) :=
  ((hs0_0 t).read_unread _).trans ((funext fun x => congrArg (V m c main_arg0) (at_whole (s := S4096x4096) (x := x) fun _ => rfl)).trans
    (V_main_arg0 m c))
theorem load_w (c : Dev nD) (t) : (ms0_1 t).view.read (Elt F) ((hs0_1 t).unread (iblk m c 1 t)) = m ((c : Thread nD τ).loc main_arg1) :=
  ((hs0_1 t).read_unread _).trans ((funext fun x => congrArg (V m c main_arg1) (at_whole (s := S4096x2048) (x := x) fun _ => rfl)).trans
    (V_main_arg1 m c))
theorem load_sx (c : Dev nD) (t) : (ms0_2 t).view.read (Elt F) ((hs0_2 t).unread (iblk m c 2 t)) = m ((c : Thread nD τ).loc main_arg2) :=
  ((hs0_2 t).read_unread _).trans ((funext fun x => congrArg (V m c main_arg2) (at_whole (s := S1) (x := x) fun _ => rfl)).trans
    (V_main_arg2 m c))
theorem load_sw (c : Dev nD) (t) : (ms0_3 t).view.read (Elt F) ((hs0_3 t).unread (iblk m c 3 t)) = m ((c : Thread nD τ).loc main_arg3) :=
  ((hs0_3 t).read_unread _).trans ((funext fun x => congrArg (V m c main_arg3) (at_whole (s := S1) (x := x) fun _ => rfl)).trans
    (V_main_arg3 m c))

/-- The result array after the run is `G` of the argument arrays as launched. -/
theorem final (c : Dev nD) : (dats m 0 c).arrAt 4 cfg0.N
    = G (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  have e0 := load_x m c t
  have e1 := load_w m c t
  have e2 := load_sx m c t
  have e3 := load_sw m c t
  unfold G
  rw [← e0, ← e1, ← e2, ← e3, ← word_eq (Shape.Idx.first (by decide))]
  exact congrArg _ (at_whole (s := S4096x2048) fun _ => rfl).symm

end Cert.ReferenceIdeal.Whole
end
end
-- ==== Proof.Value.lean ====
module

public import proofs.«01_k».proof.Defs
public import proofs.«01_k».proof.Proof.Launch
public import proofs.«01_k».proof.Proof.Result
public import Idealize.ShloMosaic.Lib.Pointwise
public import Idealize.ShloMosaic.Lib.Layout

@[expose] public section

set_option maxRecDepth 65536

/-!
  The value claim: over the extended reals, the kernel's result on a device is that device's block of columns of the
  reference's result.
-/

noncomputable section

namespace Cert.Proof

open Idealize.ShloMosaic Idealize.ShloMosaic.TcCoe Idealize.SL.Sem

/-- The divisor of the gate is at least one, so it is not zero. -/
theorem gate_ne (z : EReal) : (1 : EReal) + Ideal.exp z ≠ 0 := by
  have h : (0 : EReal) ≤ Ideal.exp z := by
    induction z using EReal.rec with
    | bot => simp
    | top => simp
    | coe r => simpa using (Real.exp_pos r).le
  exact (lt_of_lt_of_le zero_lt_one (le_add_of_nonneg_right h)).ne'

/-- A product with the reciprocal of the gate's divisor is the quotient by it. -/
theorem gate_eq (y z : EReal) : y * Ideal.div 1 (1 + Ideal.exp z) = Ideal.div y (1 + Ideal.exp z) := by
  rw [Ideal.div, Ideal.div, if_neg (gate_ne z), if_neg (gate_ne z), one_mul]

/-- The gated activation of one number. -/
def act (y : EReal) : EReal := Ideal.div y (1 + Ideal.exp (0 - y))

/-- An element of the reference's result: the activation of the scaled sum of products along its row and column. -/
theorem ref_apply (x : Vec Ideal Cert.ReferenceIdeal.S4096x4096 .fp8e4m3) (w : Vec Ideal Cert.ReferenceIdeal.S4096x2048 .fp8e4m3)
    (a b : Elt Ideal .f32) (i : Cert.ReferenceIdeal.S4096x2048.Idx) :
    Cert.ReferenceIdeal.Gen.k0_pay1 x w a b i
      = act ((∑ k : Fin 4096, (x (ix2 (i 0) k) : EReal) * (w (ix2 k (i 1)) : EReal)) * ((a : EReal) * (b : EReal))) := by
  unfold Cert.ReferenceIdeal.Gen.k0_pay1
  pointwise
  rfl

/-- An element of one block of the kernel's result, likewise. -/
theorem ker_apply (x : Vec Ideal Cert.KernelIdeal.S128x4096 .fp8e4m3) (w : Vec Ideal Cert.KernelIdeal.S4096x64 .fp8e4m3)
    (s : Ideal .f32) (i : Cert.KernelIdeal.S128x64.Idx) :
    Cert.KernelIdeal.Gen.k0_pay4 (F := Ideal) s x w i
      = act ((∑ k : Fin 4096, (x (ix2 (i 0) k) : EReal) * (w (ix2 k (i 1)) : EReal)) * (s : EReal)) := by
  unfold Cert.KernelIdeal.Gen.k0_pay4
  pointwise
  exact gate_eq _ _

section Kernel
open Cert.KernelIdeal

/-- The scaled sum of products of a row of one device's rows and a column of a device's weights. -/
def lin (x : Vec Ideal S128x4096 .fp8e4m3) (w : Vec Ideal S4096x64 .fp8e4m3) (sx sw : Vec Ideal S1 .f32) (r : Fin 128) (j : Fin 64) : EReal :=
  (∑ k : Fin 4096, (x (ix2 r k) : EReal) * (w (ix2 k j) : EReal)) * ((sx Ag.ix1 : EReal) * (sw Ag.ix1 : EReal))

/-- The kernel's result on a device, at an index: the activation of the scaled sum of products along a row of the
    array of all devices' rows and a column of the device's own weights. -/
theorem yof_apply (m : (ℓ : Loc nD τ sig) → Buf (Elt Ideal) ℓ) (c : Dev nD) (i : S4096x64.Idx) (o : Dev nD) (r : Fin 128)
    (ho : o.val = (i 0).val / 128) (hr : r.val = (i 0).val % 128) :
    Ag.Yof m c i = act (lin (m ((o : Thread nD τ).loc main_arg0)) (m ((c : Thread nD τ).loc main_arg1))
      (m ((c : Thread nD τ).loc main_arg2)) (m ((c : Thread nD τ).loc main_arg3)) r (i 1)) := by
  have hi : (i 0).val < 4096 := (i 0).isLt
  have lo : (i 0).val / 128 < 32 := by omega
  have lr : (i 0).val % 128 < 128 := by omega
  obtain rfl : o = ⟨(i 0).val / 128, lo⟩ := Fin.ext ho
  obtain rfl : r = ⟨(i 0).val % 128, lr⟩ := Fin.ext hr
  unfold Ag.Yof Ag.Y Ag.Ych
  rw [ker_apply]
  unfold lin Ag.Xof Ag.Wof Ag.scof Gen.k0_pay1 Gen.k0_pay2 Gen.k0_pay3 Ag.xsOf Ag.wsOf Ag.sxOf Ag.swOf
  rw [Gen.V_main_arg0, Gen.V_main_arg1, Gen.V_main_arg2, Gen.V_main_arg3]
  simp only [shapeCast_self]
  rfl
end Kernel

/-- The kernel's result on a device is its block of columns of the reference's result. -/
theorem block_eq (m : (ℓ : Loc Cert.KernelIdeal.nD Cert.KernelIdeal.τ Cert.KernelIdeal.sig) → Buf (Elt Ideal) ℓ)
    (x : Vec Ideal Cert.ReferenceIdeal.S4096x4096 .fp8e4m3) (w : Vec Ideal Cert.ReferenceIdeal.S4096x2048 .fp8e4m3)
    (sx sw : Vec Ideal Cert.ReferenceIdeal.S1 .f32)
    (h : ∀ c : Dev Cert.KernelIdeal.nD,
      m ((c : Thread Cert.KernelIdeal.nD Cert.KernelIdeal.τ).loc Cert.KernelIdeal.main_arg0) = Layout.block ⟨2, ![128, 4096]⟩ ⟨2, ![4096, 4096]⟩ 0 32 c x
      ∧ m ((c : Thread Cert.KernelIdeal.nD Cert.KernelIdeal.τ).loc Cert.KernelIdeal.main_arg1) = Layout.block ⟨2, ![4096, 64]⟩ ⟨2, ![4096, 2048]⟩ 1 32 c w
      ∧ m ((c : Thread Cert.KernelIdeal.nD Cert.KernelIdeal.τ).loc Cert.KernelIdeal.main_arg2) = sx
      ∧ m ((c : Thread Cert.KernelIdeal.nD Cert.KernelIdeal.τ).loc Cert.KernelIdeal.main_arg3) = sw)
    (c : Dev Cert.KernelIdeal.nD) :
    Cert.KernelIdeal.Ag.Yof m c = Layout.block ⟨2, ![4096, 64]⟩ ⟨2, ![4096, 2048]⟩ 1 32 c (Cert.ReferenceIdeal.Whole.G x w sx sw) := by
  funext i
  have hi : (i 0).val < 4096 := (i 0).isLt
  rw [yof_apply m c i ⟨(i 0).val / 128, by show _ < 32; omega⟩ ⟨(i 0).val % 128, Nat.mod_lt _ (by decide)⟩ rfl rfl,
    (h _).1, (h c).2.1, (h c).2.2.1, (h c).2.2.2, Layout.block_apply]
  unfold Cert.ReferenceIdeal.Whole.G lin
  rw [ref_apply]
  refine congrArg act (congrArg₂ (· * ·) (Finset.sum_congr rfl fun k _ => congrArg₂ (· * ·) ?_ ?_) ?_)
  · rw [Layout.block_apply]
    refine congrArg x (funext fun a => Fin.ext ?_)
    match a with
    | ⟨0, _⟩ => show (i 0).val / 128 * 128 + (i 0).val % 128 = (i 0).val; omega
    | ⟨1, _⟩ => rfl
  · rw [Layout.block_apply]
    refine congrArg w (funext fun a => Fin.ext ?_)
    match a with
    | ⟨0, _⟩ => rfl
    | ⟨1, _⟩ => rfl
  · exact congrArg₂ (· * ·) (congrArg sx (Cert.ReferenceIdeal.Whole.word_eq _)) (congrArg sw (Cert.ReferenceIdeal.Whole.word_eq _))

/-- The value claim. -/
theorem algebraic : Cert.algebraic_KernelIdeal_ReferenceIdeal := fun m g m' g' _ h =>
  ⟨Cert.ReferenceIdeal.Whole.G _ _ _ _,
    (θ_run Cert.KernelIdeal.defs _ _).mono (fun _ p c => ⟨((p.1 c).1).trans (block_eq m _ _ _ _ h c), (p.1 c).2⟩)
      (Cert.KernelIdeal.Ag.run_io m g),
    (θ_run Cert.ReferenceIdeal.defs _ _).mono (fun _ p => ⟨(p 0).1.trans (Cert.ReferenceIdeal.Whole.final m' 0), (p 0).2⟩)
      (Cert.ReferenceIdeal.Value.run_blocks m' g')⟩

end Cert.Proof
end
end
-- ==== Proof.lean ====
/-
  The claims of `proofs.«01_k».proof.Defs`: the frames (Proof/Frames.lean) and the value (Proof/Value.lean), both from the
  kernel's run (Proof/Launch.lean), which is stated once for any floating-point values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate states. -/
theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, algebraic⟩

end Cert.Proof

end
